-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)) (v5 : (c : Dev Cert.Kernel4Ideal.nD) → Buf (Elt Ideal) ((c.tc : Thread Cert.Kernel4Ideal.nD Cert.Kernel4Ideal.τ).loc Cert.Kernel4Ideal.main_v0_5)) (v6 : (c : Dev Cert.Kernel4Ideal.nD) → Buf (Elt Ideal) ((c.tc : Thread Cert.Kernel4Ideal.nD Cert.Kernel4Ideal.τ).loc Cert.Kernel4Ideal.main_v0_6)) (v7 : (c : Dev Cert.Kernel4Ideal.nD) → Buf (Elt Ideal) ((c.tc : Thread Cert.Kernel4Ideal.nD Cert.Kernel4Ideal.τ).loc Cert.Kernel4Ideal.main_v0_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_v0_5) = v5 c
          ∧ r.2.mem ((c.tc : Thread Cert.Kernel4Ideal.nD Cert.Kernel4Ideal.τ).loc Cert.Kernel4Ideal.main_v0_6) = v6 c
          ∧ r.2.mem ((c.tc : Thread Cert.Kernel4Ideal.nD Cert.Kernel4Ideal.τ).loc Cert.Kernel4Ideal.main_v0_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v82) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_v83) = v3 c
          ∧ r.2.mem ((c.tc : Thread Cert.Reference4Ideal.nD Cert.Reference4Ideal.τ).loc Cert.Reference4Ideal.main_v78) = v4 c
          ∧ r.2.mem ((c.tc : Thread Cert.Reference4Ideal.nD Cert.Reference4Ideal.τ).loc Cert.Reference4Ideal.main_v85) = v5 c
          ∧ r.2.mem ((c.tc : Thread Cert.Reference4Ideal.nD Cert.Reference4Ideal.τ).loc Cert.Reference4Ideal.main_v87) = v6 c
          ∧ r.2.mem ((c.tc : Thread Cert.Reference4Ideal.nD Cert.Reference4Ideal.τ).loc Cert.Reference4Ideal.main_v88) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v43) = v0 c
          ∧ r.2.mem ((c.tc : Thread Cert.Reference5Ideal.nD Cert.Reference5Ideal.τ).loc Cert.Reference5Ideal.main_v45) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)) (v3 : (c : Dev Cert.Kernel6Ideal.nD) → Buf (Elt Ideal) ((c.tc : Thread Cert.Kernel6Ideal.nD Cert.Kernel6Ideal.τ).loc Cert.Kernel6Ideal.main_v1_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_v1_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_arg1) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_v4) = v2 c
          ∧ r.2.mem ((c.tc : Thread Cert.Reference6Ideal.nD Cert.Reference6Ideal.τ).loc Cert.Reference6Ideal.main_v10) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)) (v2 : (c : Dev Cert.Kernel10Ideal.nD) → Buf (Elt Ideal) ((c.tc : Thread Cert.Kernel10Ideal.nD Cert.Kernel10Ideal.τ).loc Cert.Kernel10Ideal.main_v1_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_v1_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v18) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S4x8192x1280 : Shape := ⟨3, ![4, 8192, 1280]⟩
abbrev S8192x1024 : Shape := ⟨2, ![8192, 1024]⟩
abbrev S8192x2048 : Shape := ⟨2, ![8192, 2048]⟩
abbrev S1x1024 : Shape := ⟨2, ![1, 1024]⟩
abbrev S1x8x128x128 : Shape := ⟨4, ![1, 8, 128, 128]⟩
abbrev S1x8x128 : Shape := ⟨3, ![1, 8, 128]⟩
abbrev S1x4x1x1024 : Shape := ⟨4, ![1, 4, 1, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S4x1024 : Shape := ⟨2, ![4, 1024]⟩
abbrev S8192x5120 : Shape := ⟨2, ![8192, 5120]⟩
abbrev S8x1024 : Shape := ⟨2, ![8, 1024]⟩
abbrev S32x1024 : Shape := ⟨2, ![32, 1024]⟩
abbrev S4x256x1280 : Shape := ⟨3, ![4, 256, 1280]⟩
abbrev S4x16x1280 : Shape := ⟨3, ![4, 16, 1280]⟩
abbrev S256x1024 : Shape := ⟨2, ![256, 1024]⟩
abbrev S256x2048 : Shape := ⟨2, ![256, 2048]⟩
abbrev S256x5120 : Shape := ⟨2, ![256, 5120]⟩
abbrev S1x256x1024 : Shape := ⟨3, ![1, 256, 1024]⟩
abbrev S1x256x256 : Shape := ⟨3, ![1, 256, 256]⟩
abbrev S256x256 : Shape := ⟨2, ![256, 256]⟩
abbrev S1x256x768 : Shape := ⟨3, ![1, 256, 768]⟩
abbrev S256x768 : Shape := ⟨2, ![256, 768]⟩
abbrev S256 : Shape := ⟨1, ![256]⟩
abbrev S256x1 : Shape := ⟨2, ![256, 1]⟩
abbrev S1x256x512 : Shape := ⟨3, ![1, 256, 512]⟩
abbrev S256x512 : Shape := ⟨2, ![256, 512]⟩
abbrev S32x8x1024 : Shape := ⟨3, ![32, 8, 1024]⟩
abbrev S2x128x1024 : Shape := ⟨3, ![2, 128, 1024]⟩
abbrev S1x16x768 : Shape := ⟨3, ![1, 16, 768]⟩
abbrev S16x768 : Shape := ⟨2, ![16, 768]⟩
abbrev S1x16x256 : Shape := ⟨3, ![1, 16, 256]⟩
abbrev S16x256 : Shape := ⟨2, ![16, 256]⟩
abbrev S16x1024 : Shape := ⟨2, ![16, 1024]⟩
abbrev S248x1024 : Shape := ⟨2, ![248, 1024]⟩
abbrev S256x128 : Shape := ⟨2, ![256, 128]⟩
abbrev S1x128 : Shape := ⟨2, ![1, 128]⟩
abbrev S1024 : Shape := ⟨1, ![1024]⟩
abbrev S128 : Shape := ⟨1, ![128]⟩
abbrev S128x1 : Shape := ⟨2, ![128, 1]⟩

abbrev nBuf : Space → Nat
  | .hbm => 66
  | .vmem => 56
  | .smem => 0
  | _ => 0

abbrev bufTy : (tb : Table) → Fin (tcTables nBuf tb) → BufTy
  | .hbm, ⟨0, _⟩ => ⟨S4x8192x1280, .bf16⟩
  | .hbm, ⟨1, _⟩ => ⟨S8192x1024, .f32⟩
  | .hbm, ⟨2, _⟩ => ⟨S8192x2048, .f32⟩
  | .hbm, ⟨3, _⟩ => ⟨S1x1024, .f32⟩
  | .hbm, ⟨4, _⟩ => ⟨S1x1024, .f32⟩
  | .hbm, ⟨5, _⟩ => ⟨S1x8x128x128, .f32⟩
  | .hbm, ⟨6, _⟩ => ⟨S1x8x128, .f32⟩
  | .hbm, ⟨7, _⟩ => ⟨S1x4x1x1024, .f32⟩
  | .hbm, ⟨8, _⟩ => ⟨S1x1024, .f32⟩
  | .hbm, ⟨9, _⟩ => ⟨S1x8x128x128, .f32⟩
  | .hbm, ⟨10, _⟩ => ⟨S1x8x128, .f32⟩
  | .hbm, ⟨11, _⟩ => ⟨S1x8x128x128, .f32⟩
  | .hbm, ⟨12, _⟩ => ⟨S1x8x128, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S_, .i1⟩
  | .hbm, ⟨17, _⟩ => ⟨S128x128, .i1⟩
  | .hbm, ⟨18, _⟩ => ⟨S128x128, .i32⟩
  | .hbm, ⟨19, _⟩ => ⟨S_, .i32⟩
  | .hbm, ⟨20, _⟩ => ⟨S128x128, .i32⟩
  | .hbm, ⟨21, _⟩ => ⟨S128x128, .i32⟩
  | .hbm, ⟨22, _⟩ => ⟨S128x128, .i32⟩
  | .hbm, ⟨23, _⟩ => ⟨S128x128, .i1⟩
  | .hbm, ⟨24, _⟩ => ⟨S_, .i1⟩
  | .hbm, ⟨25, _⟩ => ⟨S128x128, .i1⟩
  | .hbm, ⟨26, _⟩ => ⟨S128x128, .i1⟩
  | .hbm, ⟨27, _⟩ => ⟨S1x128x128, .i1⟩
  | .hbm, ⟨28, _⟩ => ⟨S8x128x128, .f32⟩
  | .hbm, ⟨29, _⟩ => ⟨S_, .f32⟩
  | .hbm, ⟨30, _⟩ => ⟨S_, .f32⟩
  | .hbm, ⟨31, _⟩ => ⟨S8x128x128, .i1⟩
  | .hbm, ⟨32, _⟩ => ⟨S8x128x128, .f32⟩
  | .hbm, ⟨33, _⟩ => ⟨S8x128x128, .f32⟩
  | .hbm, ⟨34, _⟩ => ⟨S8x128x128, .bf16⟩
  | .hbm, ⟨35, _⟩ => ⟨S8x128x128, .f32⟩
  | .hbm, ⟨36, _⟩ => ⟨S8x128x128, .bf16⟩
  | .hbm, ⟨37, _⟩ => ⟨S8x128, .f32⟩
  | .hbm, ⟨38, _⟩ => ⟨S128x8, .f32⟩
  | .hbm, ⟨39, _⟩ => ⟨S128x8x128, .f32⟩
  | .hbm, ⟨40, _⟩ => ⟨S128x1024, .f32⟩
  | .hbm, ⟨41, _⟩ => ⟨S8x128x128, .f32⟩
  | .hbm, ⟨42, _⟩ => ⟨S8x128x128, .bf16⟩
  | .hbm, ⟨43, _⟩ => ⟨S8x128x128, .f32⟩
  | .hbm, ⟨44, _⟩ => ⟨S8x128x128, .bf16⟩
  | .hbm, ⟨45, _⟩ => ⟨S8x128, .f32⟩
  | .hbm, ⟨46, _⟩ => ⟨S1x1024, .f32⟩
  | .hbm, ⟨47, _⟩ => ⟨S8x128, .f32⟩
  | .hbm, ⟨48, _⟩ => ⟨S1x1024, .f32⟩
  | .hbm, ⟨49, _⟩ => ⟨S4x1024, .f32⟩
  | .hbm, ⟨50, _⟩ => ⟨S_, .f32⟩
  | .hbm, ⟨51, _⟩ => ⟨S8x128, .f32⟩
  | .hbm, ⟨52, _⟩ => ⟨S8192x5120, .bf16⟩
  | .hbm, ⟨53, _⟩ => ⟨S8x1024, .f32⟩
  | .hbm, ⟨54, _⟩ => ⟨S8x1024, .f32⟩
  | .hbm, ⟨55, _⟩ => ⟨S8x1024, .f32⟩
  | .hbm, ⟨56, _⟩ => ⟨S8x1024, .f32⟩
  | .hbm, ⟨57, _⟩ => ⟨S128x1024, .f32⟩
  | .hbm, ⟨58, _⟩ => ⟨S8x128x128, .f32⟩
  | .hbm, ⟨59, _⟩ => ⟨S32x1024, .f32⟩
  | .hbm, ⟨60, _⟩ => ⟨S8x1024, .f32⟩
  | .hbm, ⟨61, _⟩ => ⟨S8x128x128, .f32⟩
  | .hbm, ⟨62, _⟩ => ⟨S8x1024, .f32⟩
  | .hbm, ⟨63, _⟩ => ⟨S8x128x128, .f32⟩
  | .hbm, ⟨64, _⟩ => ⟨S8x1024, .f32⟩
  | .hbm, ⟨65, _⟩ => ⟨S8x1024, .f32⟩
  | .local _ .vmem, ⟨0, _⟩ => ⟨S4x256x1280, .bf16⟩
  | .local _ .vmem, ⟨1, _⟩ => ⟨S4x256x1280, .bf16⟩
  | .local _ .vmem, ⟨2, _⟩ => ⟨S4x16x1280, .bf16⟩
  | .local _ .vmem, ⟨3, _⟩ => ⟨S4x16x1280, .bf16⟩
  | .local _ .vmem, ⟨4, _⟩ => ⟨S256x1024, .f32⟩
  | .local _ .vmem, ⟨5, _⟩ => ⟨S256x1024, .f32⟩
  | .local _ .vmem, ⟨6, _⟩ => ⟨S8x1024, .f32⟩
  | .local _ .vmem, ⟨7, _⟩ => ⟨S8x1024, .f32⟩
  | .local _ .vmem, ⟨8, _⟩ => ⟨S256x2048, .f32⟩
  | .local _ .vmem, ⟨9, _⟩ => ⟨S256x2048, .f32⟩
  | .local _ .vmem, ⟨10, _⟩ => ⟨S1x1024, .f32⟩
  | .local _ .vmem, ⟨11, _⟩ => ⟨S1x1024, .f32⟩
  | .local _ .vmem, ⟨12, _⟩ => ⟨S8x128x128, .bf16⟩
  | .local _ .vmem, ⟨13, _⟩ => ⟨S8x128x128, .bf16⟩
  | .local _ .vmem, ⟨14, _⟩ => ⟨S128x1024, .f32⟩
  | .local _ .vmem, ⟨15, _⟩ => ⟨S4x1024, .f32⟩
  | .local _ .vmem, ⟨16, _⟩ => ⟨S1x1024, .f32⟩
  | .local _ .vmem, ⟨17, _⟩ => ⟨S8x128x128, .bf16⟩
  | .local _ .vmem, ⟨18, _⟩ => ⟨S8x128x128, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S8x128, .f32⟩
  | .local _ .vmem, ⟨25, _⟩ => ⟨S256x5120, .bf16⟩
  | .local _ .vmem, ⟨26, _⟩ => ⟨S256x5120, .bf16⟩
  | .local _ .vmem, ⟨27, _⟩ => ⟨S8x1024, .f32⟩
  | .local _ .vmem, ⟨28, _⟩ => ⟨S8x1024, .f32⟩
  | .local _ .vmem, ⟨29, _⟩ => ⟨S8x1024, .f32⟩
  | .local _ .vmem, ⟨30, _⟩ => ⟨S8x1024, .f32⟩
  | .local _ .vmem, ⟨31, _⟩ => ⟨S128x1024, .f32⟩
  | .local _ .vmem, ⟨32, _⟩ => ⟨S8x128x128, .f32⟩
  | .local _ .vmem, ⟨33, _⟩ => ⟨S32x1024, .f32⟩
  | .local _ .vmem, ⟨34, _⟩ => ⟨S8x1024, .f32⟩
  | .local _ .vmem, ⟨35, _⟩ => ⟨S8x128x128, .f32⟩
  | .local _ .vmem, ⟨36, _⟩ => ⟨S8x1024, .f32⟩
  | .local _ .vmem, ⟨37, _⟩ => ⟨S8x128x128, .f32⟩
  | .local _ .vmem, ⟨38, _⟩ => ⟨S8x1024, .f32⟩
  | .local _ .vmem, ⟨39, _⟩ => ⟨S8x1024, .f32⟩
  | .local _ .vmem, ⟨40, _⟩ => ⟨S256x1024, .bf16⟩
  | .local _ .vmem, ⟨41, _⟩ => ⟨S256x1024, .f32⟩
  | .local _ .vmem, ⟨42, _⟩ => ⟨S256x1024, .bf16⟩
  | .local _ .vmem, ⟨43, _⟩ => ⟨S256x1024, .f32⟩
  | .local _ .vmem, ⟨44, _⟩ => ⟨S256x1024, .bf16⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | .local _ .vmem, ⟨50, _⟩ => ⟨S256x1024, .bf16⟩
  | .local _ .vmem, ⟨51, _⟩ => ⟨S256x1024, .bf16⟩
  | .local _ .vmem, ⟨52, _⟩ => ⟨S256x1024, .f32⟩
  | .local _ .vmem, ⟨53, _⟩ => ⟨S8x1024, .f32⟩
  | .local _ .vmem, ⟨54, _⟩ => ⟨S8x1024, .f32⟩
  | .local _ .vmem, ⟨55, _⟩ => ⟨S8x1024, .f32⟩
  | _, _ => ⟨S4x8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_call0_v0 : Ref sig .tc := ⟨.hbm, 18, rfl⟩
abbrev main_call0_c : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_0 : Ref sig .tc := ⟨.hbm, 24, rfl⟩
abbrev main_call0_v5 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst_0 : Ref sig .tc := ⟨.hbm, 50, rfl⟩
abbrev main_v21 : Ref sig .tc := ⟨.hbm, 51, rfl⟩
abbrev main_v22_0 : Ref sig .tc := ⟨.hbm, 52, rfl⟩
abbrev main_v22_1 : Ref sig .tc := ⟨.hbm, 53, rfl⟩
abbrev main_v22_2 : Ref sig .tc := ⟨.hbm, 54, rfl⟩
abbrev main_v22_3 : Ref sig .tc := ⟨.hbm, 55, rfl⟩
abbrev main_v22_4 : Ref sig .tc := ⟨.hbm, 56, rfl⟩
abbrev main_v22_5 : Ref sig .tc := ⟨.hbm, 57, rfl⟩
abbrev main_v22_6 : Ref sig .tc := ⟨.hbm, 58, rfl⟩
abbrev main_v22_7 : Ref sig .tc := ⟨.hbm, 59, rfl⟩
abbrev main_v22_8 : Ref sig .tc := ⟨.hbm, 60, rfl⟩
abbrev main_v22_9 : Ref sig .tc := ⟨.hbm, 61, rfl⟩
abbrev main_v22_10 : Ref sig .tc := ⟨.hbm, 62, rfl⟩
abbrev main_v22_11 : Ref sig .tc := ⟨.hbm, 63, rfl⟩
abbrev main_v22_12 : Ref sig .tc := ⟨.hbm, 64, rfl⟩
abbrev main_v22_13 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg22_0 : Ref sig .tc := ⟨.vmem, 28, rfl⟩
abbrev cc0_stg23_0 : Ref sig .tc := ⟨.vmem, 29, rfl⟩
abbrev cc0_stg24_0 : Ref sig .tc := ⟨.vmem, 30, rfl⟩
abbrev cc0_stg25_0 : Ref sig .tc := ⟨.vmem, 31, rfl⟩
abbrev cc0_stg26_0 : Ref sig .tc := ⟨.vmem, 32, rfl⟩
abbrev cc0_stg27_0 : Ref sig .tc := ⟨.vmem, 33, rfl⟩
abbrev cc0_stg28_0 : Ref sig .tc := ⟨.vmem, 34, rfl⟩
abbrev cc0_stg29_0 : Ref sig .tc := ⟨.vmem, 35, rfl⟩
abbrev cc0_stg30_0 : Ref sig .tc := ⟨.vmem, 36, rfl⟩
abbrev cc0_stg31_0 : Ref sig .tc := ⟨.vmem, 37, rfl⟩
abbrev cc0_stg32_0 : Ref sig .tc := ⟨.vmem, 38, rfl⟩
abbrev cc0_stg33_0 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_scratch7 : Ref sig .tc := ⟨.vmem, 47, rfl⟩
abbrev cc0_scratch8 : Ref sig .tc := ⟨.vmem, 48, rfl⟩
abbrev cc0_scratch9 : Ref sig .tc := ⟨.vmem, 49, rfl⟩
abbrev cc0_scratch10 : Ref sig .tc := ⟨.vmem, 50, rfl⟩
abbrev cc0_scratch11 : Ref sig .tc := ⟨.vmem, 51, rfl⟩
abbrev cc0_scratch12 : Ref sig .tc := ⟨.vmem, 52, rfl⟩
abbrev cc0_scratch13 : Ref sig .tc := ⟨.vmem, 53, rfl⟩
abbrev cc0_scratch14 : Ref sig .tc := ⟨.vmem, 54, rfl⟩
abbrev cc0_scratch15 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem20_1 : DmaSem sig := 26
abbrev cc0_sem21_0 : DmaSem sig := 27
abbrev cc0_sem22_0 : DmaSem sig := 28
abbrev cc0_sem23_0 : DmaSem sig := 29
abbrev cc0_sem24_0 : DmaSem sig := 30
abbrev cc0_sem25_0 : DmaSem sig := 31
abbrev cc0_sem26_0 : DmaSem sig := 32
abbrev cc0_sem27_0 : DmaSem sig := 33
abbrev cc0_sem28_0 : DmaSem sig := 34
abbrev cc0_sem29_0 : DmaSem sig := 35
abbrev cc0_sem30_0 : DmaSem sig := 36
abbrev cc0_sem31_0 : DmaSem sig := 37
abbrev cc0_sem32_0 : DmaSem sig := 38
abbrev cc0_sem33_0 : DmaSem sig := 39

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_752 : BitVec 32 := 0#32
  let c32_i32 : BitVec 32 := 32#32
  let v1012 : BitVec 32 := Scalar.addi c0_i32_752 c32_i32
  let c1_i32_753 : BitVec 32 := 1#32
  ⟨c0_i32_752, v1012, c1_i32_753⟩
def k0_mult1 (k0_t1 : Fin k0_t1_loop.trips) : BitVec 32 :=
  let c31_i32_1073 : BitVec 32 := 31#32
  let c0_i32_752 : BitVec 32 := 0#32
  let c1_i32_753 : BitVec 32 := 1#32
  let arg51 : BitVec 32 := Scf.iv c0_i32_752 c1_i32_753 k0_t1
  let v1397 : BitVec 32 := Scalar.subi c31_i32_1073 arg51
  let c8_i32_1074 : BitVec 32 := 8#32
  let v1398 : BitVec 32 := Scalar.muli v1397 c8_i32_1074
  v1398
def k0_off1 (k0_t1 : Fin k0_t1_loop.trips) : Fin 2 → Nat :=
  let c31_i32_1073 : BitVec 32 := 31#32
  let c0_i32_752 : BitVec 32 := 0#32
  let c1_i32_753 : BitVec 32 := 1#32
  let arg51 : BitVec 32 := Scf.iv c0_i32_752 c1_i32_753 k0_t1
  let v1397 : BitVec 32 := Scalar.subi c31_i32_1073 arg51
  let c8_i32_1074 : BitVec 32 := 8#32
  let v1398 : BitVec 32 := Scalar.muli v1397 c8_i32_1074
  let v1399 : BitVec 32 := v1398
  let v1400 : Index := Scalar.indexCast v1399
  let c0_1075 : Index := 0#32
  ![v1400.toNat, 0]
def cc0_transform_0 (i : grid0.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![c0_i32_0.toNat, v3.toNat, c0_i32_1.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x5120 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S8x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S8x128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S32x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S8x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S8x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S8x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S8x128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S8x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S8x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]
-- ==== Kernel2.lean ====
abbrev S2048x8192 : Shape := ⟨2, ![2048, 8192]⟩
abbrev S8192x5120 : Shape := ⟨2, ![8192, 5120]⟩
abbrev S_ : Shape := ⟨0, ![]⟩
abbrev S8x128 : Shape := ⟨2, ![8, 128]⟩
abbrev S4x2x1024x1280 : Shape := ⟨4, ![4, 2, 1024, 1280]⟩
abbrev S1024x2048 : Shape := ⟨2, ![1024, 2048]⟩
abbrev S2048x1280 : Shape := ⟨2, ![2048, 1280]⟩
abbrev S1x1x1024x1280 : Shape := ⟨4, ![1, 1, 1024, 1280]⟩
abbrev S1024x1280 : Shape := ⟨2, ![1024, 1280]⟩

abbrev nBuf : Space → Nat
  | .hbm => 5
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S8192x5120, .bf16⟩
  | .hbm, ⟨2, _⟩ => ⟨S_, .f32⟩
  | .hbm, ⟨3, _⟩ => ⟨S8x128, .f32⟩
  | .hbm, ⟨4, _⟩ => ⟨S4x2x1024x1280, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .bf16⟩
  | .local _ .vmem, ⟨3, _⟩ => ⟨S2048x1280, .bf16⟩
  | .local _ .vmem, ⟨4, _⟩ => ⟨S8x128, .f32⟩
  | .local _ .vmem, ⟨5, _⟩ => ⟨S1x1x1024x1280, .f32⟩
  | .local _ .vmem, ⟨6, _⟩ => ⟨S1x1x1024x1280, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S2048x8192 : Shape := ⟨2, ![2048, 8192]⟩
abbrev S8192x5120 : Shape := ⟨2, ![8192, 5120]⟩
abbrev S8192x2048 : Shape := ⟨2, ![8192, 2048]⟩
abbrev S_ : Shape := ⟨0, ![]⟩
abbrev S2048x5120 : Shape := ⟨2, ![2048, 5120]⟩
abbrev S5120x2048 : Shape := ⟨2, ![5120, 2048]⟩
abbrev S2x1024x4x1280 : Shape := ⟨4, ![2, 1024, 4, 1280]⟩
abbrev S4x2x1024x1280 : Shape := ⟨4, ![4, 2, 1024, 1280]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x5120, .bf16⟩
  | .hbm, ⟨2, _⟩ => ⟨S8192x2048, .bf16⟩
  | .hbm, ⟨3, _⟩ => ⟨S8192x2048, .f32⟩
  | .hbm, ⟨4, _⟩ => ⟨S_, .f32⟩
  | .hbm, ⟨5, _⟩ => ⟨S2048x5120, .f32⟩
  | .hbm, ⟨6, _⟩ => ⟨S8192x5120, .f32⟩
  | .hbm, ⟨7, _⟩ => ⟨S8192x5120, .f32⟩
  | .hbm, ⟨8, _⟩ => ⟨S5120x2048, .f32⟩
  | .hbm, ⟨9, _⟩ => ⟨S2048x5120, .f32⟩
  | .hbm, ⟨10, _⟩ => ⟨S2x1024x4x1280, .f32⟩
  | .hbm, ⟨11, _⟩ => ⟨S4x2x1024x1280, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x2048 : Shape := ⟨2, ![8192, 2048]⟩
abbrev S_ : Shape := ⟨0, ![]⟩
abbrev S8x128 : Shape := ⟨2, ![8, 128]⟩
abbrev S1x2x1024x2048 : Shape := ⟨4, ![1, 2, 1024, 2048]⟩
abbrev S2048x1024 : Shape := ⟨2, ![2048, 1024]⟩
abbrev S2048x2048 : Shape := ⟨2, ![2048, 2048]⟩
abbrev S1x1x1024x2048 : Shape := ⟨4, ![1, 1, 1024, 2048]⟩
abbrev S1024x2048 : Shape := ⟨2, ![1024, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S8x128, .f32⟩
  | .hbm, ⟨4, _⟩ => ⟨S1x2x1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S8x128, .f32⟩
  | .local _ .vmem, ⟨5, _⟩ => ⟨S1x1x1024x2048, .f32⟩
  | .local _ .vmem, ⟨6, _⟩ => ⟨S1x1x1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1x1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S8192x2048 : Shape := ⟨2, ![8192, 2048]⟩
abbrev S_ : Shape := ⟨0, ![]⟩
abbrev S2048x2048 : Shape := ⟨2, ![2048, 2048]⟩
abbrev S1x2x1024x2048 : Shape := ⟨4, ![1, 2, 1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S1x2x1024x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x2048 : Shape := ⟨2, ![8192, 2048]⟩
abbrev S8192x256 : Shape := ⟨2, ![8192, 256]⟩
abbrev S1x2048 : Shape := ⟨2, ![1, 2048]⟩
abbrev S2048x2048 : Shape := ⟨2, ![2048, 2048]⟩
abbrev S4x256x512 : Shape := ⟨3, ![4, 256, 512]⟩
abbrev S8x2048 : Shape := ⟨2, ![8, 2048]⟩
abbrev S8x128 : Shape := ⟨2, ![8, 128]⟩
abbrev S256x2048 : Shape := ⟨2, ![256, 2048]⟩
abbrev S256x256 : Shape := ⟨2, ![256, 256]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1 : Shape := ⟨1, ![1]⟩
abbrev S1x1x1 : Shape := ⟨3, ![1, 1, 1]⟩
abbrev S32x8x2048 : Shape := ⟨3, ![32, 8, 2048]⟩
abbrev S2048 : Shape := ⟨1, ![2048]⟩

abbrev nBuf : Space → Nat
  | .hbm => 16
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x256, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S2048x2048, .bf16⟩
  | .hbm, ⟨7, _⟩ => ⟨S4x256x512, .bf16⟩
  | .hbm, ⟨8, _⟩ => ⟨S8192x2048, .bf16⟩
  | .hbm, ⟨9, _⟩ => ⟨S8192x2048, .bf16⟩
  | .hbm, ⟨10, _⟩ => ⟨S8192x2048, .f32⟩
  | .hbm, ⟨11, _⟩ => ⟨S8192x2048, .bf16⟩
  | .hbm, ⟨12, _⟩ => ⟨S8192x2048, .f32⟩
  | .hbm, ⟨13, _⟩ => ⟨S4x256x512, .f32⟩
  | .hbm, ⟨14, _⟩ => ⟨S8x2048, .f32⟩
  | .hbm, ⟨15, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | .local _ .vmem, ⟨9, _⟩ => ⟨S2048x2048, .bf16⟩
  | .local _ .vmem, ⟨10, _⟩ => ⟨S2048x2048, .bf16⟩
  | .local _ .vmem, ⟨11, _⟩ => ⟨S4x256x512, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S256x2048, .f32⟩
  | .local _ .vmem, ⟨21, _⟩ => ⟨S256x2048, .f32⟩
  | .local _ .vmem, ⟨22, _⟩ => ⟨S4x256x512, .f32⟩
  | .local _ .vmem, ⟨23, _⟩ => ⟨S8x2048, .f32⟩
  | .local _ .vmem, ⟨24, _⟩ => ⟨S8x128, .f32⟩
  | .local _ .vmem, ⟨25, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S4x256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Reference4Ideal.lean ====
abbrev S8192x2048 : Shape := ⟨2, ![8192, 2048]⟩
abbrev S8192x256 : Shape := ⟨2, ![8192, 256]⟩
abbrev S1x2048 : Shape := ⟨2, ![1, 2048]⟩
abbrev S2048x2048 : Shape := ⟨2, ![2048, 2048]⟩
abbrev S4x256x512 : Shape := ⟨3, ![4, 256, 512]⟩
abbrev S256x4x512 : Shape := ⟨3, ![256, 4, 512]⟩
abbrev S256x2048 : Shape := ⟨2, ![256, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x256 : Shape := ⟨2, ![2048, 256]⟩
abbrev S8x2048 : Shape := ⟨2, ![8, 2048]⟩
abbrev S8x128 : Shape := ⟨2, ![8, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S8192x256, .f32⟩
  | .hbm, ⟨3, _⟩ => ⟨S8192x2048, .f32⟩
  | .hbm, ⟨4, _⟩ => ⟨S1x2048, .f32⟩
  | .hbm, ⟨5, _⟩ => ⟨S2048x2048, .bf16⟩
  | .hbm, ⟨6, _⟩ => ⟨S2048x2048, .bf16⟩
  | .hbm, ⟨7, _⟩ => ⟨S4x256x512, .bf16⟩
  | .hbm, ⟨8, _⟩ => ⟨S2048x2048, .f32⟩
  | .hbm, ⟨9, _⟩ => ⟨S2048x2048, .f32⟩
  | .hbm, ⟨10, _⟩ => ⟨S256x4x512, .bf16⟩
  | .hbm, ⟨11, _⟩ => ⟨S256x2048, .bf16⟩
  | .hbm, ⟨12, _⟩ => ⟨S256x2048, .f32⟩
  | .hbm, ⟨13, _⟩ => ⟨S8192x2048, .f32⟩
  | .hbm, ⟨14, _⟩ => ⟨S8192x2048, .f32⟩
  | .hbm, ⟨15, _⟩ => ⟨S2048, .f32⟩
  | .hbm, ⟨16, _⟩ => ⟨S8192x2048, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S_, .f32⟩
  | .hbm, ⟨61, _⟩ => ⟨S8192, .f32⟩
  | .hbm, ⟨62, _⟩ => ⟨S8192, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S8192x2048, .f32⟩
  | .hbm, ⟨82, _⟩ => ⟨S_, .f32⟩
  | .hbm, ⟨83, _⟩ => ⟨S2048, .f32⟩
  | .hbm, ⟨84, _⟩ => ⟨S1x2048, .f32⟩
  | .hbm, ⟨85, _⟩ => ⟨S8192x2048, .f32⟩
  | .hbm, ⟨86, _⟩ => ⟨S8192x2048, .f32⟩
  | .hbm, ⟨87, _⟩ => ⟨S_, .f32⟩
  | .hbm, ⟨88, _⟩ => ⟨S2048, .f32⟩
  | .hbm, ⟨89, _⟩ => ⟨S8192x2048, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x2048, .f32⟩
  | .hbm, ⟨94, _⟩ => ⟨S8192x2048, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x2048, .f32⟩
  | .hbm, ⟨102, _⟩ => ⟨S8192x2048, .f32⟩
  | .hbm, ⟨103, _⟩ => ⟨S8192x2048, .f32⟩
  | .hbm, ⟨104, _⟩ => ⟨S8192x2048, .f32⟩
  | .hbm, ⟨105, _⟩ => ⟨S8192x2048, .f32⟩
  | .hbm, ⟨106, _⟩ => ⟨S8192x2048, .f32⟩
  | .hbm, ⟨107, _⟩ => ⟨S2048x256, .f32⟩
  | .hbm, ⟨108, _⟩ => ⟨S256x2048, .f32⟩
  | .hbm, ⟨109, _⟩ => ⟨S8192x2048, .bf16⟩
  | .hbm, ⟨110, _⟩ => ⟨S8192x2048, .bf16⟩
  | .hbm, ⟨111, _⟩ => ⟨S8192x2048, .bf16⟩
  | .hbm, ⟨112, _⟩ => ⟨S256x4x512, .f32⟩
  | .hbm, ⟨113, _⟩ => ⟨S4x256x512, .f32⟩
  | .hbm, ⟨114, _⟩ => ⟨S1x2048, .f32⟩
  | .hbm, ⟨115, _⟩ => ⟨S8x2048, .f32⟩
  | .hbm, ⟨116, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_cst_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_cst_11 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_17 : Ref sig .tc := ⟨.hbm, 96, rfl⟩
abbrev main_v70 : Ref sig .tc := ⟨.hbm, 97, rfl⟩
abbrev main_v71 : Ref sig .tc := ⟨.hbm, 98, rfl⟩
abbrev main_cst_18 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩

abbrev nD : Nat := 1
abbrev τ : Topo := Topo.v7x

variable {F : FTy → Type} [FloatOps F]
-- ==== Kernel5.lean ====
abbrev S8192x5120 : Shape := ⟨2, ![8192, 5120]⟩
abbrev S4x2048x1280 : Shape := ⟨3, ![4, 2048, 1280]⟩
abbrev S8192x2048 : Shape := ⟨2, ![8192, 2048]⟩
abbrev S1x2048 : Shape := ⟨2, ![1, 2048]⟩
abbrev S_ : Shape := ⟨0, ![]⟩
abbrev S8x128 : Shape := ⟨2, ![8, 128]⟩
abbrev S8x2048 : Shape := ⟨2, ![8, 2048]⟩
abbrev S256x5120 : Shape := ⟨2, ![256, 5120]⟩
abbrev S256x2048 : Shape := ⟨2, ![256, 2048]⟩
abbrev S256x1280 : Shape := ⟨2, ![256, 1280]⟩
abbrev S1x2048x1280 : Shape := ⟨3, ![1, 2048, 1280]⟩
abbrev S2048x1280 : Shape := ⟨2, ![2048, 1280]⟩
abbrev S128x2048 : Shape := ⟨2, ![128, 2048]⟩
abbrev S128 : Shape := ⟨1, ![128]⟩
abbrev S128x1 : Shape := ⟨2, ![128, 1]⟩
abbrev S16x8x2048 : Shape := ⟨3, ![16, 8, 2048]⟩
abbrev S2048 : Shape := ⟨1, ![2048]⟩

abbrev nBuf : Space → Nat
  | .hbm => 11
  | .vmem => 27
  | .smem => 0
  | _ => 0

abbrev bufTy : (tb : Table) → Fin (tcTables nBuf tb) → BufTy
  | .hbm, ⟨0, _⟩ => ⟨S8192x5120, .bf16⟩
  | .hbm, ⟨1, _⟩ => ⟨S4x2048x1280, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S_, .f32⟩
  | .hbm, ⟨6, _⟩ => ⟨S8x128, .f32⟩
  | .hbm, ⟨7, _⟩ => ⟨S8192x2048, .f32⟩
  | .hbm, ⟨8, _⟩ => ⟨S8x2048, .f32⟩
  | .hbm, ⟨9, _⟩ => ⟨S8192x2048, .f32⟩
  | .hbm, ⟨10, _⟩ => ⟨S8x2048, .f32⟩
  | .local _ .vmem, ⟨0, _⟩ => ⟨S256x5120, .bf16⟩
  | .local _ .vmem, ⟨1, _⟩ => ⟨S256x5120, .bf16⟩
  | .local _ .vmem, ⟨2, _⟩ => ⟨S4x2048x1280, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S8x2048, .f32⟩
  | .local _ .vmem, ⟨12, _⟩ => ⟨S256x2048, .f32⟩
  | .local _ .vmem, ⟨13, _⟩ => ⟨S256x5120, .bf16⟩
  | .local _ .vmem, ⟨14, _⟩ => ⟨S256x5120, .bf16⟩
  | .local _ .vmem, ⟨15, _⟩ => ⟨S4x2048x1280, .bf16⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S1x2048, .f32⟩
  | .local _ .vmem, ⟨21, _⟩ => ⟨S8x128, .f32⟩
  | .local _ .vmem, ⟨22, _⟩ => ⟨S8x2048, .f32⟩
  | .local _ .vmem, ⟨23, _⟩ => ⟨S256x2048, .f32⟩
  | .local _ .vmem, ⟨24, _⟩ => ⟨S256x2048, .f32⟩
  | .local _ .vmem, ⟨25, _⟩ => ⟨S8x2048, .f32⟩
  | .local _ .vmem, ⟨26, _⟩ => ⟨S256x2048, .f32⟩
  | _, _ => ⟨S8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![22], ![false]⟩

def cc1_transform_0 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c10_i32 : BitVec 32 := 10#32
  let v0 : BitVec 32 := Scalar.addi c10_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x2048x1280 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S8x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== Reference5Ideal.lean ====
abbrev S8192x5120 : Shape := ⟨2, ![8192, 5120]⟩
abbrev S4x2048x1280 : Shape := ⟨3, ![4, 2048, 1280]⟩
abbrev S8192x2048 : Shape := ⟨2, ![8192, 2048]⟩
abbrev S1x2048 : Shape := ⟨2, ![1, 2048]⟩
abbrev S2048x4x1280 : Shape := ⟨3, ![2048, 4, 1280]⟩
abbrev S2048x5120 : Shape := ⟨2, ![2048, 5120]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x2048 : Shape := ⟨2, ![8, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x5120, .bf16⟩
  | .hbm, ⟨1, _⟩ => ⟨S4x2048x1280, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048x4x1280, .bf16⟩
  | .hbm, ⟨6, _⟩ => ⟨S2048x5120, .bf16⟩
  | .hbm, ⟨7, _⟩ => ⟨S2048x5120, .f32⟩
  | .hbm, ⟨8, _⟩ => ⟨S2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x5120, .f32⟩
  | .hbm, ⟨30, _⟩ => ⟨S8192x5120, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S1x2048, .f32⟩
  | .hbm, ⟨59, _⟩ => ⟨S8x2048, .f32⟩
  | _, _ => ⟨S8192x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel6.lean ====
abbrev S2048x1280 : Shape := ⟨2, ![2048, 1280]⟩
abbrev S_ : Shape := ⟨0, ![]⟩
abbrev S8x128 : Shape := ⟨2, ![8, 128]⟩
abbrev S512x1280 : Shape := ⟨2, ![512, 1280]⟩

abbrev nBuf : Space → Nat
  | .hbm => 10
  | .vmem => 17
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S_, .f32⟩
  | .hbm, ⟨5, _⟩ => ⟨S8x128, .f32⟩
  | .hbm, ⟨6, _⟩ => ⟨S2048x1280, .f32⟩
  | .hbm, ⟨7, _⟩ => ⟨S2048x1280, .f32⟩
  | .hbm, ⟨8, _⟩ => ⟨S2048x1280, .f32⟩
  | .hbm, ⟨9, _⟩ => ⟨S2048x1280, .f32⟩
  | .local _ .vmem, ⟨0, _⟩ => ⟨S512x1280, .f32⟩
  | .local _ .vmem, ⟨1, _⟩ => ⟨S512x1280, .f32⟩
  | .local _ .vmem, ⟨2, _⟩ => ⟨S512x1280, .f32⟩
  | .local _ .vmem, ⟨3, _⟩ => ⟨S512x1280, .f32⟩
  | .local _ .vmem, ⟨4, _⟩ => ⟨S512x1280, .f32⟩
  | .local _ .vmem, ⟨5, _⟩ => ⟨S512x1280, .f32⟩
  | .local _ .vmem, ⟨6, _⟩ => ⟨S512x1280, .f32⟩
  | .local _ .vmem, ⟨7, _⟩ => ⟨S512x1280, .f32⟩
  | .local _ .vmem, ⟨8, _⟩ => ⟨S8x128, .f32⟩
  | .local _ .vmem, ⟨9, _⟩ => ⟨S512x1280, .f32⟩
  | .local _ .vmem, ⟨10, _⟩ => ⟨S512x1280, .f32⟩
  | .local _ .vmem, ⟨11, _⟩ => ⟨S512x1280, .f32⟩
  | .local _ .vmem, ⟨12, _⟩ => ⟨S512x1280, .f32⟩
  | .local _ .vmem, ⟨13, _⟩ => ⟨S512x1280, .f32⟩
  | .local _ .vmem, ⟨14, _⟩ => ⟨S512x1280, .f32⟩
  | .local _ .vmem, ⟨15, _⟩ => ⟨S512x1280, .f32⟩
  | .local _ .vmem, ⟨16, _⟩ => ⟨S512x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1280 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S2048x1280 : Shape := ⟨2, ![2048, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S_, .f32⟩
  | .hbm, ⟨5, _⟩ => ⟨S2048x1280, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S_, .f32⟩
  | .hbm, ⟨12, _⟩ => ⟨S2048x1280, .f32⟩
  | .hbm, ⟨13, _⟩ => ⟨S2048x1280, .f32⟩
  | .hbm, ⟨14, _⟩ => ⟨S2048x1280, .f32⟩
  | .hbm, ⟨15, _⟩ => ⟨S_, .f32⟩
  | .hbm, ⟨16, _⟩ => ⟨S2048x1280, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S_, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S_, .f32⟩
  | .hbm, ⟨31, _⟩ => ⟨S2048x1280, .f32⟩
  | .hbm, ⟨32, _⟩ => ⟨S2048x1280, .f32⟩
  | .hbm, ⟨33, _⟩ => ⟨S2048x1280, .f32⟩
  | .hbm, ⟨34, _⟩ => ⟨S_, .f32⟩
  | .hbm, ⟨35, _⟩ => ⟨S2048x1280, .f32⟩
  | .hbm, ⟨36, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel7.lean ====
abbrev S512x2048 : Shape := ⟨2, ![512, 2048]⟩
abbrev S_ : Shape := ⟨0, ![]⟩
abbrev S8x128 : Shape := ⟨2, ![8, 128]⟩
abbrev S256x2048 : Shape := ⟨2, ![256, 2048]⟩

abbrev nBuf : Space → Nat
  | .hbm => 10
  | .vmem => 17
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S8x128, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S256x512 : Shape := ⟨2, ![256, 512]⟩
abbrev S_ : Shape := ⟨0, ![]⟩
abbrev S8x128 : Shape := ⟨2, ![8, 128]⟩

abbrev nBuf : Space → Nat
  | .hbm => 10
  | .vmem => 9
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S8x128, .f32⟩
  | .hbm, ⟨6, _⟩ => ⟨S256x512, .f32⟩
  | .hbm, ⟨7, _⟩ => ⟨S256x512, .f32⟩
  | .hbm, ⟨8, _⟩ => ⟨S256x512, .f32⟩
  | .hbm, ⟨9, _⟩ => ⟨S256x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S8x128, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S256x512 : Shape := ⟨2, ![256, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S_, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S256x512, .f32⟩
  | .hbm, ⟨13, _⟩ => ⟨S256x512, .f32⟩
  | .hbm, ⟨14, _⟩ => ⟨S256x512, .f32⟩
  | .hbm, ⟨15, _⟩ => ⟨S_, .f32⟩
  | .hbm, ⟨16, _⟩ => ⟨S256x512, .f32⟩
  | .hbm, ⟨17, _⟩ => ⟨S256x512, .f32⟩
  | .hbm, ⟨18, _⟩ => ⟨S256x512, .f32⟩
  | .hbm, ⟨19, _⟩ => ⟨S_, .f32⟩
  | .hbm, ⟨20, _⟩ => ⟨S256x512, .f32⟩
  | .hbm, ⟨21, _⟩ => ⟨S256x512, .f32⟩
  | .hbm, ⟨22, _⟩ => ⟨S_, .f32⟩
  | .hbm, ⟨23, _⟩ => ⟨S256x512, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S_, .f32⟩
  | .hbm, ⟨35, _⟩ => ⟨S256x512, .f32⟩
  | .hbm, ⟨36, _⟩ => ⟨S256x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S4x256 : Shape := ⟨2, ![4, 256]⟩
abbrev S_ : Shape := ⟨0, ![]⟩
abbrev S8x128 : Shape := ⟨2, ![8, 128]⟩

abbrev nBuf : Space → Nat
  | .hbm => 10
  | .vmem => 9
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S8x128, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S8x128, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S8192x2048 : Shape := ⟨2, ![8192, 2048]⟩
abbrev S1x2048 : Shape := ⟨2, ![1, 2048]⟩
abbrev S2048x1280 : Shape := ⟨2, ![2048, 1280]⟩
abbrev S_ : Shape := ⟨0, ![]⟩
abbrev S8x128 : Shape := ⟨2, ![8, 128]⟩
abbrev S8192x1280 : Shape := ⟨2, ![8192, 1280]⟩
abbrev S2048x8192 : Shape := ⟨2, ![2048, 8192]⟩
abbrev S256x2048 : Shape := ⟨2, ![256, 2048]⟩
abbrev S256x1280 : Shape := ⟨2, ![256, 1280]⟩
abbrev S2048x256 : Shape := ⟨2, ![2048, 256]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x1280, .f32⟩
  | .hbm, ⟨3, _⟩ => ⟨S_, .f32⟩
  | .hbm, ⟨4, _⟩ => ⟨S8x128, .f32⟩
  | .hbm, ⟨5, _⟩ => ⟨S8192x2048, .bf16⟩
  | .hbm, ⟨6, _⟩ => ⟨S8192x1280, .bf16⟩
  | .hbm, ⟨7, _⟩ => ⟨S2048x8192, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x1280, .f32⟩
  | .local _ .vmem, ⟨4, _⟩ => ⟨S8x128, .f32⟩
  | .local _ .vmem, ⟨5, _⟩ => ⟨S256x2048, .bf16⟩
  | .local _ .vmem, ⟨6, _⟩ => ⟨S256x2048, .bf16⟩
  | .local _ .vmem, ⟨7, _⟩ => ⟨S256x1280, .bf16⟩
  | .local _ .vmem, ⟨8, _⟩ => ⟨S256x1280, .bf16⟩
  | .local _ .vmem, ⟨9, _⟩ => ⟨S2048x256, .bf16⟩
  | .local _ .vmem, ⟨10, _⟩ => ⟨S2048x256, .bf16⟩
  | .local _ .vmem, ⟨11, _⟩ => ⟨S2048x1280, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S8192x2048 : Shape := ⟨2, ![8192, 2048]⟩
abbrev S1x2048 : Shape := ⟨2, ![1, 2048]⟩
abbrev S2048x1280 : Shape := ⟨2, ![2048, 1280]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x1280 : Shape := ⟨2, ![8192, 1280]⟩
abbrev S2048x8192 : Shape := ⟨2, ![2048, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x1280, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S8192x1280, .f32⟩
  | .hbm, ⟨22, _⟩ => ⟨S8192x1280, .bf16⟩
  | .hbm, ⟨23, _⟩ => ⟨S2048x8192, .f32⟩
  | .hbm, ⟨24, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel11.lean ====
abbrev S8x1024 : Shape := ⟨2, ![8, 1024]⟩
abbrev S8x128x128 : Shape := ⟨3, ![8, 128, 128]⟩
abbrev S128x1024 : Shape := ⟨2, ![128, 1024]⟩
abbrev S32x1024 : Shape := ⟨2, ![32, 1024]⟩
abbrev S8x2048 : Shape := ⟨2, ![8, 2048]⟩
abbrev S3200x128 : Shape := ⟨2, ![3200, 128]⟩
abbrev S8x128 : Shape := ⟨2, ![8, 128]⟩
abbrev S1x128 : Shape := ⟨2, ![1, 128]⟩
abbrev S1024x128 : Shape := ⟨2, ![1024, 128]⟩
abbrev S128x128 : Shape := ⟨2, ![128, 128]⟩

abbrev nBuf : Space → Nat
  | .hbm => 15
  | .vmem => 15
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x128x128, .f32⟩
  | .hbm, ⟨3, _⟩ => ⟨S128x1024, .f32⟩
  | .hbm, ⟨4, _⟩ => ⟨S32x1024, .f32⟩
  | .hbm, ⟨5, _⟩ => ⟨S8x1024, .f32⟩
  | .hbm, ⟨6, _⟩ => ⟨S8x128x128, .f32⟩
  | .hbm, ⟨7, _⟩ => ⟨S8x1024, .f32⟩
  | .hbm, ⟨8, _⟩ => ⟨S8x128x128, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x2048, .f32⟩
  | .hbm, ⟨14, _⟩ => ⟨S3200x128, .f32⟩
  | .local _ .vmem, ⟨0, _⟩ => ⟨S8x1024, .f32⟩
  | .local _ .vmem, ⟨1, _⟩ => ⟨S8x1024, .f32⟩
  | .local _ .vmem, ⟨2, _⟩ => ⟨S8x128x128, .f32⟩
  | .local _ .vmem, ⟨3, _⟩ => ⟨S128x1024, .f32⟩
  | .local _ .vmem, ⟨4, _⟩ => ⟨S32x1024, .f32⟩
  | .local _ .vmem, ⟨5, _⟩ => ⟨S8x1024, .f32⟩
  | .local _ .vmem, ⟨6, _⟩ => ⟨S8x128x128, .f32⟩
  | .local _ .vmem, ⟨7, _⟩ => ⟨S8x1024, .f32⟩
  | .local _ .vmem, ⟨8, _⟩ => ⟨S8x128x128, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S8x1024, .f32⟩
  | .local _ .vmem, ⟨13, _⟩ => ⟨S8x2048, .f32⟩
  | .local _ .vmem, ⟨14, _⟩ => ⟨S3200x128, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3200x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Reference11Ideal.lean ====
abbrev S8x1024 : Shape := ⟨2, ![8, 1024]⟩
abbrev S8x128x128 : Shape := ⟨3, ![8, 128, 128]⟩
abbrev S128x1024 : Shape := ⟨2, ![128, 1024]⟩
abbrev S32x1024 : Shape := ⟨2, ![32, 1024]⟩
abbrev S8x2048 : Shape := ⟨2, ![8, 2048]⟩
abbrev S1x1024 : Shape := ⟨2, ![1, 1024]⟩
abbrev S1024 : Shape := ⟨1, ![1024]⟩
abbrev S1024x128 : Shape := ⟨2, ![1024, 128]⟩
abbrev S8x128 : Shape := ⟨2, ![8, 128]⟩
abbrev S4x1024 : Shape := ⟨2, ![4, 1024]⟩
abbrev S1x2048 : Shape := ⟨2, ![1, 2048]⟩
abbrev S2048 : Shape := ⟨1, ![2048]⟩
abbrev S_ : Shape := ⟨0, ![]⟩
abbrev S32x128 : Shape := ⟨2, ![32, 128]⟩
abbrev S16x128 : Shape := ⟨2, ![16, 128]⟩
abbrev S3200x128 : Shape := ⟨2, ![3200, 128]⟩

abbrev nBuf : Space → Nat
  | .hbm => 52
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1024, .f32⟩
  | .hbm, ⟨2, _⟩ => ⟨S8x128x128, .f32⟩
  | .hbm, ⟨3, _⟩ => ⟨S128x1024, .f32⟩
  | .hbm, ⟨4, _⟩ => ⟨S32x1024, .f32⟩
  | .hbm, ⟨5, _⟩ => ⟨S8x1024, .f32⟩
  | .hbm, ⟨6, _⟩ => ⟨S8x128x128, .f32⟩
  | .hbm, ⟨7, _⟩ => ⟨S8x1024, .f32⟩
  | .hbm, ⟨8, _⟩ => ⟨S8x128x128, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S8x2048, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1024x128, .f32⟩
  | .hbm, ⟨19, _⟩ => ⟨S8x128, .f32⟩
  | .hbm, ⟨20, _⟩ => ⟨S4x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1024, .f32⟩
  | .hbm, ⟨33, _⟩ => ⟨S1x2048, .f32⟩
  | .hbm, ⟨34, _⟩ => ⟨S2048, .f32⟩
  | .hbm, ⟨35, _⟩ => ⟨S_, .f32⟩
  | .hbm, ⟨36, _⟩ => ⟨S1024, .f32⟩
  | .hbm, ⟨37, _⟩ => ⟨S8x128, .f32⟩
  | .hbm, ⟨38, _⟩ => ⟨S8x128, .f32⟩
  | .hbm, ⟨39, _⟩ => ⟨S1024x128, .f32⟩
  | .hbm, ⟨40, _⟩ => ⟨S32x128, .f32⟩
  | .hbm, ⟨41, _⟩ => ⟨S8x128, .f32⟩
  | .hbm, ⟨42, _⟩ => ⟨S1024x128, .f32⟩
  | .hbm, ⟨43, _⟩ => ⟨S8x128, .f32⟩
  | .hbm, ⟨44, _⟩ => ⟨S1024x128, .f32⟩
  | .hbm, ⟨45, _⟩ => ⟨S8x128, .f32⟩
  | .hbm, ⟨46, _⟩ => ⟨S8x128, .f32⟩
  | .hbm, ⟨47, _⟩ => ⟨S8x128, .f32⟩
  | .hbm, ⟨48, _⟩ => ⟨S8x128, .f32⟩
  | .hbm, ⟨49, _⟩ => ⟨S16x128, .f32⟩
  | .hbm, ⟨50, _⟩ => ⟨S8x128, .f32⟩
  | .hbm, ⟨51, _⟩ => ⟨S3200x128, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Body.lean ====
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Branches

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

/-- The body's test for the first grid point. -/
abbrev First (i : grid0.Coords) : Prop := (Scalar.cmpi .ne (Scalar.extui (Scalar.cmpi .eq (BitVec.ofNat 32 (i 0).val) 0#32)) 0#32) = 1#1

/-- The body's test for the last grid point. -/
abbrev Last (i : grid0.Coords) : Prop := (Scalar.cmpi .ne (Scalar.extui (Scalar.cmpi .eq (BitVec.ofNat 32 (i 0).val) 31#32)) 0#32) = 1#1

theorem first_iff : ∀ t : Fin cfg0.N, First (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [First, e0]
    word_cmp
   : ∀ t : Fin grid0.N, First (grid0.coords t) ↔ t.val % 32 = 0)

theorem last_iff : ∀ t : Fin cfg0.N, Last (grid0.coords t) ↔ t.val % 32 = 31 :=
  (fun t => by
    have ht : t.val < 32 := Nat.lt_of_lt_of_eq t.isLt N_0
    have e0 : (grid0.coords t 0).val = t.val / 1 % 32 := Pipeline.Grid.coords_val t 0 (by decide) rfl
    simp only [Last, e0]
    word_cmp
   : ∀ t : Fin grid0.N, Last (grid0.coords t) ↔ t.val % 32 = 31)

/-- The columns of `dz` that hold the gradient of the RG-LRU's input. -/
abbrev colsLru : Rect S256x5120 := Rect.unit (s := S256x5120) ![0, 3072] S256x1024.size inb_S256x5120_S256x1024_0_3072

/-- The columns of `dz` that hold the gradient of the RG-LRU branch's gate. -/
abbrev colsGate : Rect S256x5120 := Rect.unit (s := S256x5120) ![0, 4096] S256x1024.size inb_S256x5120_S256x1024_0_4096

end Cert.Kernel.Branches
-- ==== Proof.RunFirst.lean ====
module

public import proofs.«01_k».proof.Proof.Body

@[expose] public section

set_option maxRecDepth 16384

noncomputable section

namespace Cert.Kernel.Branches

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable {i : grid0.Coords}
variable {arg1 : Memref sig .tc .vmem S4x256x1280 .bf16} {harg1 : arg1.IsWhole}
variable {arg2 : Memref sig .tc .vmem S4x16x1280 .bf16} {harg2 : arg2.IsWhole}
variable {arg3 : Memref sig .tc .vmem S256x1024 .f32} {harg3 : arg3.IsWhole}
variable {arg4 : Memref sig .tc .vmem S8x1024 .f32} {harg4 : arg4.IsWhole}
variable {arg5 : Memref sig .tc .vmem S256x2048 .f32} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S128x1024 .f32} {harg10 : arg10.IsWhole}
variable {arg11 : Memref sig .tc .vmem S4x1024 .f32} {harg11 : arg11.IsWhole}
variable {arg12 : Memref sig .tc .vmem S1x1024 .f32} {harg12 : arg12.IsWhole}
variable {arg13 : Memref sig .tc .vmem S8x128x128 .bf16} {harg13 : arg13.IsWhole}
variable {arg14 : Memref sig .tc .vmem S8x128x128 .bf16} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S1x1024 .f32} {harg17 : arg17.IsWhole}
variable {arg18 : Memref sig .tc .vmem S1x1024 .f32} {harg18 : arg18.IsWhole}
variable {arg19 : Memref sig .tc .vmem S1x1024 .f32} {harg19 : arg19.IsWhole}
variable {arg20 : Memref sig .tc .vmem S8x128 .f32} {harg20 : arg20.IsWhole}
variable {arg21 : Memref sig .tc .vmem S256x5120 .bf16} {harg21 : arg21.IsWhole}
variable {arg22 : Memref sig .tc .vmem S8x1024 .f32} {harg22 : arg22.IsWhole}
variable {arg23 : Memref sig .tc .vmem S8x1024 .f32} {harg23 : arg23.IsWhole}
variable {arg24 : Memref sig .tc .vmem S8x1024 .f32} {harg24 : arg24.IsWhole}
variable {arg25 : Memref sig .tc .vmem S8x1024 .f32} {harg25 : arg25.IsWhole}
variable {arg26 : Memref sig .tc .vmem S128x1024 .f32} {harg26 : arg26.IsWhole}
variable {arg27 : Memref sig .tc .vmem S8x128x128 .f32} {harg27 : arg27.IsWhole}
variable {arg28 : Memref sig .tc .vmem S32x1024 .f32} {harg28 : arg28.IsWhole}
variable {arg29 : Memref sig .tc .vmem S8x1024 .f32} {harg29 : arg29.IsWhole}
variable {arg30 : Memref sig .tc .vmem S8x128x128 .f32} {harg30 : arg30.IsWhole}
variable {arg31 : Memref sig .tc .vmem S8x1024 .f32} {harg31 : arg31.IsWhole}
variable {arg32 : Memref sig .tc .vmem S8x128x128 .f32} {harg32 : arg32.IsWhole}
variable {arg33 : Memref sig .tc .vmem S8x1024 .f32} {harg33 : arg33.IsWhole}
variable {arg34 : Memref sig .tc .vmem S8x1024 .f32} {harg34 : arg34.IsWhole}
variable {arg35 : Memref sig .tc .vmem S256x1024 .bf16} {harg35 : arg35.IsWhole}
variable {arg36 : Memref sig .tc .vmem S256x1024 .f32} {harg36 : arg36.IsWhole}
variable {arg37 : Memref sig .tc .vmem S256x1024 .bf16} {harg37 : arg37.IsWhole}
variable {arg38 : Memref sig .tc .vmem S256x1024 .f32} {harg38 : arg38.IsWhole}
variable {arg39 : Memref sig .tc .vmem S256x1024 .bf16} {harg39 : arg39.IsWhole}
variable {arg40 : Memref sig .tc .vmem S256x1024 .f32} {harg40 : arg40.IsWhole}
variable {arg41 : Memref sig .tc .vmem S256x1024 .f32} {harg41 : arg41.IsWhole}
variable {arg42 : Memref sig .tc .vmem S256x1024 .f32} {harg42 : arg42.IsWhole}
variable {arg43 : Memref sig .tc .vmem S256x1024 .f32} {harg43 : arg43.IsWhole}
variable {arg44 : Memref sig .tc .vmem S256x1024 .f32} {harg44 : arg44.IsWhole}
variable {arg45 : Memref sig .tc .vmem S256x1024 .bf16} {harg45 : arg45.IsWhole}
variable {arg46 : Memref sig .tc .vmem S256x1024 .bf16} {harg46 : arg46.IsWhole}
variable {arg47 : Memref sig .tc .vmem S256x1024 .f32} {harg47 : arg47.IsWhole}
variable {arg48 : Memref sig .tc .vmem S8x1024 .f32} {harg48 : arg48.IsWhole}
variable {arg49 : Memref sig .tc .vmem S8x1024 .f32} {harg49 : arg49.IsWhole}
variable {arg50 : Memref sig .tc .vmem S8x1024 .f32} {harg50 : arg50.IsWhole}

set_option maxHeartbeats 40000000 in
/-- The body at the first grid point (the accumulators and carries are cleared): the arguments keep their contents, the scratch ends at
    something, and the results listed first end with the given pieces stored (last first). -/
def runFirst (c : Dev nD) (hc0 : First i) (hc1 : ¬Last i)
    (x0 : Vec F S4x256x1280 .bf16) (x1 : Vec F S4x16x1280 .bf16) (x2 : Vec F S256x1024 .f32) (x3 : Vec F S8x1024 .f32) (x4 : Vec F S256x2048 .f32) (x5 : Vec F S1x1024 .f32) (x6 : Vec F S1x1024 .f32) (x7 : Vec F S8x128x128 .bf16) (x8 : Vec F S8x128x128 .bf16) (x9 : Vec F S128x1024 .f32) (x10 : Vec F S4x1024 .f32) (x11 : Vec F S1x1024 .f32) (x12 : Vec F S8x128x128 .bf16) (x13 : Vec F S8x128x128 .bf16) (x14 : Vec F S1x1024 .f32) (x15 : Vec F S1x1024 .f32) (x16 : Vec F S1x1024 .f32) (x17 : Vec F S1x1024 .f32) (x18 : Vec F S1x1024 .f32) (x19 : Vec F S8x128 .f32) :
    Σ' (L20 : List (View.Piece (Elt F) S256x5120 .bf16)),
    Σ' (L21 : List (View.Piece (Elt F) S8x1024 .f32)),
    Σ' (L22 : List (View.Piece (Elt F) S8x1024 .f32)),
    Σ' (L23 : List (View.Piece (Elt F) S8x1024 .f32)),
    Σ' (L24 : List (View.Piece (Elt F) S8x1024 .f32)),
    Σ' (L25 : List (View.Piece (Elt F) S128x1024 .f32)),
    { L26 : List (View.Piece (Elt F) S8x128x128 .f32) //
      ∀ (E : Set ℕ) (K : PUnit → sProp 𝕄),
       iprop(owns (c : Thread nD τ) arg1 fullShare x0
   ∗ owns (c : Thread nD τ) arg2 fullShare x1
   ∗ owns (c : Thread nD τ) arg3 fullShare x2
   ∗ owns (c : Thread nD τ) arg4 fullShare x3
   ∗ owns (c : Thread nD τ) arg5 fullShare x4
   ∗ owns (c : Thread nD τ) arg6 fullShare x5
   ∗ owns (c : Thread nD τ) arg7 fullShare x6
   ∗ owns (c : Thread nD τ) arg8 fullShare x7
   ∗ owns (c : Thread nD τ) arg9 fullShare x8
   ∗ owns (c : Thread nD τ) arg10 fullShare x9
   ∗ owns (c : Thread nD τ) arg11 fullShare x10
   ∗ owns (c : Thread nD τ) arg12 fullShare x11
   ∗ owns (c : Thread nD τ) arg13 fullShare x12
   ∗ owns (c : Thread nD τ) arg14 fullShare x13
   ∗ owns (c : Thread nD τ) arg15 fullShare x14
   ∗ owns (c : Thread nD τ) arg16 fullShare x15
   ∗ owns (c : Thread nD τ) arg17 fullShare x16
   ∗ owns (c : Thread nD τ) arg18 fullShare x17
   ∗ owns (c : Thread nD τ) arg19 fullShare x18
   ∗ owns (c : Thread nD τ) arg20 fullShare x19
   ∗ (∃ d, owns (c : Thread nD τ) arg21 fullShare d)
   ∗ (∃ d, owns (c : Thread nD τ) arg22 fullShare d)
   ∗ (∃ d, owns (c : Thread nD τ) arg23 fullShare d)
   ∗ (∃ d, owns (c : Thread nD τ) arg24 fullShare d)
   ∗ (∃ d, owns (c : Thread nD τ) arg25 fullShare d)
   ∗ (∃ d, owns (c : Thread nD τ) arg26 fullShare d)
   ∗ (∃ d, owns (c : Thread nD τ) arg27 fullShare d)
   ∗ (∃ d, owns (c : Thread nD τ) arg28 fullShare d)
   ∗ (∃ d, owns (c : Thread nD τ) arg29 fullShare d)
   ∗ (∃ d, owns (c : Thread nD τ) arg30 fullShare d)
   ∗ (∃ d, owns (c : Thread nD τ) arg31 fullShare d)
   ∗ (∃ d, owns (c : Thread nD τ) arg32 fullShare d)
   ∗ (∃ d, owns (c : Thread nD τ) arg33 fullShare d)
   ∗ (∃ d, owns (c : Thread nD τ) arg34 fullShare d)
   ∗ (∃ d, owns (c : Thread nD τ) arg35 fullShare d)
   ∗ (∃ d, owns (c : Thread nD τ) arg36 fullShare d)
   ∗ (∃ d, owns (c : Thread nD τ) arg37 fullShare d)
   ∗ (∃ d, owns (c : Thread nD τ) arg38 fullShare d)
   ∗ (∃ d, owns (c : Thread nD τ) arg39 fullShare d)
   ∗ (∃ d, owns (c : Thread nD τ) arg40 fullShare d)
   ∗ (∃ d, owns (c : Thread nD τ) arg41 fullShare d)
   ∗ (∃ d, owns (c : Thread nD τ) arg42 fullShare d)
   ∗ (∃ d, owns (c : Thread nD τ) arg43 fullShare d)
   ∗ (∃ d, owns (c : Thread nD τ) arg44 fullShare d)
   ∗ (∃ d, owns (c : Thread nD τ) arg45 fullShare d)
   ∗ (∃ d, owns (c : Thread nD τ) arg46 fullShare d)
   ∗ (∃ d, owns (c : Thread nD τ) arg47 fullShare d)
   ∗ (∃ d, owns (c : Thread nD τ) arg48 fullShare d)
   ∗ (∃ d, owns (c : Thread nD τ) arg49 fullShare d)
   ∗ (∃ d, owns (c : Thread nD τ) arg50 fullShare d)
   ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg16 fullShare x15
      ∗ owns (c : Thread nD τ) arg17 fullShare x16
      ∗ owns (c : Thread nD τ) arg18 fullShare x17
      ∗ owns (c : Thread nD τ) arg19 fullShare x18
      ∗ owns (c : Thread nD τ) arg20 fullShare x19
      ∗ (∃ v4 v3 f, arg21.view.loc (c : Thread nD τ) ↦[arg21.view.set]{fullShare} arg21.view.writes (Elt F) f (⟨colsLru, v3⟩ :: ⟨colsGate, v4⟩ :: L20))
      ∗ (∃ f, arg22.view.loc (c : Thread nD τ) ↦[arg22.view.set]{fullShare} arg22.view.writes (Elt F) f L21)
      ∗ (∃ f, arg23.view.loc (c : Thread nD τ) ↦[arg23.view.set]{fullShare} arg23.view.writes (Elt F) f L22)
      ∗ (∃ f, arg24.view.loc (c : Thread nD τ) ↦[arg24.view.set]{fullShare} arg24.view.writes (Elt F) f L23)
      ∗ (∃ f, arg25.view.loc (c : Thread nD τ) ↦[arg25.view.set]{fullShare} arg25.view.writes (Elt F) f L24)
      ∗ (∃ f, arg26.view.loc (c : Thread nD τ) ↦[arg26.view.set]{fullShare} arg26.view.writes (Elt F) f L25)
      ∗ (∃ f, arg27.view.loc (c : Thread nD τ) ↦[arg27.view.set]{fullShare} arg27.view.writes (Elt F) f L26)
      ∗ (∃ d, owns (c : Thread nD τ) arg28 fullShare d)
      ∗ (∃ d, owns (c : Thread nD τ) arg29 fullShare d)
      ∗ (∃ d, owns (c : Thread nD τ) arg30 fullShare d)
      ∗ (∃ d, owns (c : Thread nD τ) arg31 fullShare d)
      ∗ (∃ d, owns (c : Thread nD τ) arg32 fullShare d)
      ∗ (∃ d, owns (c : Thread nD τ) arg33 fullShare d)
      ∗ (∃ d, owns (c : Thread nD τ) arg34 fullShare d)
      ∗ (∃ d, owns (c : Thread nD τ) arg35 fullShare d)
      ∗ (∃ d, owns (c : Thread nD τ) arg36 fullShare d)
      ∗ (∃ d, owns (c : Thread nD τ) arg37 fullShare d)
      ∗ (∃ d, owns (c : Thread nD τ) arg38 fullShare d)
      ∗ (∃ d, owns (c : Thread nD τ) arg39 fullShare d)
      ∗ (∃ d, owns (c : Thread nD τ) arg40 fullShare d)
      ∗ (∃ d, owns (c : Thread nD τ) arg41 fullShare d)
      ∗ (∃ d, owns (c : Thread nD τ) arg42 fullShare d)
      ∗ (∃ d, owns (c : Thread nD τ) arg43 fullShare d)
      ∗ (∃ d, owns (c : Thread nD τ) arg44 fullShare d)
      ∗ (∃ d, owns (c : Thread nD τ) arg45 fullShare d)
      ∗ (∃ d, owns (c : Thread nD τ) arg46 fullShare d)
      ∗ (∃ d, owns (c : Thread nD τ) arg47 fullShare d)
      ∗ (∃ d, owns (c : Thread nD τ) arg48 fullShare d)
      ∗ (∃ d, owns (c : Thread nD τ) arg49 fullShare d)
      ∗ (∃ d, owns (c : Thread nD τ) arg50 fullShare d)) -∗ K ⟨⟩))
      ⊢ wp frame (wpE (defs₀ (F := F)) Variants.none c none) E
    (cc0_branches_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K } := by
  refine ⟨?_, ?_, ?_, ?_, ?_, ?_, ?_, fun E K => ?run⟩
  case run =>
    simp only [cc0_branches_bwd_eq_skeleton]; unfold cc0_branches_bwd_skel
    simp only [k0_part51_eq_skeleton, k0_part8_eq_skeleton, k0_part1_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _, _; iexact H20
    isplitl [H21]
    · iexists _; iexact H21
    isplitl [H22]
    · iexists _; iexact H22
    isplitl [H23]
    · iexists _; iexact H23
    isplitl [H24]
    · iexists _; iexact H24
    isplitl [H25]
    · iexists _; iexact H25
    isplitl [H26]
    · iexists _; iexact H26
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    iexists _, _; isplitr; swap; · iexact HS15
    ipureintro; rfl

end Cert.Kernel.Branches
-- ==== Proof.RunMid.lean ====
module

public import proofs.«01_k».proof.Proof.Body

@[expose] public section

set_option maxRecDepth 16384

noncomputable section

namespace Cert.Kernel.Branches

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable {i : grid0.Coords}
variable {arg1 : Memref sig .tc .vmem S4x256x1280 .bf16} {harg1 : arg1.IsWhole}
variable {arg2 : Memref sig .tc .vmem S4x16x1280 .bf16} {harg2 : arg2.IsWhole}
variable {arg3 : Memref sig .tc .vmem S256x1024 .f32} {harg3 : arg3.IsWhole}
variable {arg4 : Memref sig .tc .vmem S8x1024 .f32} {harg4 : arg4.IsWhole}
variable {arg5 : Memref sig .tc .vmem S256x2048 .f32} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S128x1024 .f32} {harg10 : arg10.IsWhole}
variable {arg11 : Memref sig .tc .vmem S4x1024 .f32} {harg11 : arg11.IsWhole}
variable {arg12 : Memref sig .tc .vmem S1x1024 .f32} {harg12 : arg12.IsWhole}
variable {arg13 : Memref sig .tc .vmem S8x128x128 .bf16} {harg13 : arg13.IsWhole}
variable {arg14 : Memref sig .tc .vmem S8x128x128 .bf16} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S1x1024 .f32} {harg17 : arg17.IsWhole}
variable {arg18 : Memref sig .tc .vmem S1x1024 .f32} {harg18 : arg18.IsWhole}
variable {arg19 : Memref sig .tc .vmem S1x1024 .f32} {harg19 : arg19.IsWhole}
variable {arg20 : Memref sig .tc .vmem S8x128 .f32} {harg20 : arg20.IsWhole}
variable {arg21 : Memref sig .tc .vmem S256x5120 .bf16} {harg21 : arg21.IsWhole}
variable {arg22 : Memref sig .tc .vmem S8x1024 .f32} {harg22 : arg22.IsWhole}
variable {arg23 : Memref sig .tc .vmem S8x1024 .f32} {harg23 : arg23.IsWhole}
variable {arg24 : Memref sig .tc .vmem S8x1024 .f32} {harg24 : arg24.IsWhole}
variable {arg25 : Memref sig .tc .vmem S8x1024 .f32} {harg25 : arg25.IsWhole}
variable {arg26 : Memref sig .tc .vmem S128x1024 .f32} {harg26 : arg26.IsWhole}
variable {arg27 : Memref sig .tc .vmem S8x128x128 .f32} {harg27 : arg27.IsWhole}
variable {arg28 : Memref sig .tc .vmem S32x1024 .f32} {harg28 : arg28.IsWhole}
variable {arg29 : Memref sig .tc .vmem S8x1024 .f32} {harg29 : arg29.IsWhole}
variable {arg30 : Memref sig .tc .vmem S8x128x128 .f32} {harg30 : arg30.IsWhole}
variable {arg31 : Memref sig .tc .vmem S8x1024 .f32} {harg31 : arg31.IsWhole}
variable {arg32 : Memref sig .tc .vmem S8x128x128 .f32} {harg32 : arg32.IsWhole}
variable {arg33 : Memref sig .tc .vmem S8x1024 .f32} {harg33 : arg33.IsWhole}
variable {arg34 : Memref sig .tc .vmem S8x1024 .f32} {harg34 : arg34.IsWhole}
variable {arg35 : Memref sig .tc .vmem S256x1024 .bf16} {harg35 : arg35.IsWhole}
variable {arg36 : Memref sig .tc .vmem S256x1024 .f32} {harg36 : arg36.IsWhole}
variable {arg37 : Memref sig .tc .vmem S256x1024 .bf16} {harg37 : arg37.IsWhole}
variable {arg38 : Memref sig .tc .vmem S256x1024 .f32} {harg38 : arg38.IsWhole}
variable {arg39 : Memref sig .tc .vmem S256x1024 .bf16} {harg39 : arg39.IsWhole}
variable {arg40 : Memref sig .tc .vmem S256x1024 .f32} {harg40 : arg40.IsWhole}
variable {arg41 : Memref sig .tc .vmem S256x1024 .f32} {harg41 : arg41.IsWhole}
variable {arg42 : Memref sig .tc .vmem S256x1024 .f32} {harg42 : arg42.IsWhole}
variable {arg43 : Memref sig .tc .vmem S256x1024 .f32} {harg43 : arg43.IsWhole}
variable {arg44 : Memref sig .tc .vmem S256x1024 .f32} {harg44 : arg44.IsWhole}
variable {arg45 : Memref sig .tc .vmem S256x1024 .bf16} {harg45 : arg45.IsWhole}
variable {arg46 : Memref sig .tc .vmem S256x1024 .bf16} {harg46 : arg46.IsWhole}
variable {arg47 : Memref sig .tc .vmem S256x1024 .f32} {harg47 : arg47.IsWhole}
variable {arg48 : Memref sig .tc .vmem S8x1024 .f32} {harg48 : arg48.IsWhole}
variable {arg49 : Memref sig .tc .vmem S8x1024 .f32} {harg49 : arg49.IsWhole}
variable {arg50 : Memref sig .tc .vmem S8x1024 .f32} {harg50 : arg50.IsWhole}

set_option maxHeartbeats 40000000 in
/-- The body at a grid point that is neither the first nor the last: the arguments keep their contents, the scratch ends at
    something, and the results listed first end with the given pieces stored (last first). -/
def runMid (c : Dev nD) (hc0 : ¬First i) (hc1 : ¬Last i)
    (x0 : Vec F S4x256x1280 .bf16) (x1 : Vec F S4x16x1280 .bf16) (x2 : Vec F S256x1024 .f32) (x3 : Vec F S8x1024 .f32) (x4 : Vec F S256x2048 .f32) (x5 : Vec F S1x1024 .f32) (x6 : Vec F S1x1024 .f32) (x7 : Vec F S8x128x128 .bf16) (x8 : Vec F S8x128x128 .bf16) (x9 : Vec F S128x1024 .f32) (x10 : Vec F S4x1024 .f32) (x11 : Vec F S1x1024 .f32) (x12 : Vec F S8x128x128 .bf16) (x13 : Vec F S8x128x128 .bf16) (x14 : Vec F S1x1024 .f32) (x15 : Vec F S1x1024 .f32) (x16 : Vec F S1x1024 .f32) (x17 : Vec F S1x1024 .f32) (x18 : Vec F S1x1024 .f32) (x19 : Vec F S8x128 .f32) (y21 : Vec F S8x1024 .f32) (y22 : Vec F S8x1024 .f32) (y23 : Vec F S8x1024 .f32) (y24 : Vec F S8x1024 .f32) (y25 : Vec F S128x1024 .f32) (y26 : Vec F S8x128x128 .f32) :
    Σ' (L20 : List (View.Piece (Elt F) S256x5120 .bf16)),
    Σ' (L21 : List (View.Piece (Elt F) S8x1024 .f32)),
    Σ' (L22 : List (View.Piece (Elt F) S8x1024 .f32)),
    Σ' (L23 : List (View.Piece (Elt F) S8x1024 .f32)),
    Σ' (L24 : List (View.Piece (Elt F) S8x1024 .f32)),
    Σ' (L25 : List (View.Piece (Elt F) S128x1024 .f32)),
    { L26 : List (View.Piece (Elt F) S8x128x128 .f32) //
      ∀ (E : Set ℕ) (K : PUnit → sProp 𝕄),
       iprop(owns (c : Thread nD τ) arg1 fullShare x0
   ∗ owns (c : Thread nD τ) arg2 fullShare x1
   ∗ owns (c : Thread nD τ) arg3 fullShare x2
   ∗ owns (c : Thread nD τ) arg4 fullShare x3
   ∗ owns (c : Thread nD τ) arg5 fullShare x4
   ∗ owns (c : Thread nD τ) arg6 fullShare x5
   ∗ owns (c : Thread nD τ) arg7 fullShare x6
   ∗ owns (c : Thread nD τ) arg8 fullShare x7
   ∗ owns (c : Thread nD τ) arg9 fullShare x8
   ∗ owns (c : Thread nD τ) arg10 fullShare x9
   ∗ owns (c : Thread nD τ) arg11 fullShare x10
   ∗ owns (c : Thread nD τ) arg12 fullShare x11
   ∗ owns (c : Thread nD τ) arg13 fullShare x12
   ∗ owns (c : Thread nD τ) arg14 fullShare x13
   ∗ owns (c : Thread nD τ) arg15 fullShare x14
   ∗ owns (c : Thread nD τ) arg16 fullShare x15
   ∗ owns (c : Thread nD τ) arg17 fullShare x16
   ∗ owns (c : Thread nD τ) arg18 fullShare x17
   ∗ owns (c : Thread nD τ) arg19 fullShare x18
   ∗ owns (c : Thread nD τ) arg20 fullShare x19
   ∗ (∃ d, owns (c : Thread nD τ) arg21 fullShare d)
   ∗ owns (c : Thread nD τ) arg22 fullShare y21
   ∗ owns (c : Thread nD τ) arg23 fullShare y22
   ∗ owns (c : Thread nD τ) arg24 fullShare y23
   ∗ owns (c : Thread nD τ) arg25 fullShare y24
   ∗ owns (c : Thread nD τ) arg26 fullShare y25
   ∗ owns (c : Thread nD τ) arg27 fullShare y26
   ∗ (∃ d, owns (c : Thread nD τ) arg28 fullShare d)
   ∗ (∃ d, owns (c : Thread nD τ) arg29 fullShare d)
   ∗ (∃ d, owns (c : Thread nD τ) arg30 fullShare d)
   ∗ (∃ d, owns (c : Thread nD τ) arg31 fullShare d)
   ∗ (∃ d, owns (c : Thread nD τ) arg32 fullShare d)
   ∗ (∃ d, owns (c : Thread nD τ) arg33 fullShare d)
   ∗ (∃ d, owns (c : Thread nD τ) arg34 fullShare d)
   ∗ (∃ d, owns (c : Thread nD τ) arg35 fullShare d)
   ∗ (∃ d, owns (c : Thread nD τ) arg36 fullShare d)
   ∗ (∃ d, owns (c : Thread nD τ) arg37 fullShare d)
   ∗ (∃ d, owns (c : Thread nD τ) arg38 fullShare d)
   ∗ (∃ d, owns (c : Thread nD τ) arg39 fullShare d)
   ∗ (∃ d, owns (c : Thread nD τ) arg40 fullShare d)
   ∗ (∃ d, owns (c : Thread nD τ) arg41 fullShare d)
   ∗ (∃ d, owns (c : Thread nD τ) arg42 fullShare d)
   ∗ (∃ d, owns (c : Thread nD τ) arg43 fullShare d)
   ∗ (∃ d, owns (c : Thread nD τ) arg44 fullShare d)
   ∗ (∃ d, owns (c : Thread nD τ) arg45 fullShare d)
   ∗ (∃ d, owns (c : Thread nD τ) arg46 fullShare d)
   ∗ (∃ d, owns (c : Thread nD τ) arg47 fullShare d)
   ∗ (∃ d, owns (c : Thread nD τ) arg48 fullShare d)
   ∗ (∃ d, owns (c : Thread nD τ) arg49 fullShare d)
   ∗ (∃ d, owns (c : Thread nD τ) arg50 fullShare d)
   ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg16 fullShare x15
      ∗ owns (c : Thread nD τ) arg17 fullShare x16
      ∗ owns (c : Thread nD τ) arg18 fullShare x17
      ∗ owns (c : Thread nD τ) arg19 fullShare x18
      ∗ owns (c : Thread nD τ) arg20 fullShare x19
      ∗ (∃ v4 v3 f, arg21.view.loc (c : Thread nD τ) ↦[arg21.view.set]{fullShare} arg21.view.writes (Elt F) f (⟨colsLru, v3⟩ :: ⟨colsGate, v4⟩ :: L20))
      ∗ (∃ f, arg22.view.loc (c : Thread nD τ) ↦[arg22.view.set]{fullShare} arg22.view.writes (Elt F) f L21)
      ∗ (∃ f, arg23.view.loc (c : Thread nD τ) ↦[arg23.view.set]{fullShare} arg23.view.writes (Elt F) f L22)
      ∗ (∃ f, arg24.view.loc (c : Thread nD τ) ↦[arg24.view.set]{fullShare} arg24.view.writes (Elt F) f L23)
      ∗ (∃ f, arg25.view.loc (c : Thread nD τ) ↦[arg25.view.set]{fullShare} arg25.view.writes (Elt F) f L24)
      ∗ (∃ f, arg26.view.loc (c : Thread nD τ) ↦[arg26.view.set]{fullShare} arg26.view.writes (Elt F) f L25)
      ∗ (∃ f, arg27.view.loc (c : Thread nD τ) ↦[arg27.view.set]{fullShare} arg27.view.writes (Elt F) f L26)
      ∗ (∃ d, owns (c : Thread nD τ) arg28 fullShare d)
      ∗ (∃ d, owns (c : Thread nD τ) arg29 fullShare d)
      ∗ (∃ d, owns (c : Thread nD τ) arg30 fullShare d)
      ∗ (∃ d, owns (c : Thread nD τ) arg31 fullShare d)
      ∗ (∃ d, owns (c : Thread nD τ) arg32 fullShare d)
      ∗ (∃ d, owns (c : Thread nD τ) arg33 fullShare d)
      ∗ (∃ d, owns (c : Thread nD τ) arg34 fullShare d)
      ∗ (∃ d, owns (c : Thread nD τ) arg35 fullShare d)
      ∗ (∃ d, owns (c : Thread nD τ) arg36 fullShare d)
      ∗ (∃ d, owns (c : Thread nD τ) arg37 fullShare d)
      ∗ (∃ d, owns (c : Thread nD τ) arg38 fullShare d)
      ∗ (∃ d, owns (c : Thread nD τ) arg39 fullShare d)
      ∗ (∃ d, owns (c : Thread nD τ) arg40 fullShare d)
      ∗ (∃ d, owns (c : Thread nD τ) arg41 fullShare d)
      ∗ (∃ d, owns (c : Thread nD τ) arg42 fullShare d)
      ∗ (∃ d, owns (c : Thread nD τ) arg43 fullShare d)
      ∗ (∃ d, owns (c : Thread nD τ) arg44 fullShare d)
      ∗ (∃ d, owns (c : Thread nD τ) arg45 fullShare d)
      ∗ (∃ d, owns (c : Thread nD τ) arg46 fullShare d)
      ∗ (∃ d, owns (c : Thread nD τ) arg47 fullShare d)
      ∗ (∃ d, owns (c : Thread nD τ) arg48 fullShare d)
      ∗ (∃ d, owns (c : Thread nD τ) arg49 fullShare d)
      ∗ (∃ d, owns (c : Thread nD τ) arg50 fullShare d)) -∗ K ⟨⟩))
      ⊢ wp frame (wpE (defs₀ (F := F)) Variants.none c none) E
    (cc0_branches_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K } := by
  refine ⟨?_, ?_, ?_, ?_, ?_, ?_, ?_, fun E K => ?run⟩
  case run =>
    simp only [cc0_branches_bwd_eq_skeleton]; unfold cc0_branches_bwd_skel
    simp only [k0_part51_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21; obtain rfl := harg23.eq_unread hf22; obtain rfl := harg24.eq_unread hf23; obtain rfl := harg25.eq_unread hf24; obtain rfl := harg26.eq_unread hf25; obtain rfl := harg27.eq_unread hf26
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _, _; iexact H20
    isplitl [H21]
    · iexists _; iexact H21
    isplitl [H22]
    · iexists _; iexact H22
    isplitl [H23]
    · iexists _; iexact H23
    isplitl [H24]
    · iexists _; iexact H24
    isplitl [H25]
    · iexists _; iexact H25
    isplitl [H26]
    · iexists _; iexact H26
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    iexists _, _; isplitr; swap; · iexact HS15
    ipureintro; rfl

end Cert.Kernel.Branches
-- ==== Proof.RunLast.lean ====
module

public import proofs.«01_k».proof.Proof.Body

@[expose] public section

set_option maxRecDepth 16384

noncomputable section

namespace Cert.Kernel.Branches

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable {i : grid0.Coords}
variable {arg1 : Memref sig .tc .vmem S4x256x1280 .bf16} {harg1 : arg1.IsWhole}
variable {arg2 : Memref sig .tc .vmem S4x16x1280 .bf16} {harg2 : arg2.IsWhole}
variable {arg3 : Memref sig .tc .vmem S256x1024 .f32} {harg3 : arg3.IsWhole}
variable {arg4 : Memref sig .tc .vmem S8x1024 .f32} {harg4 : arg4.IsWhole}
variable {arg5 : Memref sig .tc .vmem S256x2048 .f32} {harg5 : arg5.IsWhole}
variable {arg6 : Memref sig .tc .vmem S1x1024 .f32} {harg6 : arg6.IsWhole}
variable {arg7 : Memref sig .tc .vmem S1x1024 .f32} {harg7 : arg7.IsWhole}
variable {arg8 : Memref sig .tc .vmem S8x128x128 .bf16} {harg8 : arg8.IsWhole}
variable {arg9 : Memref sig .tc .vmem S8x128x128 .bf16} {harg9 : arg9.IsWhole}
variable {arg10 : Memref sig .tc .vmem S128x1024 .f32} {harg10 : arg10.IsWhole}
variable {arg11 : Memref sig .tc .vmem S4x1024 .f32} {harg11 : arg11.IsWhole}
variable {arg12 : Memref sig .tc .vmem S1x1024 .f32} {harg12 : arg12.IsWhole}
variable {arg13 : Memref sig .tc .vmem S8x128x128 .bf16} {harg13 : arg13.IsWhole}
variable {arg14 : Memref sig .tc .vmem S8x128x128 .bf16} {harg14 : arg14.IsWhole}
variable {arg15 : Memref sig .tc .vmem S1x1024 .f32} {harg15 : arg15.IsWhole}
variable {arg16 : Memref sig .tc .vmem S1x1024 .f32} {harg16 : arg16.IsWhole}
variable {arg17 : Memref sig .tc .vmem S1x1024 .f32} {harg17 : arg17.IsWhole}
variable {arg18 : Memref sig .tc .vmem S1x1024 .f32} {harg18 : arg18.IsWhole}
variable {arg19 : Memref sig .tc .vmem S1x1024 .f32} {harg19 : arg19.IsWhole}
variable {arg20 : Memref sig .tc .vmem S8x128 .f32} {harg20 : arg20.IsWhole}
variable {arg21 : Memref sig .tc .vmem S256x5120 .bf16} {harg21 : arg21.IsWhole}
variable {arg22 : Memref sig .tc .vmem S8x1024 .f32} {harg22 : arg22.IsWhole}
variable {arg23 : Memref sig .tc .vmem S8x1024 .f32} {harg23 : arg23.IsWhole}
variable {arg24 : Memref sig .tc .vmem S8x1024 .f32} {harg24 : arg24.IsWhole}
variable {arg25 : Memref sig .tc .vmem S8x1024 .f32} {harg25 : arg25.IsWhole}
variable {arg26 : Memref sig .tc .vmem S128x1024 .f32} {harg26 : arg26.IsWhole}
variable {arg27 : Memref sig .tc .vmem S8x128x128 .f32} {harg27 : arg27.IsWhole}
variable {arg28 : Memref sig .tc .vmem S32x1024 .f32} {harg28 : arg28.IsWhole}
variable {arg29 : Memref sig .tc .vmem S8x1024 .f32} {harg29 : arg29.IsWhole}
variable {arg30 : Memref sig .tc .vmem S8x128x128 .f32} {harg30 : arg30.IsWhole}
variable {arg31 : Memref sig .tc .vmem S8x1024 .f32} {harg31 : arg31.IsWhole}
variable {arg32 : Memref sig .tc .vmem S8x128x128 .f32} {harg32 : arg32.IsWhole}
variable {arg33 : Memref sig .tc .vmem S8x1024 .f32} {harg33 : arg33.IsWhole}
variable {arg34 : Memref sig .tc .vmem S8x1024 .f32} {harg34 : arg34.IsWhole}
variable {arg35 : Memref sig .tc .vmem S256x1024 .bf16} {harg35 : arg35.IsWhole}
variable {arg36 : Memref sig .tc .vmem S256x1024 .f32} {harg36 : arg36.IsWhole}
variable {arg37 : Memref sig .tc .vmem S256x1024 .bf16} {harg37 : arg37.IsWhole}
variable {arg38 : Memref sig .tc .vmem S256x1024 .f32} {harg38 : arg38.IsWhole}
variable {arg39 : Memref sig .tc .vmem S256x1024 .bf16} {harg39 : arg39.IsWhole}
variable {arg40 : Memref sig .tc .vmem S256x1024 .f32} {harg40 : arg40.IsWhole}
variable {arg41 : Memref sig .tc .vmem S256x1024 .f32} {harg41 : arg41.IsWhole}
variable {arg42 : Memref sig .tc .vmem S256x1024 .f32} {harg42 : arg42.IsWhole}
variable {arg43 : Memref sig .tc .vmem S256x1024 .f32} {harg43 : arg43.IsWhole}
variable {arg44 : Memref sig .tc .vmem S256x1024 .f32} {harg44 : arg44.IsWhole}
variable {arg45 : Memref sig .tc .vmem S256x1024 .bf16} {harg45 : arg45.IsWhole}
variable {arg46 : Memref sig .tc .vmem S256x1024 .bf16} {harg46 : arg46.IsWhole}
variable {arg47 : Memref sig .tc .vmem S256x1024 .f32} {harg47 : arg47.IsWhole}
variable {arg48 : Memref sig .tc .vmem S8x1024 .f32} {harg48 : arg48.IsWhole}
variable {arg49 : Memref sig .tc .vmem S8x1024 .f32} {harg49 : arg49.IsWhole}
variable {arg50 : Memref sig .tc .vmem S8x1024 .f32} {harg50 : arg50.IsWhole}

set_option maxHeartbeats 40000000 in
/-- The body at the last grid point (the accumulators are summed over their rows, the spatial gradient masked): the arguments keep their contents, the scratch ends at
    something, and the results listed first end with the given pieces stored (last first). -/
def runLast (c : Dev nD) (hc0 : ¬First i) (hc1 : Last i)
    (x0 : Vec F S4x256x1280 .bf16) (x1 : Vec F S4x16x1280 .bf16) (x2 : Vec F S256x1024 .f32) (x3 : Vec F S8x1024 .f32) (x4 : Vec F S256x2048 .f32) (x5 : Vec F S1x1024 .f32) (x6 : Vec F S1x1024 .f32) (x7 : Vec F S8x128x128 .bf16) (x8 : Vec F S8x128x128 .bf16) (x9 : Vec F S128x1024 .f32) (x10 : Vec F S4x1024 .f32) (x11 : Vec F S1x1024 .f32) (x12 : Vec F S8x128x128 .bf16) (x13 : Vec F S8x128x128 .bf16) (x14 : Vec F S1x1024 .f32) (x15 : Vec F S1x1024 .f32) (x16 : Vec F S1x1024 .f32) (x17 : Vec F S1x1024 .f32) (x18 : Vec F S1x1024 .f32) (x19 : Vec F S8x128 .f32) (y21 : Vec F S8x1024 .f32) (y22 : Vec F S8x1024 .f32) (y23 : Vec F S8x1024 .f32) (y24 : Vec F S8x1024 .f32) (y25 : Vec F S128x1024 .f32) (y26 : Vec F S8x128x128 .f32) :
    Σ' (L20 : List (View.Piece (Elt F) S256x5120 .bf16)),
    Σ' (L21 : List (View.Piece (Elt F) S8x1024 .f32)),
    Σ' (L22 : List (View.Piece (Elt F) S8x1024 .f32)),
    Σ' (L23 : List (View.Piece (Elt F) S8x1024 .f32)),
    Σ' (L24 : List (View.Piece (Elt F) S8x1024 .f32)),
    Σ' (L25 : List (View.Piece (Elt F) S128x1024 .f32)),
    { L26 : List (View.Piece (Elt F) S8x128x128 .f32) //
      ∀ (E : Set ℕ) (K : PUnit → sProp 𝕄),
       iprop(owns (c : Thread nD τ) arg1 fullShare x0
   ∗ owns (c : Thread nD τ) arg2 fullShare x1
   ∗ owns (c : Thread nD τ) arg3 fullShare x2
   ∗ owns (c : Thread nD τ) arg4 fullShare x3
   ∗ owns (c : Thread nD τ) arg5 fullShare x4
   ∗ owns (c : Thread nD τ) arg6 fullShare x5
   ∗ owns (c : Thread nD τ) arg7 fullShare x6
   ∗ owns (c : Thread nD τ) arg8 fullShare x7
   ∗ owns (c : Thread nD τ) arg9 fullShare x8
   ∗ owns (c : Thread nD τ) arg10 fullShare x9
   ∗ owns (c : Thread nD τ) arg11 fullShare x10
   ∗ owns (c : Thread nD τ) arg12 fullShare x11
   ∗ owns (c : Thread nD τ) arg13 fullShare x12
   ∗ owns (c : Thread nD τ) arg14 fullShare x13
   ∗ owns (c : Thread nD τ) arg15 fullShare x14
   ∗ owns (c : Thread nD τ) arg16 fullShare x15
   ∗ owns (c : Thread nD τ) arg17 fullShare x16
   ∗ owns (c : Thread nD τ) arg18 fullShare x17
   ∗ owns (c : Thread nD τ) arg19 fullShare x18
   ∗ owns (c : Thread nD τ) arg20 fullShare x19
   ∗ (∃ d, owns (c : Thread nD τ) arg21 fullShare d)
   ∗ owns (c : Thread nD τ) arg22 fullShare y21
   ∗ owns (c : Thread nD τ) arg23 fullShare y22
   ∗ owns (c : Thread nD τ) arg24 fullShare y23
   ∗ owns (c : Thread nD τ) arg25 fullShare y24
   ∗ owns (c : Thread nD τ) arg26 fullShare y25
   ∗ owns (c : Thread nD τ) arg27 fullShare y26
   ∗ (∃ d, owns (c : Thread nD τ) arg28 fullShare d)
   ∗ (∃ d, owns (c : Thread nD τ) arg29 fullShare d)
   ∗ (∃ d, owns (c : Thread nD τ) arg30 fullShare d)
   ∗ (∃ d, owns (c : Thread nD τ) arg31 fullShare d)
   ∗ (∃ d, owns (c : Thread nD τ) arg32 fullShare d)
   ∗ (∃ d, owns (c : Thread nD τ) arg33 fullShare d)
   ∗ (∃ d, owns (c : Thread nD τ) arg34 fullShare d)
   ∗ (∃ d, owns (c : Thread nD τ) arg35 fullShare d)
   ∗ (∃ d, owns (c : Thread nD τ) arg36 fullShare d)
   ∗ (∃ d, owns (c : Thread nD τ) arg37 fullShare d)
   ∗ (∃ d, owns (c : Thread nD τ) arg38 fullShare d)
   ∗ (∃ d, owns (c : Thread nD τ) arg39 fullShare d)
   ∗ (∃ d, owns (c : Thread nD τ) arg40 fullShare d)
   ∗ (∃ d, owns (c : Thread nD τ) arg41 fullShare d)
   ∗ (∃ d, owns (c : Thread nD τ) arg42 fullShare d)
   ∗ (∃ d, owns (c : Thread nD τ) arg43 fullShare d)
   ∗ (∃ d, owns (c : Thread nD τ) arg44 fullShare d)
   ∗ (∃ d, owns (c : Thread nD τ) arg45 fullShare d)
   ∗ (∃ d, owns (c : Thread nD τ) arg46 fullShare d)
   ∗ (∃ d, owns (c : Thread nD τ) arg47 fullShare d)
   ∗ (∃ d, owns (c : Thread nD τ) arg48 fullShare d)
   ∗ (∃ d, owns (c : Thread nD τ) arg49 fullShare d)
   ∗ (∃ d, owns (c : Thread nD τ) arg50 fullShare d)
   ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ owns (c : Thread nD τ) arg14 fullShare x13
      ∗ owns (c : Thread nD τ) arg15 fullShare x14
      ∗ owns (c : Thread nD τ) arg16 fullShare x15
      ∗ owns (c : Thread nD τ) arg17 fullShare x16
      ∗ owns (c : Thread nD τ) arg18 fullShare x17
      ∗ owns (c : Thread nD τ) arg19 fullShare x18
      ∗ owns (c : Thread nD τ) arg20 fullShare x19
      ∗ (∃ v4 v3 f, arg21.view.loc (c : Thread nD τ) ↦[arg21.view.set]{fullShare} arg21.view.writes (Elt F) f (⟨colsLru, v3⟩ :: ⟨colsGate, v4⟩ :: L20))
      ∗ (∃ f, arg22.view.loc (c : Thread nD τ) ↦[arg22.view.set]{fullShare} arg22.view.writes (Elt F) f L21)
      ∗ (∃ f, arg23.view.loc (c : Thread nD τ) ↦[arg23.view.set]{fullShare} arg23.view.writes (Elt F) f L22)
      ∗ (∃ f, arg24.view.loc (c : Thread nD τ) ↦[arg24.view.set]{fullShare} arg24.view.writes (Elt F) f L23)
      ∗ (∃ f, arg25.view.loc (c : Thread nD τ) ↦[arg25.view.set]{fullShare} arg25.view.writes (Elt F) f L24)
      ∗ (∃ f, arg26.view.loc (c : Thread nD τ) ↦[arg26.view.set]{fullShare} arg26.view.writes (Elt F) f L25)
      ∗ (∃ f, arg27.view.loc (c : Thread nD τ) ↦[arg27.view.set]{fullShare} arg27.view.writes (Elt F) f L26)
      ∗ (∃ d, owns (c : Thread nD τ) arg28 fullShare d)
      ∗ (∃ d, owns (c : Thread nD τ) arg29 fullShare d)
      ∗ (∃ d, owns (c : Thread nD τ) arg30 fullShare d)
      ∗ (∃ d, owns (c : Thread nD τ) arg31 fullShare d)
      ∗ (∃ d, owns (c : Thread nD τ) arg32 fullShare d)
      ∗ (∃ d, owns (c : Thread nD τ) arg33 fullShare d)
      ∗ (∃ d, owns (c : Thread nD τ) arg34 fullShare d)
      ∗ (∃ d, owns (c : Thread nD τ) arg35 fullShare d)
      ∗ (∃ d, owns (c : Thread nD τ) arg36 fullShare d)
      ∗ (∃ d, owns (c : Thread nD τ) arg37 fullShare d)
      ∗ (∃ d, owns (c : Thread nD τ) arg38 fullShare d)
      ∗ (∃ d, owns (c : Thread nD τ) arg39 fullShare d)
      ∗ (∃ d, owns (c : Thread nD τ) arg40 fullShare d)
      ∗ (∃ d, owns (c : Thread nD τ) arg41 fullShare d)
      ∗ (∃ d, owns (c : Thread nD τ) arg42 fullShare d)
      ∗ (∃ d, owns (c : Thread nD τ) arg43 fullShare d)
      ∗ (∃ d, owns (c : Thread nD τ) arg44 fullShare d)
      ∗ (∃ d, owns (c : Thread nD τ) arg45 fullShare d)
      ∗ (∃ d, owns (c : Thread nD τ) arg46 fullShare d)
      ∗ (∃ d, owns (c : Thread nD τ) arg47 fullShare d)
      ∗ (∃ d, owns (c : Thread nD τ) arg48 fullShare d)
      ∗ (∃ d, owns (c : Thread nD τ) arg49 fullShare d)
      ∗ (∃ d, owns (c : Thread nD τ) arg50 fullShare d)) -∗ K ⟨⟩))
      ⊢ wp frame (wpE (defs₀ (F := F)) Variants.none c none) E
    (cc0_branches_bwd (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50) K } := by
  refine ⟨?_, ?_, ?_, ?_, ?_, ?_, ?_, fun E K => ?run⟩
  case run =>
    simp only [cc0_branches_bwd_eq_skeleton]; unfold cc0_branches_bwd_skel
    simp only [k0_part51_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21; obtain rfl := harg23.eq_unread hf22; obtain rfl := harg24.eq_unread hf23; obtain rfl := harg25.eq_unread hf24; obtain rfl := harg26.eq_unread hf25; obtain rfl := harg27.eq_unread hf26
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _, _, _; iexact H20
    isplitl [H21]
    · iexists _; iexact H21
    isplitl [H22]
    · iexists _; iexact H22
    isplitl [H23]
    · iexists _; iexact H23
    isplitl [H24]
    · iexists _; iexact H24
    isplitl [H25]
    · iexists _; iexact H25
    isplitl [H26]
    · iexists _; iexact H26
    isplitl [H27]
    · iexists _, _; isplitr; swap; · iexact H27
      ipureintro; rfl
    isplitl [H28]
    · iexists _, _; isplitr; swap; · iexact H28
      ipureintro; rfl
    isplitl [H29]
    · iexists _, _; isplitr; swap; · iexact H29
      ipureintro; rfl
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [H33]
    · iexists _, _; isplitr; swap; · iexact H33
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    isplitl [HS10]
    · iexists _, _; isplitr; swap; · iexact HS10
      ipureintro; rfl
    isplitl [HS11]
    · iexists _, _; isplitr; swap; · iexact HS11
      ipureintro; rfl
    isplitl [HS12]
    · iexists _, _; isplitr; swap; · iexact HS12
      ipureintro; rfl
    isplitl [HS13]
    · iexists _, _; isplitr; swap; · iexact HS13
      ipureintro; rfl
    isplitl [HS14]
    · iexists _, _; isplitr; swap; · iexact HS14
      ipureintro; rfl
    iexists _, _; isplitr; swap; · iexact HS15
    ipureintro; rfl

end Cert.Kernel.Branches
-- ==== Proof.Frame.lean ====
module

public import proofs.«01_k».proof.Proof.RunFirst
public import proofs.«01_k».proof.Proof.RunMid
public import proofs.«01_k».proof.Proof.RunLast
public import proofs.«01_k».proof.Proof.Gen.Kernel.Frame

@[expose] public section

set_option maxRecDepth 16384

noncomputable section

namespace Cert.Kernel.Branches

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev st0 (t : Fin cfg0.N) : Memref sig .tc .vmem S4x256x1280 .bf16 := win0_0.stage (cfg0.slots t 0)
abbrev st1 (t : Fin cfg0.N) : Memref sig .tc .vmem S4x16x1280 .bf16 := win0_1.stage (cfg0.slots t 1)
abbrev st2 (t : Fin cfg0.N) : Memref sig .tc .vmem S256x1024 .f32 := win0_2.stage (cfg0.slots t 2)
abbrev st3 (t : Fin cfg0.N) : Memref sig .tc .vmem S8x1024 .f32 := win0_3.stage (cfg0.slots t 3)
abbrev st4 (t : Fin cfg0.N) : Memref sig .tc .vmem S256x2048 .f32 := win0_4.stage (cfg0.slots t 4)
abbrev st5 (t : Fin cfg0.N) : Memref sig .tc .vmem S1x1024 .f32 := win0_5.stage (cfg0.slots t 5)
abbrev st6 (t : Fin cfg0.N) : Memref sig .tc .vmem S1x1024 .f32 := win0_6.stage (cfg0.slots t 6)
abbrev st7 (t : Fin cfg0.N) : Memref sig .tc .vmem S8x128x128 .bf16 := win0_7.stage (cfg0.slots t 7)
abbrev st8 (t : Fin cfg0.N) : Memref sig .tc .vmem S8x128x128 .bf16 := win0_8.stage (cfg0.slots t 8)
abbrev st9 (t : Fin cfg0.N) : Memref sig .tc .vmem S128x1024 .f32 := win0_9.stage (cfg0.slots t 9)
abbrev st10 (t : Fin cfg0.N) : Memref sig .tc .vmem S4x1024 .f32 := win0_10.stage (cfg0.slots t 10)
abbrev st11 (t : Fin cfg0.N) : Memref sig .tc .vmem S1x1024 .f32 := win0_11.stage (cfg0.slots t 11)
abbrev st12 (t : Fin cfg0.N) : Memref sig .tc .vmem S8x128x128 .bf16 := win0_12.stage (cfg0.slots t 12)
abbrev st13 (t : Fin cfg0.N) : Memref sig .tc .vmem S8x128x128 .bf16 := win0_13.stage (cfg0.slots t 13)
abbrev st14 (t : Fin cfg0.N) : Memref sig .tc .vmem S1x1024 .f32 := win0_14.stage (cfg0.slots t 14)
abbrev st15 (t : Fin cfg0.N) : Memref sig .tc .vmem S1x1024 .f32 := win0_15.stage (cfg0.slots t 15)
abbrev st16 (t : Fin cfg0.N) : Memref sig .tc .vmem S1x1024 .f32 := win0_16.stage (cfg0.slots t 16)
abbrev st17 (t : Fin cfg0.N) : Memref sig .tc .vmem S1x1024 .f32 := win0_17.stage (cfg0.slots t 17)
abbrev st18 (t : Fin cfg0.N) : Memref sig .tc .vmem S1x1024 .f32 := win0_18.stage (cfg0.slots t 18)
abbrev st19 (t : Fin cfg0.N) : Memref sig .tc .vmem S8x128 .f32 := win0_19.stage (cfg0.slots t 19)
abbrev st20 (t : Fin cfg0.N) : Memref sig .tc .vmem S256x5120 .bf16 := win0_20.stage (cfg0.slots t 20)
abbrev st21 (t : Fin cfg0.N) : Memref sig .tc .vmem S8x1024 .f32 := win0_21.stage (cfg0.slots t 21)
abbrev st22 (t : Fin cfg0.N) : Memref sig .tc .vmem S8x1024 .f32 := win0_22.stage (cfg0.slots t 22)
abbrev st23 (t : Fin cfg0.N) : Memref sig .tc .vmem S8x1024 .f32 := win0_23.stage (cfg0.slots t 23)
abbrev st24 (t : Fin cfg0.N) : Memref sig .tc .vmem S8x1024 .f32 := win0_24.stage (cfg0.slots t 24)
abbrev st25 (t : Fin cfg0.N) : Memref sig .tc .vmem S128x1024 .f32 := win0_25.stage (cfg0.slots t 25)
abbrev st26 (t : Fin cfg0.N) : Memref sig .tc .vmem S8x128x128 .f32 := win0_26.stage (cfg0.slots t 26)
abbrev st27 (t : Fin cfg0.N) : Memref sig .tc .vmem S32x1024 .f32 := win0_27.stage (cfg0.slots t 27)
abbrev st28 (t : Fin cfg0.N) : Memref sig .tc .vmem S8x1024 .f32 := win0_28.stage (cfg0.slots t 28)
abbrev st29 (t : Fin cfg0.N) : Memref sig .tc .vmem S8x128x128 .f32 := win0_29.stage (cfg0.slots t 29)
abbrev st30 (t : Fin cfg0.N) : Memref sig .tc .vmem S8x1024 .f32 := win0_30.stage (cfg0.slots t 30)
abbrev st31 (t : Fin cfg0.N) : Memref sig .tc .vmem S8x128x128 .f32 := win0_31.stage (cfg0.slots t 31)
abbrev st32 (t : Fin cfg0.N) : Memref sig .tc .vmem S8x1024 .f32 := win0_32.stage (cfg0.slots t 32)
abbrev st33 (t : Fin cfg0.N) : Memref sig .tc .vmem S8x1024 .f32 := win0_33.stage (cfg0.slots t 33)
abbrev sc0 : Memref sig .tc .vmem S256x1024 .bf16 := Memref.whole cc0_scratch0
abbrev sc1 : Memref sig .tc .vmem S256x1024 .f32 := Memref.whole cc0_scratch1
abbrev sc2 : Memref sig .tc .vmem S256x1024 .bf16 := Memref.whole cc0_scratch2
abbrev sc3 : Memref sig .tc .vmem S256x1024 .f32 := Memref.whole cc0_scratch3
abbrev sc4 : Memref sig .tc .vmem S256x1024 .bf16 := Memref.whole cc0_scratch4
abbrev sc5 : Memref sig .tc .vmem S256x1024 .f32 := Memref.whole cc0_scratch5
abbrev sc6 : Memref sig .tc .vmem S256x1024 .f32 := Memref.whole cc0_scratch6
abbrev sc7 : Memref sig .tc .vmem S256x1024 .f32 := Memref.whole cc0_scratch7
abbrev sc8 : Memref sig .tc .vmem S256x1024 .f32 := Memref.whole cc0_scratch8
abbrev sc9 : Memref sig .tc .vmem S256x1024 .f32 := Memref.whole cc0_scratch9
abbrev sc10 : Memref sig .tc .vmem S256x1024 .bf16 := Memref.whole cc0_scratch10
abbrev sc11 : Memref sig .tc .vmem S256x1024 .bf16 := Memref.whole cc0_scratch11
abbrev sc12 : Memref sig .tc .vmem S256x1024 .f32 := Memref.whole cc0_scratch12
abbrev sc13 : Memref sig .tc .vmem S8x1024 .f32 := Memref.whole cc0_scratch13
abbrev sc14 : Memref sig .tc .vmem S8x1024 .f32 := Memref.whole cc0_scratch14
abbrev sc15 : Memref sig .tc .vmem S8x1024 .f32 := Memref.whole cc0_scratch15

/-- Between points: every scratch buffer at something, and the generator's state. -/
theorem idle_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d) ∗ (∃ d, owns (c : Thread nD τ) sc15 fullShare d))
        ∗ ∃ w, prngReg c w) := by
  unfold Pipeline.ΦA; rw [scopedRest0_eq]; simp only [sc0, sc1, sc2, sc3, sc4, sc5, sc6, sc7, sc8, sc9, sc10, sc11, sc12, sc13, sc14, sc15, owns_whole]; try rfl

/-- What the body stores at the first point. -/
def firstAt (c : Dev nD) (t : Fin cfg0.N) (h0 : t.val % 32 = 0) :=
  runFirst (F := F) (arg1 := st0 t) (harg1 := hstage0_0 ((cfg0.slots t 0).cast nbuf0_0)) (arg2 := st1 t) (harg2 := hstage0_1 ((cfg0.slots t 1).cast nbuf0_1)) (arg3 := st2 t) (harg3 := hstage0_2 ((cfg0.slots t 2).cast nbuf0_2)) (arg4 := st3 t) (harg4 := hstage0_3 ((cfg0.slots t 3).cast nbuf0_3)) (arg5 := st4 t) (harg5 := hstage0_4 ((cfg0.slots t 4).cast nbuf0_4)) (arg6 := st5 t) (harg6 := hstage0_5 ((cfg0.slots t 5).cast nbuf0_5)) (arg7 := st6 t) (harg7 := hstage0_6 ((cfg0.slots t 6).cast nbuf0_6)) (arg8 := st7 t) (harg8 := hstage0_7 ((cfg0.slots t 7).cast nbuf0_7)) (arg9 := st8 t) (harg9 := hstage0_8 ((cfg0.slots t 8).cast nbuf0_8)) (arg10 := st9 t) (harg10 := hstage0_9 ((cfg0.slots t 9).cast nbuf0_9)) (arg11 := st10 t) (harg11 := hstage0_10 ((cfg0.slots t 10).cast nbuf0_10)) (arg12 := st11 t) (harg12 := hstage0_11 ((cfg0.slots t 11).cast nbuf0_11)) (arg13 := st12 t) (harg13 := hstage0_12 ((cfg0.slots t 12).cast nbuf0_12)) (arg14 := st13 t) (harg14 := hstage0_13 ((cfg0.slots t 13).cast nbuf0_13)) (arg15 := st14 t) (harg15 := hstage0_14 ((cfg0.slots t 14).cast nbuf0_14)) (arg16 := st15 t) (harg16 := hstage0_15 ((cfg0.slots t 15).cast nbuf0_15)) (arg17 := st16 t) (harg17 := hstage0_16 ((cfg0.slots t 16).cast nbuf0_16)) (arg18 := st17 t) (harg18 := hstage0_17 ((cfg0.slots t 17).cast nbuf0_17)) (arg19 := st18 t) (harg19 := hstage0_18 ((cfg0.slots t 18).cast nbuf0_18)) (arg20 := st19 t) (harg20 := hstage0_19 ((cfg0.slots t 19).cast nbuf0_19)) (arg21 := st20 t) (harg21 := hstage0_20 ((cfg0.slots t 20).cast nbuf0_20)) (arg22 := st21 t) (harg22 := hstage0_21 ((cfg0.slots t 21).cast nbuf0_21)) (arg23 := st22 t) (harg23 := hstage0_22 ((cfg0.slots t 22).cast nbuf0_22)) (arg24 := st23 t) (harg24 := hstage0_23 ((cfg0.slots t 23).cast nbuf0_23)) (arg25 := st24 t) (harg25 := hstage0_24 ((cfg0.slots t 24).cast nbuf0_24)) (arg26 := st25 t) (harg26 := hstage0_25 ((cfg0.slots t 25).cast nbuf0_25)) (arg27 := st26 t) (harg27 := hstage0_26 ((cfg0.slots t 26).cast nbuf0_26)) (arg28 := st27 t) (harg28 := hstage0_27 ((cfg0.slots t 27).cast nbuf0_27)) (arg29 := st28 t) (harg29 := hstage0_28 ((cfg0.slots t 28).cast nbuf0_28)) (arg30 := st29 t) (harg30 := hstage0_29 ((cfg0.slots t 29).cast nbuf0_29)) (arg31 := st30 t) (harg31 := hstage0_30 ((cfg0.slots t 30).cast nbuf0_30)) (arg32 := st31 t) (harg32 := hstage0_31 ((cfg0.slots t 31).cast nbuf0_31)) (arg33 := st32 t) (harg33 := hstage0_32 ((cfg0.slots t 32).cast nbuf0_32)) (arg34 := st33 t) (harg34 := hstage0_33 ((cfg0.slots t 33).cast nbuf0_33)) (arg35 := sc0) (harg35 := Memref.isWhole_whole _) (arg36 := sc1) (harg36 := Memref.isWhole_whole _) (arg37 := sc2) (harg37 := Memref.isWhole_whole _) (arg38 := sc3) (harg38 := Memref.isWhole_whole _) (arg39 := sc4) (harg39 := Memref.isWhole_whole _) (arg40 := sc5) (harg40 := Memref.isWhole_whole _) (arg41 := sc6) (harg41 := Memref.isWhole_whole _) (arg42 := sc7) (harg42 := Memref.isWhole_whole _) (arg43 := sc8) (harg43 := Memref.isWhole_whole _) (arg44 := sc9) (harg44 := Memref.isWhole_whole _) (arg45 := sc10) (harg45 := Memref.isWhole_whole _) (arg46 := sc11) (harg46 := Memref.isWhole_whole _) (arg47 := sc12) (harg47 := Memref.isWhole_whole _) (arg48 := sc13) (harg48 := Memref.isWhole_whole _) (arg49 := sc14) (harg49 := Memref.isWhole_whole _) (arg50 := sc15) (harg50 := Memref.isWhole_whole _)
    c ((first_iff t).mpr h0) (fun h => by have := (last_iff t).mp h; omega)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- What the body stores at a middle point that finds the accumulators at `y·`. -/
def midAt (c : Dev nD) (t : Fin cfg0.N) (h0 : ¬t.val % 32 = 0) (h1 : ¬t.val % 32 = 31) (y21 : Vec F S8x1024 .f32) (y22 : Vec F S8x1024 .f32) (y23 : Vec F S8x1024 .f32) (y24 : Vec F S8x1024 .f32) (y25 : Vec F S128x1024 .f32) (y26 : Vec F S8x128x128 .f32) :=
  runMid (F := F) (arg1 := st0 t) (harg1 := hstage0_0 ((cfg0.slots t 0).cast nbuf0_0)) (arg2 := st1 t) (harg2 := hstage0_1 ((cfg0.slots t 1).cast nbuf0_1)) (arg3 := st2 t) (harg3 := hstage0_2 ((cfg0.slots t 2).cast nbuf0_2)) (arg4 := st3 t) (harg4 := hstage0_3 ((cfg0.slots t 3).cast nbuf0_3)) (arg5 := st4 t) (harg5 := hstage0_4 ((cfg0.slots t 4).cast nbuf0_4)) (arg6 := st5 t) (harg6 := hstage0_5 ((cfg0.slots t 5).cast nbuf0_5)) (arg7 := st6 t) (harg7 := hstage0_6 ((cfg0.slots t 6).cast nbuf0_6)) (arg8 := st7 t) (harg8 := hstage0_7 ((cfg0.slots t 7).cast nbuf0_7)) (arg9 := st8 t) (harg9 := hstage0_8 ((cfg0.slots t 8).cast nbuf0_8)) (arg10 := st9 t) (harg10 := hstage0_9 ((cfg0.slots t 9).cast nbuf0_9)) (arg11 := st10 t) (harg11 := hstage0_10 ((cfg0.slots t 10).cast nbuf0_10)) (arg12 := st11 t) (harg12 := hstage0_11 ((cfg0.slots t 11).cast nbuf0_11)) (arg13 := st12 t) (harg13 := hstage0_12 ((cfg0.slots t 12).cast nbuf0_12)) (arg14 := st13 t) (harg14 := hstage0_13 ((cfg0.slots t 13).cast nbuf0_13)) (arg15 := st14 t) (harg15 := hstage0_14 ((cfg0.slots t 14).cast nbuf0_14)) (arg16 := st15 t) (harg16 := hstage0_15 ((cfg0.slots t 15).cast nbuf0_15)) (arg17 := st16 t) (harg17 := hstage0_16 ((cfg0.slots t 16).cast nbuf0_16)) (arg18 := st17 t) (harg18 := hstage0_17 ((cfg0.slots t 17).cast nbuf0_17)) (arg19 := st18 t) (harg19 := hstage0_18 ((cfg0.slots t 18).cast nbuf0_18)) (arg20 := st19 t) (harg20 := hstage0_19 ((cfg0.slots t 19).cast nbuf0_19)) (arg21 := st20 t) (harg21 := hstage0_20 ((cfg0.slots t 20).cast nbuf0_20)) (arg22 := st21 t) (harg22 := hstage0_21 ((cfg0.slots t 21).cast nbuf0_21)) (arg23 := st22 t) (harg23 := hstage0_22 ((cfg0.slots t 22).cast nbuf0_22)) (arg24 := st23 t) (harg24 := hstage0_23 ((cfg0.slots t 23).cast nbuf0_23)) (arg25 := st24 t) (harg25 := hstage0_24 ((cfg0.slots t 24).cast nbuf0_24)) (arg26 := st25 t) (harg26 := hstage0_25 ((cfg0.slots t 25).cast nbuf0_25)) (arg27 := st26 t) (harg27 := hstage0_26 ((cfg0.slots t 26).cast nbuf0_26)) (arg28 := st27 t) (harg28 := hstage0_27 ((cfg0.slots t 27).cast nbuf0_27)) (arg29 := st28 t) (harg29 := hstage0_28 ((cfg0.slots t 28).cast nbuf0_28)) (arg30 := st29 t) (harg30 := hstage0_29 ((cfg0.slots t 29).cast nbuf0_29)) (arg31 := st30 t) (harg31 := hstage0_30 ((cfg0.slots t 30).cast nbuf0_30)) (arg32 := st31 t) (harg32 := hstage0_31 ((cfg0.slots t 31).cast nbuf0_31)) (arg33 := st32 t) (harg33 := hstage0_32 ((cfg0.slots t 32).cast nbuf0_32)) (arg34 := st33 t) (harg34 := hstage0_33 ((cfg0.slots t 33).cast nbuf0_33)) (arg35 := sc0) (harg35 := Memref.isWhole_whole _) (arg36 := sc1) (harg36 := Memref.isWhole_whole _) (arg37 := sc2) (harg37 := Memref.isWhole_whole _) (arg38 := sc3) (harg38 := Memref.isWhole_whole _) (arg39 := sc4) (harg39 := Memref.isWhole_whole _) (arg40 := sc5) (harg40 := Memref.isWhole_whole _) (arg41 := sc6) (harg41 := Memref.isWhole_whole _) (arg42 := sc7) (harg42 := Memref.isWhole_whole _) (arg43 := sc8) (harg43 := Memref.isWhole_whole _) (arg44 := sc9) (harg44 := Memref.isWhole_whole _) (arg45 := sc10) (harg45 := Memref.isWhole_whole _) (arg46 := sc11) (harg46 := Memref.isWhole_whole _) (arg47 := sc12) (harg47 := Memref.isWhole_whole _) (arg48 := sc13) (harg48 := Memref.isWhole_whole _) (arg49 := sc14) (harg49 := Memref.isWhole_whole _) (arg50 := sc15) (harg50 := Memref.isWhole_whole _)
    c (fun h => h0 ((first_iff t).mp h)) (fun h => h1 ((last_iff t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y21 y22 y23 y24 y25 y26

/-- What the body stores at the last point. -/
def lastAt (c : Dev nD) (t : Fin cfg0.N) (h1 : t.val % 32 = 31) (y21 : Vec F S8x1024 .f32) (y22 : Vec F S8x1024 .f32) (y23 : Vec F S8x1024 .f32) (y24 : Vec F S8x1024 .f32) (y25 : Vec F S128x1024 .f32) (y26 : Vec F S8x128x128 .f32) :=
  runLast (F := F) (arg1 := st0 t) (harg1 := hstage0_0 ((cfg0.slots t 0).cast nbuf0_0)) (arg2 := st1 t) (harg2 := hstage0_1 ((cfg0.slots t 1).cast nbuf0_1)) (arg3 := st2 t) (harg3 := hstage0_2 ((cfg0.slots t 2).cast nbuf0_2)) (arg4 := st3 t) (harg4 := hstage0_3 ((cfg0.slots t 3).cast nbuf0_3)) (arg5 := st4 t) (harg5 := hstage0_4 ((cfg0.slots t 4).cast nbuf0_4)) (arg6 := st5 t) (harg6 := hstage0_5 ((cfg0.slots t 5).cast nbuf0_5)) (arg7 := st6 t) (harg7 := hstage0_6 ((cfg0.slots t 6).cast nbuf0_6)) (arg8 := st7 t) (harg8 := hstage0_7 ((cfg0.slots t 7).cast nbuf0_7)) (arg9 := st8 t) (harg9 := hstage0_8 ((cfg0.slots t 8).cast nbuf0_8)) (arg10 := st9 t) (harg10 := hstage0_9 ((cfg0.slots t 9).cast nbuf0_9)) (arg11 := st10 t) (harg11 := hstage0_10 ((cfg0.slots t 10).cast nbuf0_10)) (arg12 := st11 t) (harg12 := hstage0_11 ((cfg0.slots t 11).cast nbuf0_11)) (arg13 := st12 t) (harg13 := hstage0_12 ((cfg0.slots t 12).cast nbuf0_12)) (arg14 := st13 t) (harg14 := hstage0_13 ((cfg0.slots t 13).cast nbuf0_13)) (arg15 := st14 t) (harg15 := hstage0_14 ((cfg0.slots t 14).cast nbuf0_14)) (arg16 := st15 t) (harg16 := hstage0_15 ((cfg0.slots t 15).cast nbuf0_15)) (arg17 := st16 t) (harg17 := hstage0_16 ((cfg0.slots t 16).cast nbuf0_16)) (arg18 := st17 t) (harg18 := hstage0_17 ((cfg0.slots t 17).cast nbuf0_17)) (arg19 := st18 t) (harg19 := hstage0_18 ((cfg0.slots t 18).cast nbuf0_18)) (arg20 := st19 t) (harg20 := hstage0_19 ((cfg0.slots t 19).cast nbuf0_19)) (arg21 := st20 t) (harg21 := hstage0_20 ((cfg0.slots t 20).cast nbuf0_20)) (arg22 := st21 t) (harg22 := hstage0_21 ((cfg0.slots t 21).cast nbuf0_21)) (arg23 := st22 t) (harg23 := hstage0_22 ((cfg0.slots t 22).cast nbuf0_22)) (arg24 := st23 t) (harg24 := hstage0_23 ((cfg0.slots t 23).cast nbuf0_23)) (arg25 := st24 t) (harg25 := hstage0_24 ((cfg0.slots t 24).cast nbuf0_24)) (arg26 := st25 t) (harg26 := hstage0_25 ((cfg0.slots t 25).cast nbuf0_25)) (arg27 := st26 t) (harg27 := hstage0_26 ((cfg0.slots t 26).cast nbuf0_26)) (arg28 := st27 t) (harg28 := hstage0_27 ((cfg0.slots t 27).cast nbuf0_27)) (arg29 := st28 t) (harg29 := hstage0_28 ((cfg0.slots t 28).cast nbuf0_28)) (arg30 := st29 t) (harg30 := hstage0_29 ((cfg0.slots t 29).cast nbuf0_29)) (arg31 := st30 t) (harg31 := hstage0_30 ((cfg0.slots t 30).cast nbuf0_30)) (arg32 := st31 t) (harg32 := hstage0_31 ((cfg0.slots t 31).cast nbuf0_31)) (arg33 := st32 t) (harg33 := hstage0_32 ((cfg0.slots t 32).cast nbuf0_32)) (arg34 := st33 t) (harg34 := hstage0_33 ((cfg0.slots t 33).cast nbuf0_33)) (arg35 := sc0) (harg35 := Memref.isWhole_whole _) (arg36 := sc1) (harg36 := Memref.isWhole_whole _) (arg37 := sc2) (harg37 := Memref.isWhole_whole _) (arg38 := sc3) (harg38 := Memref.isWhole_whole _) (arg39 := sc4) (harg39 := Memref.isWhole_whole _) (arg40 := sc5) (harg40 := Memref.isWhole_whole _) (arg41 := sc6) (harg41 := Memref.isWhole_whole _) (arg42 := sc7) (harg42 := Memref.isWhole_whole _) (arg43 := sc8) (harg43 := Memref.isWhole_whole _) (arg44 := sc9) (harg44 := Memref.isWhole_whole _) (arg45 := sc10) (harg45 := Memref.isWhole_whole _) (arg46 := sc11) (harg46 := Memref.isWhole_whole _) (arg47 := sc12) (harg47 := Memref.isWhole_whole _) (arg48 := sc13) (harg48 := Memref.isWhole_whole _) (arg49 := sc14) (harg49 := Memref.isWhole_whole _) (arg50 := sc15) (harg50 := Memref.isWhole_whole _)
    c (fun h => by have := (first_iff t).mp h; omega) ((last_iff t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) y21 y22 y23 y24 y25 y26

/-- What a point may leave in window 20. -/
def Left20 (c : Dev nD) (t : Fin cfg0.N) (X : Vec F S256x5120 .bf16) : Prop :=
  (∀ h0 : t.val % 32 = 0, ∃ (v4 : colsGate.shape.Idx → Elt F .bf16) (v3 : colsLru.shape.Idx → Elt F .bf16) (f : _), X = (st20 t).view.read (Elt F) ((st20 t).view.writes (Elt F) f (⟨colsLru, v3⟩ :: ⟨colsGate, v4⟩ :: (firstAt m c t h0).1)))
  ∧ (∀ (h0 : ¬t.val % 32 = 0) (h1 : ¬t.val % 32 = 31), ∃ (y21 : Vec F S8x1024 .f32) (y22 : Vec F S8x1024 .f32) (y23 : Vec F S8x1024 .f32) (y24 : Vec F S8x1024 .f32) (y25 : Vec F S128x1024 .f32) (y26 : Vec F S8x128x128 .f32) (v4 : colsGate.shape.Idx → Elt F .bf16) (v3 : colsLru.shape.Idx → Elt F .bf16) (f : _), X = (st20 t).view.read (Elt F) ((st20 t).view.writes (Elt F) f (⟨colsLru, v3⟩ :: ⟨colsGate, v4⟩ :: (midAt m c t h0 h1 y21 y22 y23 y24 y25 y26).1)))
  ∧ (∀ h1 : t.val % 32 = 31, ∃ (y21 : Vec F S8x1024 .f32) (y22 : Vec F S8x1024 .f32) (y23 : Vec F S8x1024 .f32) (y24 : Vec F S8x1024 .f32) (y25 : Vec F S128x1024 .f32) (y26 : Vec F S8x128x128 .f32) (v4 : colsGate.shape.Idx → Elt F .bf16) (v3 : colsLru.shape.Idx → Elt F .bf16) (f : _), X = (st20 t).view.read (Elt F) ((st20 t).view.writes (Elt F) f (⟨colsLru, v3⟩ :: ⟨colsGate, v4⟩ :: (lastAt m c t h1 y21 y22 y23 y24 y25 y26).1)))

/-- What a point may leave in window 21, if it finds `Y`. -/
def Left21 (c : Dev nD) (t : Fin cfg0.N) (Y : Vec F S8x1024 .f32) (X : Vec F S8x1024 .f32) : Prop :=
  (∀ h0 : t.val % 32 = 0, ∃ (f : _), X = (st21 t).view.read (Elt F) ((st21 t).view.writes (Elt F) f ((firstAt m c t h0).2.1)))
  ∧ (∀ (h0 : ¬t.val % 32 = 0) (h1 : ¬t.val % 32 = 31), ∃ (y22 : Vec F S8x1024 .f32) (y23 : Vec F S8x1024 .f32) (y24 : Vec F S8x1024 .f32) (y25 : Vec F S128x1024 .f32) (y26 : Vec F S8x128x128 .f32) (f : _), X = (st21 t).view.read (Elt F) ((st21 t).view.writes (Elt F) f ((midAt m c t h0 h1 Y y22 y23 y24 y25 y26).2.1)))
  ∧ (∀ h1 : t.val % 32 = 31, ∃ (y22 : Vec F S8x1024 .f32) (y23 : Vec F S8x1024 .f32) (y24 : Vec F S8x1024 .f32) (y25 : Vec F S128x1024 .f32) (y26 : Vec F S8x128x128 .f32) (f : _), X = (st21 t).view.read (Elt F) ((st21 t).view.writes (Elt F) f ((lastAt m c t h1 Y y22 y23 y24 y25 y26).2.1)))

/-- What a point may leave in window 22, if it finds `Y`. -/
def Left22 (c : Dev nD) (t : Fin cfg0.N) (Y : Vec F S8x1024 .f32) (X : Vec F S8x1024 .f32) : Prop :=
  (∀ h0 : t.val % 32 = 0, ∃ (f : _), X = (st22 t).view.read (Elt F) ((st22 t).view.writes (Elt F) f ((firstAt m c t h0).2.2.1)))
  ∧ (∀ (h0 : ¬t.val % 32 = 0) (h1 : ¬t.val % 32 = 31), ∃ (y21 : Vec F S8x1024 .f32) (y23 : Vec F S8x1024 .f32) (y24 : Vec F S8x1024 .f32) (y25 : Vec F S128x1024 .f32) (y26 : Vec F S8x128x128 .f32) (f : _), X = (st22 t).view.read (Elt F) ((st22 t).view.writes (Elt F) f ((midAt m c t h0 h1 y21 Y y23 y24 y25 y26).2.2.1)))
  ∧ (∀ h1 : t.val % 32 = 31, ∃ (y21 : Vec F S8x1024 .f32) (y23 : Vec F S8x1024 .f32) (y24 : Vec F S8x1024 .f32) (y25 : Vec F S128x1024 .f32) (y26 : Vec F S8x128x128 .f32) (f : _), X = (st22 t).view.read (Elt F) ((st22 t).view.writes (Elt F) f ((lastAt m c t h1 y21 Y y23 y24 y25 y26).2.2.1)))

/-- What a point may leave in window 23, if it finds `Y`. -/
def Left23 (c : Dev nD) (t : Fin cfg0.N) (Y : Vec F S8x1024 .f32) (X : Vec F S8x1024 .f32) : Prop :=
  (∀ h0 : t.val % 32 = 0, ∃ (f : _), X = (st23 t).view.read (Elt F) ((st23 t).view.writes (Elt F) f ((firstAt m c t h0).2.2.2.1)))
  ∧ (∀ (h0 : ¬t.val % 32 = 0) (h1 : ¬t.val % 32 = 31), ∃ (y21 : Vec F S8x1024 .f32) (y22 : Vec F S8x1024 .f32) (y24 : Vec F S8x1024 .f32) (y25 : Vec F S128x1024 .f32) (y26 : Vec F S8x128x128 .f32) (f : _), X = (st23 t).view.read (Elt F) ((st23 t).view.writes (Elt F) f ((midAt m c t h0 h1 y21 y22 Y y24 y25 y26).2.2.2.1)))
  ∧ (∀ h1 : t.val % 32 = 31, ∃ (y21 : Vec F S8x1024 .f32) (y22 : Vec F S8x1024 .f32) (y24 : Vec F S8x1024 .f32) (y25 : Vec F S128x1024 .f32) (y26 : Vec F S8x128x128 .f32) (f : _), X = (st23 t).view.read (Elt F) ((st23 t).view.writes (Elt F) f ((lastAt m c t h1 y21 y22 Y y24 y25 y26).2.2.2.1)))

/-- What a point may leave in window 24, if it finds `Y`. -/
def Left24 (c : Dev nD) (t : Fin cfg0.N) (Y : Vec F S8x1024 .f32) (X : Vec F S8x1024 .f32) : Prop :=
  (∀ h0 : t.val % 32 = 0, ∃ (f : _), X = (st24 t).view.read (Elt F) ((st24 t).view.writes (Elt F) f ((firstAt m c t h0).2.2.2.2.1)))
  ∧ (∀ (h0 : ¬t.val % 32 = 0) (h1 : ¬t.val % 32 = 31), ∃ (y21 : Vec F S8x1024 .f32) (y22 : Vec F S8x1024 .f32) (y23 : Vec F S8x1024 .f32) (y25 : Vec F S128x1024 .f32) (y26 : Vec F S8x128x128 .f32) (f : _), X = (st24 t).view.read (Elt F) ((st24 t).view.writes (Elt F) f ((midAt m c t h0 h1 y21 y22 y23 Y y25 y26).2.2.2.2.1)))
  ∧ (∀ h1 : t.val % 32 = 31, ∃ (y21 : Vec F S8x1024 .f32) (y22 : Vec F S8x1024 .f32) (y23 : Vec F S8x1024 .f32) (y25 : Vec F S128x1024 .f32) (y26 : Vec F S8x128x128 .f32) (f : _), X = (st24 t).view.read (Elt F) ((st24 t).view.writes (Elt F) f ((lastAt m c t h1 y21 y22 y23 Y y25 y26).2.2.2.2.1)))

/-- What a point may leave in window 25, if it finds `Y`. -/
def Left25 (c : Dev nD) (t : Fin cfg0.N) (Y : Vec F S128x1024 .f32) (X : Vec F S128x1024 .f32) : Prop :=
  (∀ h0 : t.val % 32 = 0, ∃ (f : _), X = (st25 t).view.read (Elt F) ((st25 t).view.writes (Elt F) f ((firstAt m c t h0).2.2.2.2.2.1)))
  ∧ (∀ (h0 : ¬t.val % 32 = 0) (h1 : ¬t.val % 32 = 31), ∃ (y21 : Vec F S8x1024 .f32) (y22 : Vec F S8x1024 .f32) (y23 : Vec F S8x1024 .f32) (y24 : Vec F S8x1024 .f32) (y26 : Vec F S8x128x128 .f32) (f : _), X = (st25 t).view.read (Elt F) ((st25 t).view.writes (Elt F) f ((midAt m c t h0 h1 y21 y22 y23 y24 Y y26).2.2.2.2.2.1)))
  ∧ (∀ h1 : t.val % 32 = 31, ∃ (y21 : Vec F S8x1024 .f32) (y22 : Vec F S8x1024 .f32) (y23 : Vec F S8x1024 .f32) (y24 : Vec F S8x1024 .f32) (y26 : Vec F S8x128x128 .f32) (f : _), X = (st25 t).view.read (Elt F) ((st25 t).view.writes (Elt F) f ((lastAt m c t h1 y21 y22 y23 y24 Y y26).2.2.2.2.2.1)))

/-- What a point may leave in window 26, if it finds `Y`. -/
def Left26 (c : Dev nD) (t : Fin cfg0.N) (Y : Vec F S8x128x128 .f32) (X : Vec F S8x128x128 .f32) : Prop :=
  (∀ h0 : t.val % 32 = 0, ∃ (f : _), X = (st26 t).view.read (Elt F) ((st26 t).view.writes (Elt F) f ((firstAt m c t h0).2.2.2.2.2.2.1)))
  ∧ (∀ (h0 : ¬t.val % 32 = 0) (h1 : ¬t.val % 32 = 31), ∃ (y21 : Vec F S8x1024 .f32) (y22 : Vec F S8x1024 .f32) (y23 : Vec F S8x1024 .f32) (y24 : Vec F S8x1024 .f32) (y25 : Vec F S128x1024 .f32) (f : _), X = (st26 t).view.read (Elt F) ((st26 t).view.writes (Elt F) f ((midAt m c t h0 h1 y21 y22 y23 y24 y25 Y).2.2.2.2.2.2.1)))
  ∧ (∀ h1 : t.val % 32 = 31, ∃ (y21 : Vec F S8x1024 .f32) (y22 : Vec F S8x1024 .f32) (y23 : Vec F S8x1024 .f32) (y24 : Vec F S8x1024 .f32) (y25 : Vec F S128x1024 .f32) (f : _), X = (st26 t).view.read (Elt F) ((st26 t).view.writes (Elt F) f ((lastAt m c t h1 y21 y22 y23 y24 y25 Y).2.2.2.2.2.2.1)))

/-- The proof data: what the body may leave in each window, given what it found there. -/
def rdat (c : Dev nD) : Pipeline.RDat τ (Elt F) Unit ℕ (UR sig nD τ) ℕ cfg0 c where
  A w := V m c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => fun Y X => X = Y
    | ⟨10, _⟩ => fun Y X => X = Y
    | ⟨11, _⟩ => fun Y X => X = Y
    | ⟨12, _⟩ => fun Y X => X = Y
    | ⟨13, _⟩ => fun Y X => X = Y
    | ⟨14, _⟩ => fun Y X => X = Y
    | ⟨15, _⟩ => fun Y X => X = Y
    | ⟨16, _⟩ => fun Y X => X = Y
    | ⟨17, _⟩ => fun Y X => X = Y
    | ⟨18, _⟩ => fun Y X => X = Y
    | ⟨19, _⟩ => fun Y X => X = Y
    | ⟨20, _⟩ => fun Y X => Left20 m c t X
    | ⟨21, _⟩ => fun Y X => Left21 m c t (Y) X
    | ⟨22, _⟩ => fun Y X => Left22 m c t (Y) X
    | ⟨23, _⟩ => fun Y X => Left23 m c t (Y) X
    | ⟨24, _⟩ => fun Y X => Left24 m c t (Y) X
    | ⟨25, _⟩ => fun Y X => Left25 m c t (Y) X
    | ⟨26, _⟩ => fun Y X => Left26 m c t (Y) X
    | ⟨27, _⟩ => fun Y X => True
    | ⟨28, _⟩ => fun Y X => True
    | ⟨29, _⟩ => fun Y X => True
    | ⟨30, _⟩ => fun Y X => True
    | ⟨31, _⟩ => fun Y X => True
    | ⟨32, _⟩ => fun Y X => True
    | ⟨33, _⟩ => fun Y X => True
    | ⟨_ + 34, h⟩ => absurd h (Nat.not_lt.2 (Nat.le_add_left _ _))
  Φ _ := Pipeline.ΦA spec0 c
  q w := Pipeline.shareOf spec0 w
  owed _ := 0

theorem A_eq (c : Dev nD) (w : Fin cfg0.W) : (rdat m c).A w = V m c (Pipeline.arrRef spec0 w) := by
  dsimp only [rdat]

theorem finds0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold Pipeline.RDat.fetched Pipeline.RDat.blockOf iblk; rw [A_eq]; try rfl
theorem finds1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold Pipeline.RDat.fetched Pipeline.RDat.blockOf iblk; rw [A_eq]; try rfl
theorem finds2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold Pipeline.RDat.fetched Pipeline.RDat.blockOf iblk; rw [A_eq]; try rfl
theorem finds3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold Pipeline.RDat.fetched Pipeline.RDat.blockOf iblk; rw [A_eq]; try rfl
theorem finds4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ h => h) t Y h
  unfold Pipeline.RDat.fetched Pipeline.RDat.blockOf iblk; rw [A_eq]; try rfl
theorem finds5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ h => h) t Y h
  unfold Pipeline.RDat.fetched Pipeline.RDat.blockOf iblk; rw [A_eq]; try rfl
theorem finds6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ h => h) t Y h
  unfold Pipeline.RDat.fetched Pipeline.RDat.blockOf iblk; rw [A_eq]; try rfl
theorem finds7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ h => h) t Y h
  unfold Pipeline.RDat.fetched Pipeline.RDat.blockOf iblk; rw [A_eq]; try rfl
theorem finds8 (c : Dev nD) (t : Fin cfg0.N) (Y) (h : (rdat m c).Finds 8 t Y) : Y = iblk m c 8 t := by
  obtain ⟨d, rfl⟩ := (rdat m c).finds_in_eq_fetched 8 rfl (fun _ _ _ => rfl) (fun _ _ _ h => h) t Y h
  unfold Pipeline.RDat.fetched Pipeline.RDat.blockOf iblk; rw [A_eq]; try rfl
theorem finds9 (c : Dev nD) (t : Fin cfg0.N) (Y) (h : (rdat m c).Finds 9 t Y) : Y = iblk m c 9 t := by
  obtain ⟨d, rfl⟩ := (rdat m c).finds_in_eq_fetched 9 rfl (fun _ _ _ => rfl) (fun _ _ _ h => h) t Y h
  unfold Pipeline.RDat.fetched Pipeline.RDat.blockOf iblk; rw [A_eq]; try rfl
theorem finds10 (c : Dev nD) (t : Fin cfg0.N) (Y) (h : (rdat m c).Finds 10 t Y) : Y = iblk m c 10 t := by
  obtain ⟨d, rfl⟩ := (rdat m c).finds_in_eq_fetched 10 rfl (fun _ _ _ => rfl) (fun _ _ _ h => h) t Y h
  unfold Pipeline.RDat.fetched Pipeline.RDat.blockOf iblk; rw [A_eq]; try rfl
theorem finds11 (c : Dev nD) (t : Fin cfg0.N) (Y) (h : (rdat m c).Finds 11 t Y) : Y = iblk m c 11 t := by
  obtain ⟨d, rfl⟩ := (rdat m c).finds_in_eq_fetched 11 rfl (fun _ _ _ => rfl) (fun _ _ _ h => h) t Y h
  unfold Pipeline.RDat.fetched Pipeline.RDat.blockOf iblk; rw [A_eq]; try rfl
theorem finds12 (c : Dev nD) (t : Fin cfg0.N) (Y) (h : (rdat m c).Finds 12 t Y) : Y = iblk m c 12 t := by
  obtain ⟨d, rfl⟩ := (rdat m c).finds_in_eq_fetched 12 rfl (fun _ _ _ => rfl) (fun _ _ _ h => h) t Y h
  unfold Pipeline.RDat.fetched Pipeline.RDat.blockOf iblk; rw [A_eq]; try rfl
theorem finds13 (c : Dev nD) (t : Fin cfg0.N) (Y) (h : (rdat m c).Finds 13 t Y) : Y = iblk m c 13 t := by
  obtain ⟨d, rfl⟩ := (rdat m c).finds_in_eq_fetched 13 rfl (fun _ _ _ => rfl) (fun _ _ _ h => h) t Y h
  unfold Pipeline.RDat.fetched Pipeline.RDat.blockOf iblk; rw [A_eq]; try rfl
theorem finds14 (c : Dev nD) (t : Fin cfg0.N) (Y) (h : (rdat m c).Finds 14 t Y) : Y = iblk m c 14 t := by
  obtain ⟨d, rfl⟩ := (rdat m c).finds_in_eq_fetched 14 rfl (fun _ _ _ => rfl) (fun _ _ _ h => h) t Y h
  unfold Pipeline.RDat.fetched Pipeline.RDat.blockOf iblk; rw [A_eq]; try rfl
theorem finds15 (c : Dev nD) (t : Fin cfg0.N) (Y) (h : (rdat m c).Finds 15 t Y) : Y = iblk m c 15 t := by
  obtain ⟨d, rfl⟩ := (rdat m c).finds_in_eq_fetched 15 rfl (fun _ _ _ => rfl) (fun _ _ _ h => h) t Y h
  unfold Pipeline.RDat.fetched Pipeline.RDat.blockOf iblk; rw [A_eq]; try rfl
theorem finds16 (c : Dev nD) (t : Fin cfg0.N) (Y) (h : (rdat m c).Finds 16 t Y) : Y = iblk m c 16 t := by
  obtain ⟨d, rfl⟩ := (rdat m c).finds_in_eq_fetched 16 rfl (fun _ _ _ => rfl) (fun _ _ _ h => h) t Y h
  unfold Pipeline.RDat.fetched Pipeline.RDat.blockOf iblk; rw [A_eq]; try rfl
theorem finds17 (c : Dev nD) (t : Fin cfg0.N) (Y) (h : (rdat m c).Finds 17 t Y) : Y = iblk m c 17 t := by
  obtain ⟨d, rfl⟩ := (rdat m c).finds_in_eq_fetched 17 rfl (fun _ _ _ => rfl) (fun _ _ _ h => h) t Y h
  unfold Pipeline.RDat.fetched Pipeline.RDat.blockOf iblk; rw [A_eq]; try rfl
theorem finds18 (c : Dev nD) (t : Fin cfg0.N) (Y) (h : (rdat m c).Finds 18 t Y) : Y = iblk m c 18 t := by
  obtain ⟨d, rfl⟩ := (rdat m c).finds_in_eq_fetched 18 rfl (fun _ _ _ => rfl) (fun _ _ _ h => h) t Y h
  unfold Pipeline.RDat.fetched Pipeline.RDat.blockOf iblk; rw [A_eq]; try rfl
theorem finds19 (c : Dev nD) (t : Fin cfg0.N) (Y) (h : (rdat m c).Finds 19 t Y) : Y = iblk m c 19 t := by
  obtain ⟨d, rfl⟩ := (rdat m c).finds_in_eq_fetched 19 rfl (fun _ _ _ => rfl) (fun _ _ _ h => h) t Y h
  unfold Pipeline.RDat.fetched Pipeline.RDat.blockOf iblk; rw [A_eq]; try rfl

/-- What the body is handed at point `t`, -/
def held (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (st0 t) fullShare (Y 0)
    ∗ owns (c : Thread nD τ) (st1 t) fullShare (Y 1)
    ∗ owns (c : Thread nD τ) (st2 t) fullShare (Y 2)
    ∗ owns (c : Thread nD τ) (st3 t) fullShare (Y 3)
    ∗ owns (c : Thread nD τ) (st4 t) fullShare (Y 4)
    ∗ owns (c : Thread nD τ) (st5 t) fullShare (Y 5)
    ∗ owns (c : Thread nD τ) (st6 t) fullShare (Y 6)
    ∗ owns (c : Thread nD τ) (st7 t) fullShare (Y 7)
    ∗ owns (c : Thread nD τ) (st8 t) fullShare (Y 8)
    ∗ owns (c : Thread nD τ) (st9 t) fullShare (Y 9)
    ∗ owns (c : Thread nD τ) (st10 t) fullShare (Y 10)
    ∗ owns (c : Thread nD τ) (st11 t) fullShare (Y 11)
    ∗ owns (c : Thread nD τ) (st12 t) fullShare (Y 12)
    ∗ owns (c : Thread nD τ) (st13 t) fullShare (Y 13)
    ∗ owns (c : Thread nD τ) (st14 t) fullShare (Y 14)
    ∗ owns (c : Thread nD τ) (st15 t) fullShare (Y 15)
    ∗ owns (c : Thread nD τ) (st16 t) fullShare (Y 16)
    ∗ owns (c : Thread nD τ) (st17 t) fullShare (Y 17)
    ∗ owns (c : Thread nD τ) (st18 t) fullShare (Y 18)
    ∗ owns (c : Thread nD τ) (st19 t) fullShare (Y 19)
    ∗ owns (c : Thread nD τ) (st20 t) fullShare (Y 20)
    ∗ owns (c : Thread nD τ) (st21 t) fullShare (Y 21)
    ∗ owns (c : Thread nD τ) (st22 t) fullShare (Y 22)
    ∗ owns (c : Thread nD τ) (st23 t) fullShare (Y 23)
    ∗ owns (c : Thread nD τ) (st24 t) fullShare (Y 24)
    ∗ owns (c : Thread nD τ) (st25 t) fullShare (Y 25)
    ∗ owns (c : Thread nD τ) (st26 t) fullShare (Y 26)
    ∗ owns (c : Thread nD τ) (st27 t) fullShare (Y 27)
    ∗ owns (c : Thread nD τ) (st28 t) fullShare (Y 28)
    ∗ owns (c : Thread nD τ) (st29 t) fullShare (Y 29)
    ∗ owns (c : Thread nD τ) (st30 t) fullShare (Y 30)
    ∗ owns (c : Thread nD τ) (st31 t) fullShare (Y 31)
    ∗ owns (c : Thread nD τ) (st32 t) fullShare (Y 32)
    ∗ owns (c : Thread nD τ) (st33 t) fullShare (Y 33))

/-- and what it returns. -/
def returned (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜X = Y 0⌝ ∗ owns (c : Thread nD τ) (st0 t) fullShare X)
    ∗ (∃ X, ⌜X = Y 1⌝ ∗ owns (c : Thread nD τ) (st1 t) fullShare X)
    ∗ (∃ X, ⌜X = Y 2⌝ ∗ owns (c : Thread nD τ) (st2 t) fullShare X)
    ∗ (∃ X, ⌜X = Y 3⌝ ∗ owns (c : Thread nD τ) (st3 t) fullShare X)
    ∗ (∃ X, ⌜X = Y 4⌝ ∗ owns (c : Thread nD τ) (st4 t) fullShare X)
    ∗ (∃ X, ⌜X = Y 5⌝ ∗ owns (c : Thread nD τ) (st5 t) fullShare X)
    ∗ (∃ X, ⌜X = Y 6⌝ ∗ owns (c : Thread nD τ) (st6 t) fullShare X)
    ∗ (∃ X, ⌜X = Y 7⌝ ∗ owns (c : Thread nD τ) (st7 t) fullShare X)
    ∗ (∃ X, ⌜X = Y 8⌝ ∗ owns (c : Thread nD τ) (st8 t) fullShare X)
    ∗ (∃ X, ⌜X = Y 9⌝ ∗ owns (c : Thread nD τ) (st9 t) fullShare X)
    ∗ (∃ X, ⌜X = Y 10⌝ ∗ owns (c : Thread nD τ) (st10 t) fullShare X)
    ∗ (∃ X, ⌜X = Y 11⌝ ∗ owns (c : Thread nD τ) (st11 t) fullShare X)
    ∗ (∃ X, ⌜X = Y 12⌝ ∗ owns (c : Thread nD τ) (st12 t) fullShare X)
    ∗ (∃ X, ⌜X = Y 13⌝ ∗ owns (c : Thread nD τ) (st13 t) fullShare X)
    ∗ (∃ X, ⌜X = Y 14⌝ ∗ owns (c : Thread nD τ) (st14 t) fullShare X)
    ∗ (∃ X, ⌜X = Y 15⌝ ∗ owns (c : Thread nD τ) (st15 t) fullShare X)
    ∗ (∃ X, ⌜X = Y 16⌝ ∗ owns (c : Thread nD τ) (st16 t) fullShare X)
    ∗ (∃ X, ⌜X = Y 17⌝ ∗ owns (c : Thread nD τ) (st17 t) fullShare X)
    ∗ (∃ X, ⌜X = Y 18⌝ ∗ owns (c : Thread nD τ) (st18 t) fullShare X)
    ∗ (∃ X, ⌜X = Y 19⌝ ∗ owns (c : Thread nD τ) (st19 t) fullShare X)
    ∗ (∃ X, ⌜Left20 m c t X⌝ ∗ owns (c : Thread nD τ) (st20 t) fullShare X)
    ∗ (∃ X, ⌜Left21 m c t (Y 21) X⌝ ∗ owns (c : Thread nD τ) (st21 t) fullShare X)
    ∗ (∃ X, ⌜Left22 m c t (Y 22) X⌝ ∗ owns (c : Thread nD τ) (st22 t) fullShare X)
    ∗ (∃ X, ⌜Left23 m c t (Y 23) X⌝ ∗ owns (c : Thread nD τ) (st23 t) fullShare X)
    ∗ (∃ X, ⌜Left24 m c t (Y 24) X⌝ ∗ owns (c : Thread nD τ) (st24 t) fullShare X)
    ∗ (∃ X, ⌜Left25 m c t (Y 25) X⌝ ∗ owns (c : Thread nD τ) (st25 t) fullShare X)
    ∗ (∃ X, ⌜Left26 m c t (Y 26) X⌝ ∗ owns (c : Thread nD τ) (st26 t) fullShare X)
    ∗ (∃ X, ⌜True⌝ ∗ owns (c : Thread nD τ) (st27 t) fullShare X)
    ∗ (∃ X, ⌜True⌝ ∗ owns (c : Thread nD τ) (st28 t) fullShare X)
    ∗ (∃ X, ⌜True⌝ ∗ owns (c : Thread nD τ) (st29 t) fullShare X)
    ∗ (∃ X, ⌜True⌝ ∗ owns (c : Thread nD τ) (st30 t) fullShare X)
    ∗ (∃ X, ⌜True⌝ ∗ owns (c : Thread nD τ) (st31 t) fullShare X)
    ∗ (∃ X, ⌜True⌝ ∗ owns (c : Thread nD τ) (st32 t) fullShare X)
    ∗ (∃ X, ⌜True⌝ ∗ owns (c : Thread nD τ) (st33 t) fullShare X))

set_option maxHeartbeats 1000000 in
theorem sound_first (c : Dev nD) (t : Fin cfg0.N) (h0 : t.val % 32 = 0) (Y : (w : Fin cfg0.W) → (cfg0.win w).block.Idx → Elt F (cfg0.win w).elt)
    (e0 : Y 0 = iblk m c 0 t)
    (e1 : Y 1 = iblk m c 1 t)
    (e2 : Y 2 = iblk m c 2 t)
    (e3 : Y 3 = iblk m c 3 t)
    (e4 : Y 4 = iblk m c 4 t)
    (e5 : Y 5 = iblk m c 5 t)
    (e6 : Y 6 = iblk m c 6 t)
    (e7 : Y 7 = iblk m c 7 t)
    (e8 : Y 8 = iblk m c 8 t)
    (e9 : Y 9 = iblk m c 9 t)
    (e10 : Y 10 = iblk m c 10 t)
    (e11 : Y 11 = iblk m c 11 t)
    (e12 : Y 12 = iblk m c 12 t)
    (e13 : Y 13 = iblk m c 13 t)
    (e14 : Y 14 = iblk m c 14 t)
    (e15 : Y 15 = iblk m c 15 t)
    (e16 : Y 16 = iblk m c 16 t)
    (e17 : Y 17 = iblk m c 17 t)
    (e18 : Y 18 = iblk m c 18 t)
    (e19 : Y 19 = iblk m c 19 t) :
    held m c t Y ⊢ wp frame (wpE (defs₀ (F := F)) Variants.none c none) Set.univ (bodyAt0 (F := F) t) (fun _ => returned m c t Y) := by
  unfold held returned bodyAt0
  rw [show (rdat m c).owesAt () t.succ = (rdat m c).owesAt () t.castSucc from rfl,
    show (rdat m c).Φ t.castSucc = Pipeline.ΦA spec0 c from rfl, show (rdat m c).Φ t.succ = Pipeline.ΦA spec0 c from rfl, idle_eq]
  rw [e0, e1, e2, e3, e4, e5, e6, e7, e8, e9, e10, e11, e12, e13, e14, e15, e16, e17, e18, e19]
  iintro ⟨⟨⟨HS0, HS1, HS2, HS3, HS4, HS5, HS6, HS7, HS8, HS9, HS10, HS11, HS12, HS13, HS14, HS15⟩, Hg⟩, Ho, H0, H1, H2, H3, H4, H5, H6, H7, H8, H9, H10, H11, H12, H13, H14, H15, H16, H17, H18, H19, H20, H21, H22, H23, H24, H25, H26, H27, H28, H29, H30, H31, H32, H33⟩
  iapply ((firstAt m c t h0).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, H11, H12, H13, H14, H15, H16, H17, H18, H19, ⟨%v4, %v3, %f20, H20⟩, ⟨%f21, H21⟩, ⟨%f22, H22⟩, ⟨%f23, H23⟩, ⟨%f24, H24⟩, ⟨%f25, H25⟩, ⟨%f26, H26⟩, ⟨%X27, H27⟩, ⟨%X28, H28⟩, ⟨%X29, H29⟩, ⟨%X30, H30⟩, ⟨%X31, H31⟩, ⟨%X32, H32⟩, ⟨%X33, H33⟩, HS0, HS1, HS2, HS3, HS4, HS5, HS6, HS7, HS8, HS9, HS10, HS11, HS12, HS13, HS14, HS15⟩
  isplitl [HS0 HS1 HS2 HS3 HS4 HS5 HS6 HS7 HS8 HS9 HS10 HS11 HS12 HS13 HS14 HS15 Hg]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  isplitl [H16]
  · iexists _; isplitr; · ipureintro; rfl
    iexact H16
  isplitl [H17]
  · iexists _; isplitr; · ipureintro; rfl
    iexact H17
  isplitl [H18]
  · iexists _; isplitr; · ipureintro; rfl
    iexact H18
  isplitl [H19]
  · iexists _; isplitr; · ipureintro; rfl
    iexact H19
  isplitl [H20]
  · iexists _; isplitr; swap
    · unfold owns; iexists _; isplitr; swap; · iexact H20
      ipureintro; rfl
    ipureintro; exact ⟨fun _ => ⟨_, _, _, rfl⟩, fun h => absurd h0 h, fun h => by omega⟩
  isplitl [H21]
  · iexists _; isplitr; swap
    · unfold owns; iexists _; isplitr; swap; · iexact H21
      ipureintro; rfl
    ipureintro; exact ⟨fun _ => ⟨_, rfl⟩, fun h => absurd h0 h, fun h => by omega⟩
  isplitl [H22]
  · iexists _; isplitr; swap
    · unfold owns; iexists _; isplitr; swap; · iexact H22
      ipureintro; rfl
    ipureintro; exact ⟨fun _ => ⟨_, rfl⟩, fun h => absurd h0 h, fun h => by omega⟩
  isplitl [H23]
  · iexists _; isplitr; swap
    · unfold owns; iexists _; isplitr; swap; · iexact H23
      ipureintro; rfl
    ipureintro; exact ⟨fun _ => ⟨_, rfl⟩, fun h => absurd h0 h, fun h => by omega⟩
  isplitl [H24]
  · iexists _; isplitr; swap
    · unfold owns; iexists _; isplitr; swap; · iexact H24
      ipureintro; rfl
    ipureintro; exact ⟨fun _ => ⟨_, rfl⟩, fun h => absurd h0 h, fun h => by omega⟩
  isplitl [H25]
  · iexists _; isplitr; swap
    · unfold owns; iexists _; isplitr; swap; · iexact H25
      ipureintro; rfl
    ipureintro; exact ⟨fun _ => ⟨_, rfl⟩, fun h => absurd h0 h, fun h => by omega⟩
  isplitl [H26]
  · iexists _; isplitr; swap
    · unfold owns; iexists _; isplitr; swap; · iexact H26
      ipureintro; rfl
    ipureintro; exact ⟨fun _ => ⟨_, rfl⟩, fun h => absurd h0 h, fun h => by omega⟩
  isplitl [H27]
  · iexists _; isplitr; · ipureintro; trivial
    iexact H27
  isplitl [H28]
  · iexists _; isplitr; · ipureintro; trivial
    iexact H28
  isplitl [H29]
  · iexists _; isplitr; · ipureintro; trivial
    iexact H29
  isplitl [H30]
  · iexists _; isplitr; · ipureintro; trivial
    iexact H30
  isplitl [H31]
  · iexists _; isplitr; · ipureintro; trivial
    iexact H31
  isplitl [H32]
  · iexists _; isplitr; · ipureintro; trivial
    iexact H32
  iexists _; isplitr; · ipureintro; trivial
  iexact H33

set_option maxHeartbeats 1000000 in
theorem sound_mid (c : Dev nD) (t : Fin cfg0.N) (h0 : ¬t.val % 32 = 0) (h1 : ¬t.val % 32 = 31) (Y : (w : Fin cfg0.W) → (cfg0.win w).block.Idx → Elt F (cfg0.win w).elt)
    (e0 : Y 0 = iblk m c 0 t)
    (e1 : Y 1 = iblk m c 1 t)
    (e2 : Y 2 = iblk m c 2 t)
    (e3 : Y 3 = iblk m c 3 t)
    (e4 : Y 4 = iblk m c 4 t)
    (e5 : Y 5 = iblk m c 5 t)
    (e6 : Y 6 = iblk m c 6 t)
    (e7 : Y 7 = iblk m c 7 t)
    (e8 : Y 8 = iblk m c 8 t)
    (e9 : Y 9 = iblk m c 9 t)
    (e10 : Y 10 = iblk m c 10 t)
    (e11 : Y 11 = iblk m c 11 t)
    (e12 : Y 12 = iblk m c 12 t)
    (e13 : Y 13 = iblk m c 13 t)
    (e14 : Y 14 = iblk m c 14 t)
    (e15 : Y 15 = iblk m c 15 t)
    (e16 : Y 16 = iblk m c 16 t)
    (e17 : Y 17 = iblk m c 17 t)
    (e18 : Y 18 = iblk m c 18 t)
    (e19 : Y 19 = iblk m c 19 t) :
    held m c t Y ⊢ wp frame (wpE (defs₀ (F := F)) Variants.none c none) Set.univ (bodyAt0 (F := F) t) (fun _ => returned m c t Y) := by
  unfold held returned bodyAt0
  rw [show (rdat m c).owesAt () t.succ = (rdat m c).owesAt () t.castSucc from rfl,
    show (rdat m c).Φ t.castSucc = Pipeline.ΦA spec0 c from rfl, show (rdat m c).Φ t.succ = Pipeline.ΦA spec0 c from rfl, idle_eq]
  rw [e0, e1, e2, e3, e4, e5, e6, e7, e8, e9, e10, e11, e12, e13, e14, e15, e16, e17, e18, e19]
  iintro ⟨⟨⟨HS0, HS1, HS2, HS3, HS4, HS5, HS6, HS7, HS8, HS9, HS10, HS11, HS12, HS13, HS14, HS15⟩, Hg⟩, Ho, H0, H1, H2, H3, H4, H5, H6, H7, H8, H9, H10, H11, H12, H13, H14, H15, H16, H17, H18, H19, H20, H21, H22, H23, H24, H25, H26, H27, H28, H29, H30, H31, H32, H33⟩
  iapply ((midAt m c t h0 h1 (Y 21) (Y 22) (Y 23) (Y 24) (Y 25) (Y 26)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, H11, H12, H13, H14, H15, H16, H17, H18, H19, ⟨%v4, %v3, %f20, H20⟩, ⟨%f21, H21⟩, ⟨%f22, H22⟩, ⟨%f23, H23⟩, ⟨%f24, H24⟩, ⟨%f25, H25⟩, ⟨%f26, H26⟩, ⟨%X27, H27⟩, ⟨%X28, H28⟩, ⟨%X29, H29⟩, ⟨%X30, H30⟩, ⟨%X31, H31⟩, ⟨%X32, H32⟩, ⟨%X33, H33⟩, HS0, HS1, HS2, HS3, HS4, HS5, HS6, HS7, HS8, HS9, HS10, HS11, HS12, HS13, HS14, HS15⟩
  isplitl [HS0 HS1 HS2 HS3 HS4 HS5 HS6 HS7 HS8 HS9 HS10 HS11 HS12 HS13 HS14 HS15 Hg]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  isplitl [H16]
  · iexists _; isplitr; · ipureintro; rfl
    iexact H16
  isplitl [H17]
  · iexists _; isplitr; · ipureintro; rfl
    iexact H17
  isplitl [H18]
  · iexists _; isplitr; · ipureintro; rfl
    iexact H18
  isplitl [H19]
  · iexists _; isplitr; · ipureintro; rfl
    iexact H19
  isplitl [H20]
  · iexists _; isplitr; swap
    · unfold owns; iexists _; isplitr; swap; · iexact H20
      ipureintro; rfl
    ipureintro; exact ⟨fun h => absurd h h0, fun _ _ => ⟨_, _, _, _, _, _, _, _, _, rfl⟩, fun h => absurd h h1⟩
  isplitl [H21]
  · iexists _; isplitr; swap
    · unfold owns; iexists _; isplitr; swap; · iexact H21
      ipureintro; rfl
    ipureintro; exact ⟨fun h => absurd h h0, fun _ _ => ⟨_, _, _, _, _, _, rfl⟩, fun h => absurd h h1⟩
  isplitl [H22]
  · iexists _; isplitr; swap
    · unfold owns; iexists _; isplitr; swap; · iexact H22
      ipureintro; rfl
    ipureintro; exact ⟨fun h => absurd h h0, fun _ _ => ⟨_, _, _, _, _, _, rfl⟩, fun h => absurd h h1⟩
  isplitl [H23]
  · iexists _; isplitr; swap
    · unfold owns; iexists _; isplitr; swap; · iexact H23
      ipureintro; rfl
    ipureintro; exact ⟨fun h => absurd h h0, fun _ _ => ⟨_, _, _, _, _, _, rfl⟩, fun h => absurd h h1⟩
  isplitl [H24]
  · iexists _; isplitr; swap
    · unfold owns; iexists _; isplitr; swap; · iexact H24
      ipureintro; rfl
    ipureintro; exact ⟨fun h => absurd h h0, fun _ _ => ⟨_, _, _, _, _, _, rfl⟩, fun h => absurd h h1⟩
  isplitl [H25]
  · iexists _; isplitr; swap
    · unfold owns; iexists _; isplitr; swap; · iexact H25
      ipureintro; rfl
    ipureintro; exact ⟨fun h => absurd h h0, fun _ _ => ⟨_, _, _, _, _, _, rfl⟩, fun h => absurd h h1⟩
  isplitl [H26]
  · iexists _; isplitr; swap
    · unfold owns; iexists _; isplitr; swap; · iexact H26
      ipureintro; rfl
    ipureintro; exact ⟨fun h => absurd h h0, fun _ _ => ⟨_, _, _, _, _, _, rfl⟩, fun h => absurd h h1⟩
  isplitl [H27]
  · iexists _; isplitr; · ipureintro; trivial
    iexact H27
  isplitl [H28]
  · iexists _; isplitr; · ipureintro; trivial
    iexact H28
  isplitl [H29]
  · iexists _; isplitr; · ipureintro; trivial
    iexact H29
  isplitl [H30]
  · iexists _; isplitr; · ipureintro; trivial
    iexact H30
  isplitl [H31]
  · iexists _; isplitr; · ipureintro; trivial
    iexact H31
  isplitl [H32]
  · iexists _; isplitr; · ipureintro; trivial
    iexact H32
  iexists _; isplitr; · ipureintro; trivial
  iexact H33

set_option maxHeartbeats 1000000 in
theorem sound_last (c : Dev nD) (t : Fin cfg0.N) (h1 : t.val % 32 = 31) (Y : (w : Fin cfg0.W) → (cfg0.win w).block.Idx → Elt F (cfg0.win w).elt)
    (e0 : Y 0 = iblk m c 0 t)
    (e1 : Y 1 = iblk m c 1 t)
    (e2 : Y 2 = iblk m c 2 t)
    (e3 : Y 3 = iblk m c 3 t)
    (e4 : Y 4 = iblk m c 4 t)
    (e5 : Y 5 = iblk m c 5 t)
    (e6 : Y 6 = iblk m c 6 t)
    (e7 : Y 7 = iblk m c 7 t)
    (e8 : Y 8 = iblk m c 8 t)
    (e9 : Y 9 = iblk m c 9 t)
    (e10 : Y 10 = iblk m c 10 t)
    (e11 : Y 11 = iblk m c 11 t)
    (e12 : Y 12 = iblk m c 12 t)
    (e13 : Y 13 = iblk m c 13 t)
    (e14 : Y 14 = iblk m c 14 t)
    (e15 : Y 15 = iblk m c 15 t)
    (e16 : Y 16 = iblk m c 16 t)
    (e17 : Y 17 = iblk m c 17 t)
    (e18 : Y 18 = iblk m c 18 t)
    (e19 : Y 19 = iblk m c 19 t) :
    held m c t Y ⊢ wp frame (wpE (defs₀ (F := F)) Variants.none c none) Set.univ (bodyAt0 (F := F) t) (fun _ => returned m c t Y) := by
  unfold held returned bodyAt0
  rw [show (rdat m c).owesAt () t.succ = (rdat m c).owesAt () t.castSucc from rfl,
    show (rdat m c).Φ t.castSucc = Pipeline.ΦA spec0 c from rfl, show (rdat m c).Φ t.succ = Pipeline.ΦA spec0 c from rfl, idle_eq]
  rw [e0, e1, e2, e3, e4, e5, e6, e7, e8, e9, e10, e11, e12, e13, e14, e15, e16, e17, e18, e19]
  iintro ⟨⟨⟨HS0, HS1, HS2, HS3, HS4, HS5, HS6, HS7, HS8, HS9, HS10, HS11, HS12, HS13, HS14, HS15⟩, Hg⟩, Ho, H0, H1, H2, H3, H4, H5, H6, H7, H8, H9, H10, H11, H12, H13, H14, H15, H16, H17, H18, H19, H20, H21, H22, H23, H24, H25, H26, H27, H28, H29, H30, H31, H32, H33⟩
  iapply ((lastAt m c t h1 (Y 21) (Y 22) (Y 23) (Y 24) (Y 25) (Y 26)).2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexact H21
  isplitl [H22]; · iexact H22
  isplitl [H23]; · iexact H23
  isplitl [H24]; · iexact H24
  isplitl [H25]; · iexact H25
  isplitl [H26]; · iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  iintro ⟨H0, H1, H2, H3, H4, H5, H6, H7, H8, H9, H10, H11, H12, H13, H14, H15, H16, H17, H18, H19, ⟨%v4, %v3, %f20, H20⟩, ⟨%f21, H21⟩, ⟨%f22, H22⟩, ⟨%f23, H23⟩, ⟨%f24, H24⟩, ⟨%f25, H25⟩, ⟨%f26, H26⟩, ⟨%X27, H27⟩, ⟨%X28, H28⟩, ⟨%X29, H29⟩, ⟨%X30, H30⟩, ⟨%X31, H31⟩, ⟨%X32, H32⟩, ⟨%X33, H33⟩, HS0, HS1, HS2, HS3, HS4, HS5, HS6, HS7, HS8, HS9, HS10, HS11, HS12, HS13, HS14, HS15⟩
  isplitl [HS0 HS1 HS2 HS3 HS4 HS5 HS6 HS7 HS8 HS9 HS10 HS11 HS12 HS13 HS14 HS15 Hg]
  · isplitl [HS0 HS1 HS2 HS3 HS4 HS5 HS6 HS7 HS8 HS9 HS10 HS11 HS12 HS13 HS14 HS15]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      isplitl [HS11]; · iexact HS11
      isplitl [HS12]; · iexact HS12
      isplitl [HS13]; · iexact HS13
      isplitl [HS14]; · iexact HS14
      iexact HS15
    iexact Hg
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H12]
  · iexists _; isplitr; · ipureintro; rfl
    iexact H12
  isplitl [H13]
  · iexists _; isplitr; · ipureintro; rfl
    iexact H13
  isplitl [H14]
  · iexists _; isplitr; · ipureintro; rfl
    iexact H14
  isplitl [H15]
  · iexists _; isplitr; · ipureintro; rfl
    iexact H15
  isplitl [H16]
  · iexists _; isplitr; · ipureintro; rfl
    iexact H16
  isplitl [H17]
  · iexists _; isplitr; · ipureintro; rfl
    iexact H17
  isplitl [H18]
  · iexists _; isplitr; · ipureintro; rfl
    iexact H18
  isplitl [H19]
  · iexists _; isplitr; · ipureintro; rfl
    iexact H19
  isplitl [H20]
  · iexists _; isplitr; swap
    · unfold owns; iexists _; isplitr; swap; · iexact H20
      ipureintro; rfl
    ipureintro; exact ⟨fun h => by omega, fun _ h => absurd h1 h, fun _ => ⟨_, _, _, _, _, _, _, _, _, rfl⟩⟩
  isplitl [H21]
  · iexists _; isplitr; swap
    · unfold owns; iexists _; isplitr; swap; · iexact H21
      ipureintro; rfl
    ipureintro; exact ⟨fun h => by omega, fun _ h => absurd h1 h, fun _ => ⟨_, _, _, _, _, _, rfl⟩⟩
  isplitl [H22]
  · iexists _; isplitr; swap
    · unfold owns; iexists _; isplitr; swap; · iexact H22
      ipureintro; rfl
    ipureintro; exact ⟨fun h => by omega, fun _ h => absurd h1 h, fun _ => ⟨_, _, _, _, _, _, rfl⟩⟩
  isplitl [H23]
  · iexists _; isplitr; swap
    · unfold owns; iexists _; isplitr; swap; · iexact H23
      ipureintro; rfl
    ipureintro; exact ⟨fun h => by omega, fun _ h => absurd h1 h, fun _ => ⟨_, _, _, _, _, _, rfl⟩⟩
  isplitl [H24]
  · iexists _; isplitr; swap
    · unfold owns; iexists _; isplitr; swap; · iexact H24
      ipureintro; rfl
    ipureintro; exact ⟨fun h => by omega, fun _ h => absurd h1 h, fun _ => ⟨_, _, _, _, _, _, rfl⟩⟩
  isplitl [H25]
  · iexists _; isplitr; swap
    · unfold owns; iexists _; isplitr; swap; · iexact H25
      ipureintro; rfl
    ipureintro; exact ⟨fun h => by omega, fun _ h => absurd h1 h, fun _ => ⟨_, _, _, _, _, _, rfl⟩⟩
  isplitl [H26]
  · iexists _; isplitr; swap
    · unfold owns; iexists _; isplitr; swap; · iexact H26
      ipureintro; rfl
    ipureintro; exact ⟨fun h => by omega, fun _ h => absurd h1 h, fun _ => ⟨_, _, _, _, _, _, rfl⟩⟩
  isplitl [H27]
  · iexists _; isplitr; · ipureintro; trivial
    iexact H27
  isplitl [H28]
  · iexists _; isplitr; · ipureintro; trivial
    iexact H28
  isplitl [H29]
  · iexists _; isplitr; · ipureintro; trivial
    iexact H29
  isplitl [H30]
  · iexists _; isplitr; · ipureintro; trivial
    iexact H30
  isplitl [H31]
  · iexists _; isplitr; · ipureintro; trivial
    iexact H31
  isplitl [H32]
  · iexists _; isplitr; · ipureintro; trivial
    iexact H32
  iexists _; isplitr; · ipureintro; trivial
  iexact H33

theorem defs₀_row (t : Fin cfg0.N) : defs₀ (F := F) .tc cfg0.body (cfg0.bodyArgs t (cfg0.slots t)) = bodyAt0 t := by
  unfold defs₀; rw [Defs.onTc_tc]

theorem body_obligation (c : Dev nD) : (rdat m c).BodyObligation (defs₀ (F := F)) Variants.none () Set.univ := fun t Y hY => by
  rw [bigSep_W0, bigSep_W0, defs₀_row]
  by_cases h0 : t.val % 32 = 0
  · exact triple_restated (sound_first m c t h0 Y (finds0 m c t _ (hY 0)) (finds1 m c t _ (hY 1)) (finds2 m c t _ (hY 2)) (finds3 m c t _ (hY 3)) (finds4 m c t _ (hY 4)) (finds5 m c t _ (hY 5)) (finds6 m c t _ (hY 6)) (finds7 m c t _ (hY 7)) (finds8 m c t _ (hY 8)) (finds9 m c t _ (hY 9)) (finds10 m c t _ (hY 10)) (finds11 m c t _ (hY 11)) (finds12 m c t _ (hY 12)) (finds13 m c t _ (hY 13)) (finds14 m c t _ (hY 14)) (finds15 m c t _ (hY 15)) (finds16 m c t _ (hY 16)) (finds17 m c t _ (hY 17)) (finds18 m c t _ (hY 18)) (finds19 m c t _ (hY 19))) rfl .rfl fun _ => .rfl
  by_cases h1 : t.val % 32 = 31
  · exact triple_restated (sound_last m c t h1 Y (finds0 m c t _ (hY 0)) (finds1 m c t _ (hY 1)) (finds2 m c t _ (hY 2)) (finds3 m c t _ (hY 3)) (finds4 m c t _ (hY 4)) (finds5 m c t _ (hY 5)) (finds6 m c t _ (hY 6)) (finds7 m c t _ (hY 7)) (finds8 m c t _ (hY 8)) (finds9 m c t _ (hY 9)) (finds10 m c t _ (hY 10)) (finds11 m c t _ (hY 11)) (finds12 m c t _ (hY 12)) (finds13 m c t _ (hY 13)) (finds14 m c t _ (hY 14)) (finds15 m c t _ (hY 15)) (finds16 m c t _ (hY 16)) (finds17 m c t _ (hY 17)) (finds18 m c t _ (hY 18)) (finds19 m c t _ (hY 19))) rfl .rfl fun _ => .rfl
  · exact triple_restated (sound_mid m c t h0 h1 Y (finds0 m c t _ (hY 0)) (finds1 m c t _ (hY 1)) (finds2 m c t _ (hY 2)) (finds3 m c t _ (hY 3)) (finds4 m c t _ (hY 4)) (finds5 m c t _ (hY 5)) (finds6 m c t _ (hY 6)) (finds7 m c t _ (hY 7)) (finds8 m c t _ (hY 8)) (finds9 m c t _ (hY 9)) (finds10 m c t _ (hY 10)) (finds11 m c t _ (hY 11)) (finds12 m c t _ (hY 12)) (finds13 m c t _ (hY 13)) (finds14 m c t _ (hY 14)) (finds15 m c t _ (hY 15)) (finds16 m c t _ (hY 16)) (finds17 m c t _ (hY 17)) (finds18 m c t _ (hY 18)) (finds19 m c t _ (hY 19))) rfl .rfl fun _ => .rfl

-- the launch theorem's implicit arguments are found by unifying its conclusion, which unfolds definitions in a metavariable's type
set_option backward.isDefEq.respectTransparency.types false in
/-- The launch: every execution ends with the arrays as the proof data says and every counter at zero. -/
theorem run_main : θ_run defs (onTc (τ := τ) (main (F := F))) (s₀ m ρ)
    (fun r => Pipeline.RDat.FramePost (cfgs 0) (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl) (V := V m)
    (hmain := hmain m Variants.none) (hA := A_eq m) (hin := fun _ => .rfl) (hout := fun _ => .rfl)

/-- At a final state every argument array holds what it held. -/
theorem unchanged (r : PUnit × MemSt nD τ sig (Elt F)) (h : Pipeline.RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨(Pipeline.RDat.FramePost.arr_in h c 1 rfl).trans ((A_eq m c 1).trans (V_main_arg0 m c)),
    (Pipeline.RDat.FramePost.arr_in h c 3 rfl).trans ((A_eq m c 3).trans (V_main_arg1 m c)),
    (Pipeline.RDat.FramePost.arr_in h c 4 rfl).trans ((A_eq m c 4).trans (V_main_arg2 m c)),
    (Pipeline.RDat.FramePost.arr_in h c 5 rfl).trans ((A_eq m c 5).trans (V_main_arg3 m c)),
    (Pipeline.RDat.FramePost.arr_in h c 6 rfl).trans ((A_eq m c 6).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    (Pipeline.RDat.FramePost.arr_in h c 11 rfl).trans ((A_eq m c 11).trans (V_main_arg8 m c)),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    (Pipeline.RDat.FramePost.arr_in h c 16 rfl).trans ((A_eq m c 16).trans (V_main_arg13 m c)),
    (Pipeline.RDat.FramePost.arr_in h c 17 rfl).trans ((A_eq m c 17).trans (V_main_arg14 m c)),
    (Pipeline.RDat.FramePost.arr_in h c 18 rfl).trans ((A_eq m c 18).trans (V_main_arg15 m c))⟩

end Cert.Kernel.Branches
-- ==== Proof.GradWIn.lean ====
/- The gradient of the input projection's weight: the array the kernel leaves, element by element, is the sum over all
   8192 tokens that the reference's contraction takes. The kernel adds four products of 2048 tokens each. -/
module

public import proofs.«01_k».proof.Defs
public import proofs.«01_k».proof.Proof.Gen.Kernel2Ideal.Value
public import Idealize.ShloMosaic.Lib.Pointwise

@[expose] public section

noncomputable section

namespace Cert.Kernel2Ideal.Grad

open Cert.Kernel2Ideal Cert.Kernel2Ideal.Gen Cert.Kernel2Ideal.Value Idealize.ShloMosaic Idealize.ShloMosaic.TcCoe

variable (m : (ℓ : Loc nD τ sig) → Buf (Elt Ideal) ℓ) (c : Dev nD)

/-- One step adds the product of the two blocks. -/
theorem step_apply (acc : FVec Ideal S1x1x1024x1280 .f32) (a : FVec Ideal S1024x2048 .bf16) (b : FVec Ideal S2048x1280 .bf16)
    (r : Fin 1024) (l : Fin 1280) :
    k0_pay2 acc a b (ix4 0 0 r l) = acc (ix4 0 0 r l) + ∑ k : Fin 2048, a (ix2 r k) * b (ix2 k l) := by
  pointwise [k0_pay2]

/-- The accumulator starts at zero. -/
theorem start_apply (r : Fin 1024) (l : Fin 1280) : k0_pay1 (F := Ideal) (ix4 0 0 r l) = 0 := by
  pointwise [k0_pay1]

/-- Where the two operands' blocks lie at each grid point. -/
theorem block_index : ∀ t : Fin cfg0.N, win0_0.index t (0 : Fin 2) = t.val / 4 % 2 ∧ win0_0.index t (1 : Fin 2) = t.val % 4
    ∧ win0_1.index t (0 : Fin 2) = t.val % 4 ∧ win0_1.index t (1 : Fin 2) = t.val / 8 :=
  (by decide +kernel : ∀ t : Fin grid0.N, _)

theorem left_block (n : ℕ) (h : n < cfg0.N) (r : Fin 1024) (k : Fin 2048) :
    iblk m c 0 ⟨n, h⟩ (ix2 r k) = m ((c : Thread nD τ).loc main_arg0)
      (ix2 ⟨n / 4 % 2 * 1024 + r.val, by have := r.isLt; omega⟩ ⟨n % 4 * 2048 + k.val, by have := k.isLt; omega⟩) := by
  show V m c main_arg0 ((win0_0.rect ⟨n, h⟩).emb (ix2 r k)) = _
  rw [V_main_arg0]
  obtain ⟨h0, h1, -, -⟩ := block_index ⟨n, h⟩
  refine congrArg _ (funext fun a => Fin.ext ?_)
  match a with
  | ⟨0, _⟩ => exact (win0_0.rect_emb_val ⟨n, h⟩ (ix2 r k) (0 : Fin 2)).trans (by rw [h0]; rfl)
  | ⟨1, _⟩ => exact (win0_0.rect_emb_val ⟨n, h⟩ (ix2 r k) (1 : Fin 2)).trans (by rw [h1]; rfl)

theorem right_block (n : ℕ) (h : n < cfg0.N) (k : Fin 2048) (l : Fin 1280) :
    iblk m c 1 ⟨n, h⟩ (ix2 k l) = m ((c : Thread nD τ).loc main_arg1)
      (ix2 ⟨n % 4 * 2048 + k.val, by have := k.isLt; omega⟩
        ⟨n / 8 * 1280 + l.val, by have := l.isLt; have : n < 32 := h; omega⟩) := by
  show V m c main_arg1 ((win0_1.rect ⟨n, h⟩).emb (ix2 k l)) = _
  rw [V_main_arg1]
  obtain ⟨-, -, h0, h1⟩ := block_index ⟨n, h⟩
  refine congrArg _ (funext fun a => Fin.ext ?_)
  match a with
  | ⟨0, _⟩ => exact (win0_1.rect_emb_val ⟨n, h⟩ (ix2 k l) (0 : Fin 2)).trans (by rw [h0]; rfl)
  | ⟨1, _⟩ => exact (win0_1.rect_emb_val ⟨n, h⟩ (ix2 k l) (1 : Fin 2)).trans (by rw [h1]; rfl)

/-- The two operands as functions of plain coordinates. -/
abbrev lhs (r : Fin 2048) (k : Fin 8192) : EReal := m ((c : Thread nD τ).loc main_arg0) (ix2 r k)
abbrev rhs (k : Fin 8192) (l : Fin 5120) : EReal := m ((c : Thread nD τ).loc main_arg1) (ix2 k l)

/-- Four steps from zero: the whole contraction. -/
theorem fold_apply (j : Fin 4) (i : Fin 2) (r : Fin 1024) (l : Fin 1280) (n : ℕ) (hn : n = 4 * (2 * j.val + i.val))
    (h : n + 3 < cfg0.N) :
    (Pipeline.accAt (reset3 m c) (step3 m c) n 3 h) (ix4 0 0 r l)
      = ∑ k : Fin 8192, lhs m c ⟨i.val * 1024 + r.val, by omega⟩ k * rhs m c k ⟨j.val * 1280 + l.val, by omega⟩ := by
  rw [Fin.sum_univ_tiles 4 2048 rfl, Fin.sum_univ_four]
  rw [Pipeline.accAt_succ, Pipeline.accAt_succ, Pipeline.accAt_succ, Pipeline.accAt_zero]
  unfold step3 reset3
  rw [step_apply, step_apply, step_apply, step_apply, start_apply, zero_add]
  have e : ∀ (s : Fin 4) (h' : n + s.val < cfg0.N),
      (∑ k : Fin 2048, (id (α := EReal) (iblk m c 0 ⟨n + s.val, h'⟩ (ix2 r k))) * (id (α := EReal) (iblk m c 1 ⟨n + s.val, h'⟩ (ix2 k l))))
        = ∑ k : Fin 2048, lhs m c ⟨i.val * 1024 + r.val, by omega⟩ ⟨s.val * 2048 + k.val, by omega⟩
            * rhs m c ⟨s.val * 2048 + k.val, by omega⟩ ⟨j.val * 1280 + l.val, by omega⟩ := by
    intro s h'
    refine Finset.sum_congr rfl fun k _ => ?_
    rw [left_block, right_block]
    have e0 : (n + s.val) / 4 % 2 = i.val := by omega
    have e1 : (n + s.val) % 4 = s.val := by omega
    have e2 : (n + s.val) / 8 = j.val := by omega
    simp only [e0, e1, e2]; rfl
  exact congrArg₂ (· + ·) (congrArg₂ (· + ·) (congrArg₂ (· + ·) (e 0 (by omega)) (e 1 (by omega))) (e 2 (by omega))) (e 3 (by omega))

/-- The array the kernel leaves, at an index. -/
theorem result_apply (j : Fin 4) (i : Fin 2) (r : Fin 1024) (l : Fin 1280) :
    G3 m c (ix4 j i r l)
      = ∑ k : Fin 8192, lhs m c ⟨i.val * 1024 + r.val, by omega⟩ k * rhs m c k ⟨j.val * 1280 + l.val, by omega⟩ := by
  have hr : run3Of (ix4 j i r l) = 2 * j.val + i.val := by
    show 2 * (j.val / 1 - 0) + 1 * (i.val / 1 - 0) + 1 * (r.val / 1024 - 0) + 1 * (l.val / 1280 - 0) = _
    omega
  have hl : loc3Of (ix4 j i r l) = ix4 0 0 r l := by
    funext a; apply Fin.ext
    match a with
    | ⟨0, _⟩ => show j.val % 1 = 0; omega
    | ⟨1, _⟩ => show i.val % 1 = 0; omega
    | ⟨2, _⟩ => show r.val % 1024 = r.val; omega
    | ⟨3, _⟩ => show l.val % 1280 = l.val; omega
  unfold G3
  rw [dif_pos (by rw [hr]; show _ < 32; omega), hl]
  exact fold_apply m c j i r l _ (by rw [hr]) _

end Cert.Kernel2Ideal.Grad

end
-- ==== Proof.GradWInTie.lean ====
/- The reference's contraction for the input projection's weight gradient is the array the kernel leaves. -/
module

public import proofs.«01_k».proof.Defs
public import proofs.«01_k».proof.Proof.GradWIn
public import proofs.«01_k».proof.Proof.Gen.Reference2Ideal.Run
public import Idealize.ShloMosaic.Lib.Pointwise

@[expose] public section

noncomputable section

namespace Cert.Proof

open Idealize.ShloMosaic Idealize.SL.Sem

theorem grad_w_in : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  funext x
  idx_vars x
  rw [Cert.Kernel2Ideal.Grad.result_apply]
  pointwise
  rw [(hagree c).1, (hagree c).2]
  exact Finset.sum_congr rfl fun k _ => mul_comm _ _

end Cert.Proof

end
-- ==== Proof.GradWOut.lean ====
/- The gradient of the output projection's (and, at the same shapes, of the gate projection's) weight: the array the kernel leaves, element by element, is the sum over all
   8192 tokens that the reference's contraction takes. The kernel adds four products of 2048 tokens each. -/
module

public import proofs.«01_k».proof.Defs
public import proofs.«01_k».proof.Proof.Gen.Kernel3Ideal.Value
public import Idealize.ShloMosaic.Lib.Pointwise

@[expose] public section

noncomputable section

namespace Cert.Kernel3Ideal.Grad

open Cert.Kernel3Ideal Cert.Kernel3Ideal.Gen Cert.Kernel3Ideal.Value Idealize.ShloMosaic Idealize.ShloMosaic.TcCoe

variable (m : (ℓ : Loc nD τ sig) → Buf (Elt Ideal) ℓ) (c : Dev nD)

/-- One step adds the product of the two blocks. -/
theorem step_apply (acc : FVec Ideal S1x1x1024x2048 .f32) (a : FVec Ideal S2048x1024 .bf16) (b : FVec Ideal S2048x2048 .bf16)
    (r : Fin 1024) (l : Fin 2048) :
    k0_pay2 acc a b (ix4 0 0 r l) = acc (ix4 0 0 r l) + ∑ k : Fin 2048, a (ix2 k r) * b (ix2 k l) := by
  pointwise [k0_pay2]

/-- The accumulator starts at zero. -/
theorem start_apply (r : Fin 1024) (l : Fin 2048) : k0_pay1 (F := Ideal) (ix4 0 0 r l) = 0 := by
  pointwise [k0_pay1]

/-- Where the two operands' blocks lie at each grid point. -/
theorem block_index : ∀ t : Fin cfg0.N, win0_0.index t (0 : Fin 2) = t.val % 4 ∧ win0_0.index t (1 : Fin 2) = t.val / 4
    ∧ win0_1.index t (0 : Fin 2) = t.val % 4 ∧ win0_1.index t (1 : Fin 2) = 0 :=
  (by decide +kernel : ∀ t : Fin grid0.N, _)

theorem left_block (n : ℕ) (h : n < cfg0.N) (r : Fin 1024) (k : Fin 2048) :
    iblk m c 0 ⟨n, h⟩ (ix2 k r) = m ((c : Thread nD τ).loc main_arg0)
      (ix2 ⟨n % 4 * 2048 + k.val, by have := k.isLt; omega⟩
        ⟨n / 4 * 1024 + r.val, by have := r.isLt; have : n < 8 := h; omega⟩) := by
  show V m c main_arg0 ((win0_0.rect ⟨n, h⟩).emb (ix2 k r)) = _
  rw [V_main_arg0]
  obtain ⟨h0, h1, -, -⟩ := block_index ⟨n, h⟩
  refine congrArg _ (funext fun a => Fin.ext ?_)
  match a with
  | ⟨0, _⟩ => exact (win0_0.rect_emb_val ⟨n, h⟩ (ix2 k r) (0 : Fin 2)).trans (by rw [h0]; rfl)
  | ⟨1, _⟩ => exact (win0_0.rect_emb_val ⟨n, h⟩ (ix2 k r) (1 : Fin 2)).trans (by rw [h1]; rfl)

theorem right_block (n : ℕ) (h : n < cfg0.N) (k : Fin 2048) (l : Fin 2048) :
    iblk m c 1 ⟨n, h⟩ (ix2 k l) = m ((c : Thread nD τ).loc main_arg1)
      (ix2 ⟨n % 4 * 2048 + k.val, by have := k.isLt; omega⟩
        l) := by
  show V m c main_arg1 ((win0_1.rect ⟨n, h⟩).emb (ix2 k l)) = _
  rw [V_main_arg1]
  obtain ⟨-, -, h0, h1⟩ := block_index ⟨n, h⟩
  refine congrArg _ (funext fun a => Fin.ext ?_)
  match a with
  | ⟨0, _⟩ => exact (win0_1.rect_emb_val ⟨n, h⟩ (ix2 k l) (0 : Fin 2)).trans (by rw [h0]; rfl)
  | ⟨1, _⟩ => exact (win0_1.rect_emb_val ⟨n, h⟩ (ix2 k l) (1 : Fin 2)).trans (by rw [h1]; exact Nat.zero_add _)

/-- The two operands as functions of plain coordinates. -/
abbrev lhs (k : Fin 8192) (r : Fin 2048) : EReal := m ((c : Thread nD τ).loc main_arg0) (ix2 k r)
abbrev rhs (k : Fin 8192) (l : Fin 2048) : EReal := m ((c : Thread nD τ).loc main_arg1) (ix2 k l)

/-- Four steps from zero: the whole contraction. -/
theorem fold_apply (i : Fin 2) (r : Fin 1024) (l : Fin 2048) (n : ℕ) (hn : n = 4 * i.val)
    (h : n + 3 < cfg0.N) :
    (Pipeline.accAt (reset3 m c) (step3 m c) n 3 h) (ix4 0 0 r l)
      = ∑ k : Fin 8192, lhs m c k ⟨i.val * 1024 + r.val, by omega⟩ * rhs m c k l := by
  rw [Fin.sum_univ_tiles 4 2048 rfl, Fin.sum_univ_four]
  rw [Pipeline.accAt_succ, Pipeline.accAt_succ, Pipeline.accAt_succ, Pipeline.accAt_zero]
  unfold step3 reset3
  rw [step_apply, step_apply, step_apply, step_apply, start_apply, zero_add]
  have e : ∀ (s : Fin 4) (h' : n + s.val < cfg0.N),
      (∑ k : Fin 2048, (id (α := EReal) (iblk m c 0 ⟨n + s.val, h'⟩ (ix2 k r))) * (id (α := EReal) (iblk m c 1 ⟨n + s.val, h'⟩ (ix2 k l))))
        = ∑ k : Fin 2048, lhs m c ⟨s.val * 2048 + k.val, by omega⟩ ⟨i.val * 1024 + r.val, by omega⟩
            * rhs m c ⟨s.val * 2048 + k.val, by omega⟩ l := by
    intro s h'
    refine Finset.sum_congr rfl fun k _ => ?_
    rw [left_block, right_block]
    have e0 : (n + s.val) / 4 = i.val := by omega
    have e1 : (n + s.val) % 4 = s.val := by omega
    simp only [e0, e1]; rfl
  exact congrArg₂ (· + ·) (congrArg₂ (· + ·) (congrArg₂ (· + ·) (e 0 (by omega)) (e 1 (by omega))) (e 2 (by omega))) (e 3 (by omega))

/-- The array the kernel leaves, at an index. -/
theorem result_apply (i : Fin 2) (r : Fin 1024) (l : Fin 2048) :
    G3 m c (ix4 0 i r l)
      = ∑ k : Fin 8192, lhs m c k ⟨i.val * 1024 + r.val, by omega⟩ * rhs m c k l := by
  have hr : run3Of (ix4 0 i r l) = i.val := by
    show 2 * (0 / 1 - 0) + 1 * (i.val / 1 - 0) + 1 * (r.val / 1024 - 0) + 1 * (l.val / 2048 - 0) = _
    omega
  have hl : loc3Of (ix4 0 i r l) = ix4 0 0 r l := by
    funext a; apply Fin.ext
    match a with
    | ⟨0, _⟩ => rfl
    | ⟨1, _⟩ => show i.val % 1 = 0; omega
    | ⟨2, _⟩ => show r.val % 1024 = r.val; omega
    | ⟨3, _⟩ => show l.val % 2048 = l.val; omega
  unfold G3
  rw [dif_pos (by rw [hr]; show _ < 8; omega), hl]
  exact fold_apply m c i r l _ (by rw [hr]) _

end Cert.Kernel3Ideal.Grad

end
-- ==== Proof.GradWOutTie.lean ====
/- The reference's contraction for the output projection's weight gradient is the array the kernel leaves. -/
module

public import proofs.«01_k».proof.Defs
public import proofs.«01_k».proof.Proof.GradWOut
public import proofs.«01_k».proof.Proof.Gen.Reference3Ideal.Run
public import Idealize.ShloMosaic.Lib.Pointwise

@[expose] public section

noncomputable section

namespace Cert.Proof

open Idealize.ShloMosaic Idealize.SL.Sem

theorem grad_w_out : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  funext x
  idx_vars x
  obtain rfl : x0 = 0 := Subsingleton.elim _ _
  rw [Cert.Kernel3Ideal.Grad.result_apply]
  pointwise
  rw [(hagree c).1, (hagree c).2]
  exact Finset.sum_congr rfl fun k _ => mul_comm _ _

end Cert.Proof

end
-- ==== Proof.HeadRow.lean ====
/- One row of the head, forward and backward, as functions of the row's data and the weights over the extended reals. -/
module

public import Idealize.ShloMosaic.PureOps.Ideal
public import Idealize.ShloMosaic.Lib.Pointwise

@[expose] public section

noncomputable section

namespace Cert.Head

open Idealize.ShloMosaic

/-- A row's residual, branches' output, features and target, and the weights all rows share. -/
structure Row where
  x : Fin 2048 → EReal
  y : Fin 2048 → EReal
  p : Fin 256 → EReal
  tgt : Fin 2048 → EReal
  gain : Fin 2048 → EReal
  wo : Fin 2048 → Fin 2048 → EReal
  wg : Fin 2048 → Fin 2048 → EReal
  we : Fin 4 → Fin 256 → Fin 512 → EReal

/-- Column `j` of band `s` of four. -/
def col (s : Fin 4) (j : Fin 512) : Fin 2048 := ⟨512 * s.val + j.val, by omega⟩

theorem exists_col (k : Fin 2048) : ∃ s j, k = col s j :=
  ⟨⟨k.val / 512, by omega⟩, ⟨k.val % 512, by omega⟩, Fin.ext (show k.val = 512 * (k.val / 512) + k.val % 512 by omega)⟩

namespace Row

variable (a : Row)

/-- The output projection, its mean square, the reciprocal root, and the normalised projection. -/
def o (k : Fin 2048) : EReal := ∑ j, a.y j * a.wo j k
def ms : EReal := Ideal.div (∑ k, a.o k * a.o k) (Ideal.ofBits .f32 1157627904#32) + Ideal.ofBits .f32 897988541#32
def r : EReal := Ideal.rsqrt a.ms
def on (k : Fin 2048) : EReal := a.o k * a.r

/-- The residual stream, the features' projection, the gate, the error. -/
def h (k : Fin 2048) : EReal := a.x k + a.on k * a.gain k
def pe (s : Fin 4) (j : Fin 512) : EReal := ∑ i, a.p i * a.we s i j
def peAt (k : Fin 2048) : EReal := a.pe ⟨k.val / 512, by omega⟩ ⟨k.val % 512, by omega⟩
def g (k : Fin 2048) : EReal := Ideal.logistic (∑ j, a.h j * a.wg j k)
def d (k : Fin 2048) : EReal := a.h k + a.peAt k * a.g k - a.tgt k

/-- The gradients: at the output, times the gate, at the gate's argument, at the residual stream, at the norm's output,
    at the projection, at the branches' output. -/
def dout (k : Fin 2048) : EReal := a.d k * Ideal.ofBits .f32 973078528#32
def dg (k : Fin 2048) : EReal := a.dout k * a.g k
def dq (k : Fin 2048) : EReal := a.dg k * a.peAt k * (1 - a.g k)
def dh (k : Fin 2048) : EReal := a.dout k + ∑ j, a.dq j * a.wg k j
def dn (k : Fin 2048) : EReal := a.dh k * a.gain k
def dO (k : Fin 2048) : EReal :=
  a.r * (a.dn k - a.on k * Ideal.div (∑ j, a.dn j * a.on j) (Ideal.ofBits .f32 1157627904#32))
def dy (k : Fin 2048) : EReal := ∑ j, a.dO j * a.wo k j

theorem peAt_col (s : Fin 4) (j : Fin 512) : a.peAt (col s j) = a.pe s j := by
  exact congrArg₂ a.pe (Fin.ext (show (512 * s.val + j.val) / 512 = s.val by omega))
    (Fin.ext (show (512 * s.val + j.val) % 512 = j.val by omega))

end Row

end Cert.Head

end
-- ==== Proof.HeadTile.lean ====
/- What the body of the head computes of one tile of 256 rows, payload by payload, is `Row` at each of the tile's rows. -/
module

public import proofs.«01_k».proof.Proof.HeadRow
public import proofs.«01_k».proof.Proof.Gen.Kernel4Ideal.Value
public import Idealize.ShloMosaic.Lib.Pointwise
public import Idealize.ShloMosaic.Lib.Pipeline.ValueKit.Tiles

@[expose] public section

set_option maxRecDepth 16384

noncomputable section

namespace Cert.Kernel4Ideal.Head

open Cert.Kernel4Ideal Cert.Kernel4Ideal.Gen Idealize.ShloMosaic Idealize.ShloMosaic.TcCoe Idealize.ShloMosaic.Tactic Cert.Head

/-- A tile's blocks. -/
structure Tile where
  x : FVec Ideal S256x2048 .f32
  y : FVec Ideal S256x2048 .bf16
  p : FVec Ideal S256x256 .f32
  tgt : FVec Ideal S256x2048 .f32
  gain : FVec Ideal S1x2048 .f32
  wo : FVec Ideal S2048x2048 .bf16
  wg : FVec Ideal S2048x2048 .bf16
  we : FVec Ideal S4x256x512 .bf16

namespace Tile

/-- One row of a tile. -/
def row (b : Tile) (r : Fin 256) : Row where
  x k := b.x (ix2 r k)
  y k := b.y (ix2 r k)
  p k := b.p (ix2 r k)
  tgt k := b.tgt (ix2 r k)
  gain k := b.gain (ix2 0 k)
  wo j k := b.wo (ix2 j k)
  wg j k := b.wg (ix2 j k)
  we s i j := b.we (ix3 s i j)

variable (b : Tile) (r : Fin 256) (k : Fin 2048) (j : Fin 512)

/-- The payloads the rest is computed from: the normalised projection, the residual stream, the gate, the features'
    projection on each band, the target on each band. -/
abbrev onP : FVec Ideal S256x2048 .f32 := k0_pay14 b.y b.wo
abbrev hP : FVec Ideal S256x2048 .f32 := k0_pay15 b.onP b.x b.gain
abbrev gP : FVec Ideal S256x2048 .f32 := k0_pay17 b.onP b.x b.gain b.wg
abbrev pe0 : FVec Ideal S256x512 .f32 := k0_pay8 b.p (View.ld (Val := Elt Ideal) (S := S4x256x512) (e' := .bf16) b.we (Rect.unit (s := S4x256x512) ![0, 0, 0] ![1, 256, 512] inb_S4x256x512_S1x256x512_0_0_0))
abbrev pe1 : FVec Ideal S256x512 .f32 := k0_pay9 b.p (View.ld (Val := Elt Ideal) (S := S4x256x512) (e' := .bf16) b.we (Rect.unit (s := S4x256x512) ![1, 0, 0] ![1, 256, 512] inb_S4x256x512_S1x256x512_1_0_0))
abbrev pe2 : FVec Ideal S256x512 .f32 := k0_pay10 b.p (View.ld (Val := Elt Ideal) (S := S4x256x512) (e' := .bf16) b.we (Rect.unit (s := S4x256x512) ![2, 0, 0] ![1, 256, 512] inb_S4x256x512_S1x256x512_2_0_0))
abbrev pe3 : FVec Ideal S256x512 .f32 := k0_pay11 b.p (View.ld (Val := Elt Ideal) (S := S4x256x512) (e' := .bf16) b.we (Rect.unit (s := S4x256x512) ![3, 0, 0] ![1, 256, 512] inb_S4x256x512_S1x256x512_3_0_0))
abbrev t0 : FVec Ideal S256x512 .f32 := View.ld (Val := Elt Ideal) (S := S256x2048) (e' := .f32) b.tgt (Rect.unit (s := S256x2048) ![0, 0] ![256, 512] inb_S256x2048_S256x512_0_0)
abbrev t1 : FVec Ideal S256x512 .f32 := View.ld (Val := Elt Ideal) (S := S256x2048) (e' := .f32) b.tgt (Rect.unit (s := S256x2048) ![0, 512] ![256, 512] inb_S256x2048_S256x512_0_512)
abbrev t2 : FVec Ideal S256x512 .f32 := View.ld (Val := Elt Ideal) (S := S256x2048) (e' := .f32) b.tgt (Rect.unit (s := S256x2048) ![0, 1024] ![256, 512] inb_S256x2048_S256x512_0_1024)
abbrev t3 : FVec Ideal S256x512 .f32 := View.ld (Val := Elt Ideal) (S := S256x2048) (e' := .f32) b.tgt (Rect.unit (s := S256x2048) ![0, 1536] ![256, 512] inb_S256x2048_S256x512_0_1536)

/-- A band of columns, and a plane, read. -/
theorem ld_band {e : EltTy} (v : Vec Ideal S256x2048 e) (s : Fin 4) (o : Nat) (ho : o = 512 * s.val)
    (inb : ∀ a, (![0, o] : Fin 2 → Nat) a + (![256, 512] : Fin 2 → Nat) a ≤ S256x2048.size a) :
    View.ld v (Rect.unit ![0, o] ![256, 512] inb) (ix2 r j) = v (ix2 r (col s j)) := by
  subst ho
  exact congrArg v (funext fun a => Fin.ext (match a with
    | ⟨0, _⟩ => by show 0 + 1 * r.val = r.val; omega
    | ⟨1, _⟩ => by show 512 * s.val + 1 * j.val = 512 * s.val + j.val; omega))

theorem ld_plane {e : EltTy} (v : Vec Ideal S4x256x512 e) (s : Fin 4) (o : Nat) (ho : o = s.val) (i : Fin 256)
    (inb : ∀ a, (![o, 0, 0] : Fin 3 → Nat) a + (![1, 256, 512] : Fin 3 → Nat) a ≤ S4x256x512.size a) :
    View.ld v (Rect.unit ![o, 0, 0] ![1, 256, 512] inb) (ix3 0 i j) = v (ix3 s i j) := by
  subst ho
  exact congrArg v (funext fun a => Fin.ext (match a with
    | ⟨0, _⟩ => by show s.val + 1 * 0 = s.val; omega
    | ⟨1, _⟩ => by show 0 + 1 * i.val = i.val; omega
    | ⟨2, _⟩ => by show 0 + 1 * j.val = j.val; omega))

theorem oP_at : k0_pay12 (F := Ideal) b.y b.wo (ix2 r k) = (b.row r).o k := by pointwise [k0_pay12]; rfl

theorem rP_at : k0_pay13 (F := Ideal) b.y b.wo (ix2 r 0) = (b.row r).r := by
  pointwise [k0_pay13]
  simp only [oP_at]
  rfl

theorem onP_at : b.onP (ix2 r k) = (b.row r).on k := by
  unfold onP
  pointwise [k0_pay14]
  rw [oP_at, rP_at]
  rfl

theorem hP_at : b.hP (ix2 r k) = (b.row r).h k := by
  unfold hP
  pointwise [k0_pay15]
  rw [onP_at]
  rfl

theorem h1P_at : k0_pay16 (F := Ideal) b.onP b.x b.gain (ix2 r k) = (b.row r).h k := by
  pointwise [k0_pay16]
  exact b.hP_at r k

theorem gP_at : b.gP (ix2 r k) = (b.row r).g k := by
  unfold gP
  pointwise [k0_pay17]
  simp only [h1P_at]
  rfl

theorem pe0_at : b.pe0 (ix2 r j) = (b.row r).pe 0 j := by
  unfold pe0; pointwise [k0_pay8, k0_pay7]; rfl
theorem pe1_at : b.pe1 (ix2 r j) = (b.row r).pe 1 j := by
  unfold pe1; pointwise [k0_pay9, k0_pay7]; rfl
theorem pe2_at : b.pe2 (ix2 r j) = (b.row r).pe 2 j := by
  unfold pe2; pointwise [k0_pay10, k0_pay7]; rfl
theorem pe3_at : b.pe3 (ix2 r j) = (b.row r).pe 3 j := by
  unfold pe3; pointwise [k0_pay11, k0_pay7]; rfl

/-- The gate on each band after the first. -/
theorem g0_at : k0_pay18 (F := Ideal) b.onP b.x b.gain b.wg (ix2 r j) = (b.row r).g (col 0 j) := by
  pointwise [k0_pay18]
  exact (congrArg (fun k => b.gP (ix2 r k)) (Fin.ext (by show j.val = 512 * 0 + j.val; omega))).trans (b.gP_at r (col 0 j))
theorem g1_at : k0_pay26 (F := Ideal) b.gP (ix2 r j) = (b.row r).g (col 1 j) := by
  pointwise [k0_pay26]; exact b.gP_at r (col 1 j)
theorem g2_at : k0_pay34 (F := Ideal) b.gP (ix2 r j) = (b.row r).g (col 2 j) := by
  pointwise [k0_pay34]; exact b.gP_at r (col 2 j)
theorem g3_at : k0_pay42 (F := Ideal) b.gP (ix2 r j) = (b.row r).g (col 3 j) := by
  pointwise [k0_pay42]; exact b.gP_at r (col 3 j)

theorem h_col0 : b.hP (ix2 r ⟨j.val, by omega⟩) = (b.row r).h (col 0 j) :=
  (congrArg (fun k => b.hP (ix2 r k)) (Fin.ext (by show j.val = 512 * 0 + j.val; omega))).trans (b.hP_at r (col 0 j))

theorem d_of {h p g t h' p' g' t' : EReal} (eh : h = h') (ep : p = p') (eg : g = g') (et : t = t') :
    h + p * g - t = h' + p' * g' - t' := by rw [eh, ep, eg, et]

/-- The error on each band. -/
theorem d0_at : k0_pay19 (F := Ideal) b.pe0 b.onP b.x b.gain b.wg b.t0 (ix2 r j) = (b.row r).d (col 0 j) := by
  pointwise [k0_pay19]
  exact d_of (b.h_col0 r j) ((b.pe0_at r j).trans (Row.peAt_col _ _ _).symm) (b.g0_at r j) (ld_band (e := .f32) r j b.tgt 0 0 rfl inb_S256x2048_S256x512_0_0)
theorem d1_at : k0_pay27 (F := Ideal) b.pe1 b.hP b.gP b.t1 (ix2 r j) = (b.row r).d (col 1 j) := by
  pointwise [k0_pay27]
  exact d_of (b.hP_at r (col 1 j)) ((b.pe1_at r j).trans (Row.peAt_col _ _ _).symm) (b.g1_at r j) (ld_band (e := .f32) r j b.tgt 1 512 rfl inb_S256x2048_S256x512_0_512)
theorem d2_at : k0_pay35 (F := Ideal) b.pe2 b.hP b.gP b.t2 (ix2 r j) = (b.row r).d (col 2 j) := by
  pointwise [k0_pay35]
  exact d_of (b.hP_at r (col 2 j)) ((b.pe2_at r j).trans (Row.peAt_col _ _ _).symm) (b.g2_at r j) (ld_band (e := .f32) r j b.tgt 2 1024 rfl inb_S256x2048_S256x512_0_1024)
theorem d3_at : k0_pay43 (F := Ideal) b.pe3 b.hP b.gP b.t3 (ix2 r j) = (b.row r).d (col 3 j) := by
  pointwise [k0_pay43]
  exact d_of (b.hP_at r (col 3 j)) ((b.pe3_at r j).trans (Row.peAt_col _ _ _).symm) (b.g3_at r j) (ld_band (e := .f32) r j b.tgt 3 1536 rfl inb_S256x2048_S256x512_0_1536)

/-- The gradient at the output on each band: as it is stored, and as the last band keeps it. -/
theorem dout0_at : k0_pay22 (F := Ideal) b.pe0 b.onP b.x b.gain b.wg b.t0 (ix2 r j) = (b.row r).dout (col 0 j) := by
  pointwise [k0_pay22, k0_pay21]; rw [d0_at]; rfl
theorem dout1_at : k0_pay30 (F := Ideal) b.pe1 b.hP b.gP b.t1 (ix2 r j) = (b.row r).dout (col 1 j) := by
  pointwise [k0_pay30, k0_pay29]; rw [d1_at]; rfl
theorem dout2_at : k0_pay38 (F := Ideal) b.pe2 b.hP b.gP b.t2 (ix2 r j) = (b.row r).dout (col 2 j) := by
  pointwise [k0_pay38, k0_pay37]; rw [d2_at]; rfl
theorem dout3_at : k0_pay46 (F := Ideal) b.pe3 b.hP b.gP b.t3 (ix2 r j) = (b.row r).dout (col 3 j) := by
  pointwise [k0_pay46, k0_pay45]; rw [d3_at]; rfl
theorem dout3_at' : k0_pay45 (F := Ideal) b.pe3 b.hP b.gP b.t3 (ix2 r j) = (b.row r).dout (col 3 j) := by
  pointwise [k0_pay45]; rw [d3_at]; rfl

/-- It times the gate. -/
abbrev dg0 : FVec Ideal S256x512 .f32 := k0_pay23 b.pe0 b.onP b.x b.gain b.wg b.t0
abbrev dg1 : FVec Ideal S256x512 .f32 := k0_pay31 b.pe1 b.hP b.gP b.t1
abbrev dg2 : FVec Ideal S256x512 .f32 := k0_pay39 b.pe2 b.hP b.gP b.t2
abbrev dg3 : FVec Ideal S256x512 .f32 := k0_pay47 (k0_pay42 b.gP) (k0_pay45 b.pe3 b.hP b.gP b.t3)
theorem dg0_at : b.dg0 (ix2 r j) = (b.row r).dg (col 0 j) := by
  unfold dg0; pointwise [k0_pay23, k0_pay21]; rw [d0_at, g0_at]; rfl
theorem dg1_at : b.dg1 (ix2 r j) = (b.row r).dg (col 1 j) := by
  unfold dg1; pointwise [k0_pay31, k0_pay29]; rw [d1_at, g1_at]; rfl
theorem dg2_at : b.dg2 (ix2 r j) = (b.row r).dg (col 2 j) := by
  unfold dg2; pointwise [k0_pay39, k0_pay37]; rw [d2_at, g2_at]; rfl
theorem dg3_at : b.dg3 (ix2 r j) = (b.row r).dg (col 3 j) := by
  unfold dg3; pointwise [k0_pay47]; rw [dout3_at', g3_at]; rfl

/-- The gradient at the gate's argument. -/
theorem dq0_at : k0_pay25 (F := Ideal) b.pe0 (k0_pay18 b.onP b.x b.gain b.wg) b.dg0 (ix2 r j) = (b.row r).dq (col 0 j) := by
  pointwise [k0_pay25]; rw [dg0_at, g0_at, pe0_at, ← Row.peAt_col]; rfl
theorem dq1_at : k0_pay33 (F := Ideal) b.pe1 (k0_pay26 b.gP) b.dg1 (ix2 r j) = (b.row r).dq (col 1 j) := by
  pointwise [k0_pay33]; rw [dg1_at, g1_at, pe1_at, ← Row.peAt_col]; rfl
theorem dq2_at : k0_pay41 (F := Ideal) b.pe2 (k0_pay34 b.gP) b.dg2 (ix2 r j) = (b.row r).dq (col 2 j) := by
  pointwise [k0_pay41]; rw [dg2_at, g2_at, pe2_at, ← Row.peAt_col]; rfl
theorem dq3_at : k0_pay49 (F := Ideal) b.pe3 (k0_pay42 b.gP) (k0_pay45 b.pe3 b.hP b.gP b.t3) (ix2 r j) = (b.row r).dq (col 3 j) := by
  pointwise [k0_pay49]; rw [show k0_pay47 (F := Ideal) _ _ (ix2 r j) = _ from b.dg3_at r j, g3_at, pe3_at, ← Row.peAt_col]; rfl

end Tile

/-- Four bands of columns written one after the other read as one array. -/
theorem canon_bands {e : EltTy} (f0 f1 f2 f3 : Vec Ideal S256x512 e) (v : Fin 256 → Fin 2048 → Elt Ideal e)
    (h0 : ∀ r j, f0 (ix2 r j) = v r (col 0 j)) (h1 : ∀ r j, f1 (ix2 r j) = v r (col 1 j))
    (h2 : ∀ r j, f2 (ix2 r j) = v r (col 2 j)) (h3 : ∀ r j, f3 (ix2 r j) = v r (col 3 j)) (i0 i1 i2 i3) :
    View.canon (Val := Elt Ideal) (s := S256x2048) (e := e)
      [⟨Rect.unit ![0, 1536] ![256, 512] i3, f3⟩, ⟨Rect.unit ![0, 1024] ![256, 512] i2, f2⟩,
       ⟨Rect.unit ![0, 512] ![256, 512] i1, f1⟩, ⟨Rect.unit ![0, 0] ![256, 512] i0, f0⟩] = fun i => v (i 0) (i 1) := by
  funext y
  refine View.canon_eq_of_allAt _ y _ (View.cover_of_tiledL (s := S256x2048) _ ![256, 512] (by sl_kernel_rfl) y) ?_
  have key : ∀ (f : Vec Ideal S256x512 e) (s : Fin 4) (o : Nat), o = 512 * s.val → (∀ r j, f (ix2 r j) = v r (col s j)) →
      View.TileAt (Val := Elt Ideal) (S := S256x2048) y ![0, o] ![256, 512] f (v (y 0) (y 1)) := by
    intro f s o ho hf x hx
    have e0 : y 0 = x 0 := Fin.ext ((hx 0).trans (Nat.zero_add _))
    have e1 : y 1 = col s (x 1) := Fin.ext ((hx 1).trans (congrArg (· + (x 1).val) ho))
    rw [e0, e1]
    refine Eq.trans (congrArg f (funext fun a => ?_)) (hf (x 0) (x 1))
    exact match a with | ⟨0, _⟩ => rfl | ⟨1, _⟩ => rfl
  exact View.allAt_cons_unit _ _ _ _ _ (key f3 3 1536 rfl h3) (View.allAt_cons_unit _ _ _ _ _ (key f2 2 1024 rfl h2)
    (View.allAt_cons_unit _ _ _ _ _ (key f1 1 512 rfl h1) (View.allAt_cons_unit _ _ _ _ _ (key f0 0 0 rfl h0) (View.allAt_nil _ _))))

theorem readCov_bands {e : EltTy} {sig : RefSig} {κ : Kind} {sp : Space} (w : View sig κ sp S256x2048 e)
    (f0 f1 f2 f3 : Vec Ideal S256x512 e) (v : Fin 256 → Fin 2048 → Elt Ideal e)
    (h0 : ∀ r j, f0 (ix2 r j) = v r (col 0 j)) (h1 : ∀ r j, f1 (ix2 r j) = v r (col 1 j))
    (h2 : ∀ r j, f2 (ix2 r j) = v r (col 2 j)) (h3 : ∀ r j, f3 (ix2 r j) = v r (col 3 j)) (i0 i1 i2 i3 i) :
    w.readCov (Val := Elt Ideal)
      [⟨Rect.unit ![0, 1536] ![256, 512] i3, f3⟩, ⟨Rect.unit ![0, 1024] ![256, 512] i2, f2⟩,
       ⟨Rect.unit ![0, 512] ![256, 512] i1, f1⟩, ⟨Rect.unit ![0, 0] ![256, 512] i0, f0⟩]
      (Rect.unit ![0, 0] ![256, 2048] i).toLoadRect = fun i => v (i 0) (i 1) := by
  refine (View.readCov_eq_canon' (Val := Elt Ideal) w _ _).trans (funext fun x => ?_)
  rw [canon_bands f0 f1 f2 f3 v h0 h1 h2 h3]
  exact congrArg₂ v (Fin.ext (by show 0 + 1 * (x 0).val = (x 0).val; omega)) (Fin.ext (by show 0 + 1 * (x 1).val = (x 1).val; omega))

/-- Four planes written one after the other read as one array. -/
theorem canon_planes {e : EltTy} (f0 f1 f2 f3 : Vec Ideal S1x256x512 e) (v : Fin 4 → Fin 256 → Fin 512 → Elt Ideal e)
    (h0 : ∀ i j, f0 (ix3 0 i j) = v 0 i j) (h1 : ∀ i j, f1 (ix3 0 i j) = v 1 i j)
    (h2 : ∀ i j, f2 (ix3 0 i j) = v 2 i j) (h3 : ∀ i j, f3 (ix3 0 i j) = v 3 i j) (i0 i1 i2 i3) :
    View.canon (Val := Elt Ideal) (s := S4x256x512) (e := e)
      [⟨Rect.unit ![3, 0, 0] ![1, 256, 512] i3, f3⟩, ⟨Rect.unit ![2, 0, 0] ![1, 256, 512] i2, f2⟩,
       ⟨Rect.unit ![1, 0, 0] ![1, 256, 512] i1, f1⟩, ⟨Rect.unit ![0, 0, 0] ![1, 256, 512] i0, f0⟩] = fun i => v (i 0) (i 1) (i 2) := by
  funext y
  refine View.canon_eq_of_allAt _ y _ (View.cover_of_tiledL (s := S4x256x512) _ ![1, 256, 512] (by sl_kernel_rfl) y) ?_
  have key : ∀ (f : Vec Ideal S1x256x512 e) (s : Fin 4) (o : Nat), o = s.val → (∀ i j, f (ix3 0 i j) = v s i j) →
      View.TileAt (Val := Elt Ideal) (S := S4x256x512) y ![o, 0, 0] ![1, 256, 512] f (v (y 0) (y 1) (y 2)) := by
    intro f s o ho hf x hx
    have e0 : y 0 = s := Fin.ext ((hx 0).trans (by
      have : (x 0).val < 1 := (x 0).isLt
      show o + (x 0).val = s.val
      omega))
    have e1 : y 1 = x 1 := Fin.ext ((hx 1).trans (Nat.zero_add _))
    have e2 : y 2 = x 2 := Fin.ext ((hx 2).trans (Nat.zero_add _))
    rw [e0, e1, e2]
    refine Eq.trans (congrArg f (funext fun a => ?_)) (hf (x 1) (x 2))
    exact match a with
      | ⟨0, _⟩ => Fin.ext (by have : (x 0).val < 1 := (x 0).isLt; show (x 0).val = 0; omega)
      | ⟨1, _⟩ => rfl
      | ⟨2, _⟩ => rfl
  exact View.allAt_cons_unit _ _ _ _ _ (key f3 3 3 rfl h3) (View.allAt_cons_unit _ _ _ _ _ (key f2 2 2 rfl h2)
    (View.allAt_cons_unit _ _ _ _ _ (key f1 1 1 rfl h1) (View.allAt_cons_unit _ _ _ _ _ (key f0 0 0 rfl h0) (View.allAt_nil _ _))))

/-- Where the first pieces of a list already hold a place, the later ones are not read. -/
theorem canon_append {s : Shape} {e : EltTy} (L M : List (View.Piece (Elt Ideal) s e)) (y : s.Idx) (h : ∃ p ∈ L, y ∈ p.1.set) :
    View.canon (L ++ M) y = View.canon L y := by
  induction L with
  | nil => obtain ⟨_, hp, _⟩ := h; cases hp
  | cons p L ih =>
    obtain ⟨S, f⟩ := p
    by_cases hy : y ∈ S.set
    · choose x hx e using S.mem_set.mp hy
      obtain rfl : S.emb (fun a => ⟨x a, hx a⟩) = y := funext fun a => Fin.ext (e a).symm
      exact (View.canon_cons_emb S f (L ++ M) _).trans (View.canon_cons_emb S f L _).symm
    · refine (View.canon_cons_of_not_mem ⟨S, f⟩ (L ++ M) hy).trans (Eq.trans (ih ?_) (View.canon_cons_of_not_mem ⟨S, f⟩ L hy).symm)
      obtain ⟨q, hq, hm⟩ := h
      rcases List.mem_cons.mp hq with rfl | hq
      · exact absurd hm hy
      · exact ⟨q, hq, hm⟩

/-- The four planes over an array that was set whole before. -/
theorem canon_planes_over {e : EltTy} (f0 f1 f2 f3 : Vec Ideal S1x256x512 e) (v : Fin 4 → Fin 256 → Fin 512 → Elt Ideal e)
    (h0 : ∀ i j, f0 (ix3 0 i j) = v 0 i j) (h1 : ∀ i j, f1 (ix3 0 i j) = v 1 i j)
    (h2 : ∀ i j, f2 (ix3 0 i j) = v 2 i j) (h3 : ∀ i j, f3 (ix3 0 i j) = v 3 i j) (i0 i1 i2 i3)
    (M : List (View.Piece (Elt Ideal) S4x256x512 e)) :
    View.canon (Val := Elt Ideal) (s := S4x256x512) (e := e)
      (⟨Rect.unit ![3, 0, 0] ![1, 256, 512] i3, f3⟩ :: ⟨Rect.unit ![2, 0, 0] ![1, 256, 512] i2, f2⟩ ::
       ⟨Rect.unit ![1, 0, 0] ![1, 256, 512] i1, f1⟩ :: ⟨Rect.unit ![0, 0, 0] ![1, 256, 512] i0, f0⟩ :: M) = fun i => v (i 0) (i 1) (i 2) :=
  (funext fun y => canon_append (s := S4x256x512) (e := e)
    [(⟨Rect.unit (s := S4x256x512) ![3, 0, 0] ![1, 256, 512] i3, f3⟩ : View.Piece (Elt Ideal) S4x256x512 e), ⟨Rect.unit ![2, 0, 0] ![1, 256, 512] i2, f2⟩,
     ⟨Rect.unit ![1, 0, 0] ![1, 256, 512] i1, f1⟩, ⟨Rect.unit ![0, 0, 0] ![1, 256, 512] i0, f0⟩] M y
    (View.cover_of_tiledL (s := S4x256x512) (e := e) (Val := Elt Ideal) _ ![1, 256, 512] (by sl_kernel_rfl) y)).trans
    (canon_planes f0 f1 f2 f3 v h0 h1 h2 h3 i0 i1 i2 i3)

/-- A plane read back past the store of another plane. -/
theorem readCov_skip {sig : RefSig} {κ : Kind} {sp : Space} {e : EltTy} (w : View sig κ sp S4x256x512 e) (o o' : Nat) (h : o ≠ o')
    (f : Vec Ideal S1x256x512 e) (L : List (View.Piece (Elt Ideal) S4x256x512 e)) (i i') :
    w.readCov (Val := Elt Ideal) (⟨Rect.unit ![o, 0, 0] ![1, 256, 512] i, f⟩ :: L) (Rect.unit ![o', 0, 0] ![1, 256, 512] i').toLoadRect
      = w.readCov L (Rect.unit ![o', 0, 0] ![1, 256, 512] i').toLoadRect := by
  rw [View.readCov_eq_canon', View.readCov_eq_canon']
  funext x
  refine View.canon_cons_of_not_mem ⟨Rect.unit (s := S4x256x512) ![o, 0, 0] ![1, 256, 512] i, f⟩ L ?_
  intro hm
  obtain ⟨h1, h2⟩ := (Rect.mem_set_unit (inb := i)).mp hm 0
  have x0 : (x 0).val < 1 := (x 0).isLt
  have h3 : o ≤ o' + 1 * (x 0).val := h1
  have h4 : o' + 1 * (x 0).val < o + 1 := h2
  omega

/-- A plane read back from the whole array. -/
theorem readCov_whole {sig : RefSig} {κ : Kind} {sp : Space} {e : EltTy} (w : View sig κ sp S4x256x512 e) (f : Vec Ideal S4x256x512 e)
    (o : Nat) (i i') :
    w.readCov (Val := Elt Ideal) [⟨Rect.unit ![0, 0, 0] ![4, 256, 512] i, f⟩] (Rect.unit ![o, 0, 0] ![1, 256, 512] i').toLoadRect
      = View.ld (Val := Elt Ideal) (S := S4x256x512) (e' := e) f (Rect.unit (s := S4x256x512) ![o, 0, 0] ![1, 256, 512] i') := by
  rw [View.readCov_eq_canon', View.canon_unit_zero (funext fun a => by fin_cases a <;> rfl)]

namespace Tile

variable (b : Tile)

/-- The gradient at the output and at the gate's argument, on the whole tile. -/
def douT : FVec Ideal S256x2048 .f32 := fun i => (b.row (i 0)).dout (i 1)
def dqT : FVec Ideal S256x2048 .bf16 := fun i => (b.row (i 0)).dq (i 1)

/-- The scratch and the gradient at the gate's argument, read back whole after the four stores. -/
theorem scratch_read {sig : RefSig} {κ : Kind} {sp : Space} (w : View sig κ sp S256x2048 .f32) (i0 i1 i2 i3 i) :
    w.readCov (Val := Elt Ideal)
      [⟨Rect.unit ![0, 1536] ![256, 512] i3, k0_pay46 (F := Ideal) b.pe3 b.hP b.gP b.t3⟩,
       ⟨Rect.unit ![0, 1024] ![256, 512] i2, k0_pay38 (F := Ideal) b.pe2 b.hP b.gP b.t2⟩,
       ⟨Rect.unit ![0, 512] ![256, 512] i1, k0_pay30 (F := Ideal) b.pe1 b.hP b.gP b.t1⟩,
       ⟨Rect.unit ![0, 0] ![256, 512] i0, k0_pay22 (F := Ideal) b.pe0 b.onP b.x b.gain b.wg b.t0⟩]
      (Rect.unit ![0, 0] ![256, 2048] i).toLoadRect = b.douT :=
  readCov_bands w _ _ _ _ (fun r k => (b.row r).dout k) b.dout0_at b.dout1_at b.dout2_at b.dout3_at i0 i1 i2 i3 i

theorem dq_read {sig : RefSig} {κ : Kind} {sp : Space} (w : View sig κ sp S256x2048 .bf16) (i0 i1 i2 i3 i) :
    w.readCov (Val := Elt Ideal)
      [⟨Rect.unit ![0, 1536] ![256, 512] i3, k0_pay49 (F := Ideal) b.pe3 (k0_pay42 b.gP) (k0_pay45 b.pe3 b.hP b.gP b.t3)⟩,
       ⟨Rect.unit ![0, 1024] ![256, 512] i2, k0_pay41 (F := Ideal) b.pe2 (k0_pay34 b.gP) b.dg2⟩,
       ⟨Rect.unit ![0, 512] ![256, 512] i1, k0_pay33 (F := Ideal) b.pe1 (k0_pay26 b.gP) b.dg1⟩,
       ⟨Rect.unit ![0, 0] ![256, 512] i0, k0_pay25 (F := Ideal) b.pe0 (k0_pay18 b.onP b.x b.gain b.wg) b.dg0⟩]
      (Rect.unit ![0, 0] ![256, 2048] i).toLoadRect = b.dqT :=
  readCov_bands w _ _ _ _ (fun r k => (b.row r).dq k) b.dq0_at b.dq1_at b.dq2_at b.dq3_at i0 i1 i2 i3 i

theorem dh_at (r : Fin 256) (k : Fin 2048) : k0_pay50 (F := Ideal) b.douT b.dqT b.wg (ix2 r k) = (b.row r).dh k := by
  pointwise [k0_pay50]; rfl

theorem gain_at (acc : FVec Ideal S8x2048 .f32) (q : Fin 8) (k : Fin 2048) :
    k0_pay51 (F := Ideal) b.onP b.douT b.dqT b.wg acc (ix2 q k)
      = (acc (ix2 q k) : EReal) + ∑ x : Fin 32, (b.row ⟨x.val * 8 + q.val, by omega⟩).dh k * (b.row ⟨x.val * 8 + q.val, by omega⟩).on k := by
  pointwise [k0_pay51]
  simp only [dh_at, onP_at]

theorem do_at (r : Fin 256) (k : Fin 2048) :
    k0_pay1 (F := Ideal) (k0_pay13 b.y b.wo) b.onP (k0_pay50 b.douT b.dqT b.wg) b.gain (ix2 r k) = (b.row r).dO k := by
  pointwise [k0_pay1]
  simp only [dh_at, onP_at, rP_at]
  rfl

theorem dy_at (r : Fin 256) (k : Fin 2048) :
    k0_pay2 (F := Ideal) (k0_pay13 b.y b.wo) b.onP (k0_pay50 b.douT b.dqT b.wg) b.gain b.wo (ix2 r k) = (b.row r).dy k := by
  pointwise [k0_pay2]
  simp only [do_at]
  rfl

/-- The squared errors of a band of the tile. -/
def sq (s : Fin 4) : EReal := ∑ r, ∑ j, (b.row r).d (col s j) * (b.row r).d (col s j)

theorem loss0_at (acc : FVec Ideal S8x128 .f32) (q : Fin 8) (l : Fin 128) :
    k0_pay20 (F := Ideal) b.pe0 b.onP b.x b.gain b.wg b.t0 acc (ix2 q l) = (acc (ix2 q l) : EReal) + b.sq 0 * Ideal.ofBits .f32 964689920#32 := by
  pointwise [k0_pay20]; simp only [d0_at]; rfl
theorem loss1_at (acc : FVec Ideal S8x128 .f32) (q : Fin 8) (l : Fin 128) :
    k0_pay28 (F := Ideal) b.pe1 b.hP b.gP b.t1 acc (ix2 q l) = (acc (ix2 q l) : EReal) + b.sq 1 * Ideal.ofBits .f32 964689920#32 := by
  pointwise [k0_pay28]; simp only [d1_at]; rfl
theorem loss2_at (acc : FVec Ideal S8x128 .f32) (q : Fin 8) (l : Fin 128) :
    k0_pay36 (F := Ideal) b.pe2 b.hP b.gP b.t2 acc (ix2 q l) = (acc (ix2 q l) : EReal) + b.sq 2 * Ideal.ofBits .f32 964689920#32 := by
  pointwise [k0_pay36]; simp only [d2_at]; rfl
theorem loss3_at (acc : FVec Ideal S8x128 .f32) (q : Fin 8) (l : Fin 128) :
    k0_pay44 (F := Ideal) b.pe3 b.hP b.gP b.t3 acc (ix2 q l) = (acc (ix2 q l) : EReal) + b.sq 3 * Ideal.ofBits .f32 964689920#32 := by
  pointwise [k0_pay44]; simp only [d3_at]; rfl

/-- What the tile adds to the gradient of the features' weight. -/
def we_add (s : Fin 4) (i : Fin 256) (j : Fin 512) : EReal := ∑ r, (b.row r).p i * (b.row r).dg (col s j)

variable (i : Fin 256) (j : Fin 512)
theorem we0_at (acc : FVec Ideal S1x256x512 .f32) :
    k0_pay24 (F := Ideal) (k0_pay7 b.p) b.dg0 acc (ix3 0 i j) = (acc (ix3 0 i j) : EReal) + b.we_add 0 i j := by
  pointwise [k0_pay24, k0_pay7]; simp only [dg0_at]; rfl
theorem we1_at (acc : FVec Ideal S1x256x512 .f32) :
    k0_pay32 (F := Ideal) (k0_pay7 b.p) b.dg1 acc (ix3 0 i j) = (acc (ix3 0 i j) : EReal) + b.we_add 1 i j := by
  pointwise [k0_pay32, k0_pay7]; simp only [dg1_at]; rfl
theorem we2_at (acc : FVec Ideal S1x256x512 .f32) :
    k0_pay40 (F := Ideal) (k0_pay7 b.p) b.dg2 acc (ix3 0 i j) = (acc (ix3 0 i j) : EReal) + b.we_add 2 i j := by
  pointwise [k0_pay40, k0_pay7]; simp only [dg2_at]; rfl
theorem we3_at (acc : FVec Ideal S1x256x512 .f32) :
    k0_pay48 (F := Ideal) (k0_pay7 b.p) (k0_pay42 b.gP) (k0_pay45 b.pe3 b.hP b.gP b.t3) acc (ix3 0 i j) = (acc (ix3 0 i j) : EReal) + b.we_add 3 i j := by
  pointwise [k0_pay48, k0_pay7]
  simp only [show ∀ r, k0_pay47 (F := Ideal) (k0_pay42 b.gP) (k0_pay45 b.pe3 b.hP b.gP b.t3) (ix2 r j) = _ from fun r => b.dg3_at r j]; rfl

end Tile

end Cert.Kernel4Ideal.Head

end
-- ==== Proof.HeadRun.lean ====
/- What one point of the head's grid leaves in the output buffers: a function of the point's blocks and, for the three
   accumulators, of what the point before left. -/
module

public import proofs.«01_k».proof.Proof.HeadTile

@[expose] public section

set_option maxRecDepth 16384

noncomputable section

namespace Cert.Kernel4Ideal.Head

open Cert.Kernel4Ideal Cert.Kernel4Ideal.Gen Idealize.ShloMosaic Idealize.ShloMosaic.TcCoe Idealize.ShloMosaic.Tactic Cert.Head

variable (m : (ℓ : Loc nD τ sig) → Buf (Elt Ideal) ℓ)

theorem hz2 : (![0, 0] : Fin 2 → Nat) = fun _ => 0 := funext fun a => by fin_cases a <;> rfl
theorem hz2' : ∀ a : Fin 2, (![0, 0] : Fin 2 → Nat) a = 0 := congrFun hz2
theorem hz3 : (![0, 0, 0] : Fin 3 → Nat) = fun _ => 0 := funext fun a => by fin_cases a <;> rfl

/-- The blocks of a point. -/
abbrev tile (c : Dev nD) (t : Fin cfg0.N) : Tile where
  x := iblk m c 0 t
  y := iblk m c 1 t
  p := iblk m c 2 t
  tgt := iblk m c 3 t
  gain := iblk m c 4 t
  wo := iblk m c 5 t
  wg := iblk m c 6 t
  we := iblk m c 7 t

namespace Tile
variable (b : Tile)

/-- The five row results of a tile. -/
def hT : FVec Ideal S256x2048 .bf16 := fun i => (b.row (i 0)).h (i 1)
def dhT : FVec Ideal S256x2048 .f32 := fun i => (b.row (i 0)).dh (i 1)
def doT : FVec Ideal S256x2048 .bf16 := fun i => (b.row (i 0)).dO (i 1)
def dyT : FVec Ideal S256x2048 .f32 := fun i => (b.row (i 0)).dy (i 1)

theorem dhT_eq : k0_pay50 (F := Ideal) b.douT b.dqT b.wg = b.dhT := by
  funext i; idx_vars i; exact b.dh_at _ _
theorem doT_eq : k0_pay1 (F := Ideal) (k0_pay13 b.y b.wo) b.onP (k0_pay50 b.douT b.dqT b.wg) b.gain = b.doT := by
  funext i; idx_vars i; exact b.do_at _ _
theorem dyT_eq : k0_pay2 (F := Ideal) (k0_pay13 b.y b.wo) b.onP (k0_pay50 b.douT b.dqT b.wg) b.gain b.wo = b.dyT := by
  funext i; idx_vars i; exact b.dy_at _ _

/-- What a tile makes of the accumulators. -/
def weT (acc : FVec Ideal S4x256x512 .f32) : FVec Ideal S4x256x512 .f32 := fun i => (acc i : EReal) + b.we_add (i 0) (i 1) (i 2)
def gainT (acc : FVec Ideal S8x2048 .f32) : FVec Ideal S8x2048 .f32 := fun i =>
  (acc i : EReal) + ∑ x : Fin 32, (b.row ⟨x.val * 8 + (i 0).val, by have : (i 0).val < 8 := (i 0).isLt; omega⟩).dh (i 1) * (b.row ⟨x.val * 8 + (i 0).val, by have : (i 0).val < 8 := (i 0).isLt; omega⟩).on (i 1)
def lossT (acc : FVec Ideal S8x128 .f32) : FVec Ideal S8x128 .f32 := fun i =>
  (acc i : EReal) + b.sq 0 * Ideal.ofBits .f32 964689920#32 + b.sq 1 * Ideal.ofBits .f32 964689920#32
    + b.sq 2 * Ideal.ofBits .f32 964689920#32 + b.sq 3 * Ideal.ofBits .f32 964689920#32

theorem gainT_eq (acc : FVec Ideal S8x2048 .f32) : k0_pay51 (F := Ideal) b.onP b.douT b.dqT b.wg acc = b.gainT acc := by
  funext i; idx_vars i; exact b.gain_at _ _ _

theorem lossT_eq (acc : FVec Ideal S8x128 .f32) :
    k0_pay44 (F := Ideal) b.pe3 b.hP b.gP b.t3 (k0_pay36 b.pe2 b.hP b.gP b.t2 (k0_pay28 b.pe1 b.hP b.gP b.t1
      (k0_pay20 b.pe0 b.onP b.x b.gain b.wg b.t0 acc))) = b.lossT acc := by
  funext i; idx_vars i; rw [loss3_at, loss2_at, loss1_at, loss0_at]; rfl

end Tile

/-- The eight running sums of the gain's gradient added up, each row alike. -/
def foldT (v : FVec Ideal S8x2048 .f32) : FVec Ideal S8x2048 .f32 := fun i => ∑ x : Fin 8, (v (ix2 x (i 1)) : EReal)
theorem foldT_eq (v : FVec Ideal S8x2048 .f32) : k0_pay3 (F := Ideal) v = foldT v := by
  funext i; idx_vars i; pointwise [k0_pay3]; rfl
theorem pay4_at (i : S8x2048.Idx) : k0_pay4 (F := Ideal) i = (0 : EReal) := by idx_vars i; pointwise [k0_pay4]
theorem pay5_at (i : S4x256x512.Idx) : k0_pay5 (F := Ideal) i = (0 : EReal) := by idx_vars i; pointwise [k0_pay5]
theorem pay6_at (i : S8x128.Idx) : k0_pay6 (F := Ideal) i = (0 : EReal) := by idx_vars i; pointwise [k0_pay6]

set_option maxHeartbeats 8000000 in
/-- A point that is neither the first nor the last. -/
theorem outs_B (c : Dev nD) (t : Fin cfg0.N) (h0 : ¬t.val % 32 = 0) (h1 : ¬t.val % 32 = 31) (P)
    (hP : P = outsAt0 m c (t.val - 1) (Nat.lt_of_le_of_lt (Nat.sub_le _ _) t.isLt)) :
    outsAt0 m c t.val t.isLt = ((tile m c t).hT, (tile m c t).dqT, (tile m c t).dhT, (tile m c t).doT, (tile m c t).dyT,
      (tile m c t).weT P.2.2.2.2.2.1, (tile m c t).gainT P.2.2.2.2.2.2.1, (tile m c t).lossT P.2.2.2.2.2.2.2) := by
  subst hP
  rw [outsAt0_B m c t h0 h1]
  refine Prod.ext ?_ (Prod.ext ?_ (Prod.ext ?_ (Prod.ext ?_ (Prod.ext ?_ (Prod.ext ?_ (Prod.ext ?_ ?_)))))) <;> dsimp only
  · unfold out0_B_8; rw [View.read_writes_eq_canon _ _ _ (cover0_B_8 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2]; funext i; idx_vars i; exact (tile m c t).h1P_at _ _
  · unfold out0_B_9; rw [View.read_writes_eq_canon _ _ _ (cover0_B_9 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    exact canon_bands (e := .bf16) _ _ _ _ (fun r k => ((tile m c t).row r).dq k) (tile m c t).dq0_at (tile m c t).dq1_at (tile m c t).dq2_at (tile m c t).dq3_at _ _ _ _
  · unfold out0_B_10; rw [View.read_writes_eq_canon _ _ _ (cover0_B_10 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).dhT_eq
  · unfold out0_B_11; rw [View.read_writes_eq_canon _ _ _ (cover0_B_11 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).doT_eq
  · unfold out0_B_12; rw [View.read_writes_eq_canon _ _ _ (cover0_B_12 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).dyT_eq
  · unfold out0_B_13; rw [View.read_writes_eq_canon _ _ _ (cover0_B_13 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    refine canon_planes _ _ _ _ (fun s i j => ((outsAt0 m c (t.val - 1) (Nat.lt_of_le_of_lt (Nat.sub_le _ _) t.isLt)).2.2.2.2.2.1 (ix3 s i j) : EReal) + (tile m c t).we_add s i j) ?_ ?_ ?_ ?_ _ _ _ _ |>.trans ?_
    · exact fun i j => ((tile m c t).we0_at _ _ _).trans (congrArg (· + _) (Tile.ld_plane j _ 0 0 rfl i _))
    · exact fun i j => ((tile m c t).we1_at _ _ _).trans (congrArg (· + _) (Tile.ld_plane j _ 1 1 rfl i _))
    · exact fun i j => ((tile m c t).we2_at _ _ _).trans (congrArg (· + _) (Tile.ld_plane j _ 2 2 rfl i _))
    · exact fun i j => ((tile m c t).we3_at _ _ _).trans (congrArg (· + _) (Tile.ld_plane j _ 3 3 rfl i _))
    · funext i; idx_vars i; rfl
  · unfold out0_B_14; rw [View.read_writes_eq_canon _ _ _ (cover0_B_14 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).gainT_eq _
  · unfold out0_B_15; rw [View.read_writes_eq_canon _ _ _ (cover0_B_15 c _ _ _ _ _ _ _ _ _ _ _ _ _ _ _ _ _ _ _ _ _ _ _ _ _ _ _ _ _ _ _ _ _ _ _ _ _ _ _ _ _ _ _ _ _ _ _ _ )]; unfold kernelRun0_B; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    simp only [View.canon_cons_unit_lit' (S := S8x128) _ _ _ hz2', View.readCov_cons_unit_lit' (S := S8x128) _ _ _ _ _ hz2' hz2']; exact (tile m c t).lossT_eq _

set_option maxHeartbeats 8000000 in
/-- The last point. -/
theorem outs_C (c : Dev nD) (t : Fin cfg0.N) (h0 : ¬t.val % 32 = 0) (h1 : t.val % 32 = 31) (P)
    (hP : P = outsAt0 m c (t.val - 1) (Nat.lt_of_le_of_lt (Nat.sub_le _ _) t.isLt)) :
    outsAt0 m c t.val t.isLt = ((tile m c t).hT, (tile m c t).dqT, (tile m c t).dhT, (tile m c t).doT, (tile m c t).dyT,
      (tile m c t).weT P.2.2.2.2.2.1, foldT ((tile m c t).gainT P.2.2.2.2.2.2.1), (tile m c t).lossT P.2.2.2.2.2.2.2) := by
  subst hP
  rw [outsAt0_C m c t h0 h1]
  refine Prod.ext ?_ (Prod.ext ?_ (Prod.ext ?_ (Prod.ext ?_ (Prod.ext ?_ (Prod.ext ?_ (Prod.ext ?_ ?_)))))) <;> dsimp only
  · unfold out0_C_8; rw [View.read_writes_eq_canon _ _ _ (cover0_C_8 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2]; funext i; idx_vars i; exact (tile m c t).h1P_at _ _
  · unfold out0_C_9; rw [View.read_writes_eq_canon _ _ _ (cover0_C_9 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    exact canon_bands (e := .bf16) _ _ _ _ (fun r k => ((tile m c t).row r).dq k) (tile m c t).dq0_at (tile m c t).dq1_at (tile m c t).dq2_at (tile m c t).dq3_at _ _ _ _
  · unfold out0_C_10; rw [View.read_writes_eq_canon _ _ _ (cover0_C_10 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).dhT_eq
  · unfold out0_C_11; rw [View.read_writes_eq_canon _ _ _ (cover0_C_11 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).doT_eq
  · unfold out0_C_12; rw [View.read_writes_eq_canon _ _ _ (cover0_C_12 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).dyT_eq
  · unfold out0_C_13; rw [View.read_writes_eq_canon _ _ _ (cover0_C_13 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    refine canon_planes _ _ _ _ (fun s i j => ((outsAt0 m c (t.val - 1) (Nat.lt_of_le_of_lt (Nat.sub_le _ _) t.isLt)).2.2.2.2.2.1 (ix3 s i j) : EReal) + (tile m c t).we_add s i j) ?_ ?_ ?_ ?_ _ _ _ _ |>.trans ?_
    · exact fun i j => ((tile m c t).we0_at _ _ _).trans (congrArg (· + _) (Tile.ld_plane j _ 0 0 rfl i _))
    · exact fun i j => ((tile m c t).we1_at _ _ _).trans (congrArg (· + _) (Tile.ld_plane j _ 1 1 rfl i _))
    · exact fun i j => ((tile m c t).we2_at _ _ _).trans (congrArg (· + _) (Tile.ld_plane j _ 2 2 rfl i _))
    · exact fun i j => ((tile m c t).we3_at _ _ _).trans (congrArg (· + _) (Tile.ld_plane j _ 3 3 rfl i _))
    · funext i; idx_vars i; rfl
  · unfold out0_C_14; rw [View.read_writes_eq_canon _ _ _ (cover0_C_14 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_cons_unit_lit' (S := S8x2048) _ _ _ hz2', View.readCov_unit_lit' (S := S8x2048) _ _ _ hz2', (tile m c t).scratch_read, (tile m c t).dq_read, (tile m c t).gainT_eq]; exact foldT_eq _
  · unfold out0_C_15; rw [View.read_writes_eq_canon _ _ _ (cover0_C_15 c _ _ _ _ _ _ _ _ _ _ _ _ _ _ _ _ _ _ _ _ _ _ _ _ _ _ _ _ _ _ _ _ _ _ _ _ _ _ _ _ _ _ _ _ _ _ _ _ )]; unfold kernelRun0_C; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    simp only [View.canon_cons_unit_lit' (S := S8x128) _ _ _ hz2', View.readCov_cons_unit_lit' (S := S8x128) _ _ _ _ _ hz2' hz2']; exact (tile m c t).lossT_eq _

set_option maxHeartbeats 8000000 in
/-- The first point. -/
theorem outs_A (c : Dev nD) (t : Fin cfg0.N) (h0 : t.val % 32 = 0) (h1 : ¬t.val % 32 = 31) :
    outsAt0 m c t.val t.isLt = ((tile m c t).hT, (tile m c t).dqT, (tile m c t).dhT, (tile m c t).doT, (tile m c t).dyT,
      (tile m c t).weT (fun _ => 0), (tile m c t).gainT (fun _ => 0), (tile m c t).lossT (fun _ => 0)) := by
  rw [outsAt0_A m c t h0 h1]
  refine Prod.ext ?_ (Prod.ext ?_ (Prod.ext ?_ (Prod.ext ?_ (Prod.ext ?_ (Prod.ext ?_ (Prod.ext ?_ ?_)))))) <;> dsimp only
  · unfold out0_A_8; rw [View.read_writes_eq_canon _ _ _ (cover0_A_8 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2]; funext i; idx_vars i; exact (tile m c t).h1P_at _ _
  · unfold out0_A_9; rw [View.read_writes_eq_canon _ _ _ (cover0_A_9 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    exact canon_bands (e := .bf16) _ _ _ _ (fun r k => ((tile m c t).row r).dq k) (tile m c t).dq0_at (tile m c t).dq1_at (tile m c t).dq2_at (tile m c t).dq3_at _ _ _ _
  · unfold out0_A_10; rw [View.read_writes_eq_canon _ _ _ (cover0_A_10 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).dhT_eq
  · unfold out0_A_11; rw [View.read_writes_eq_canon _ _ _ (cover0_A_11 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).doT_eq
  · unfold out0_A_12; rw [View.read_writes_eq_canon _ _ _ (cover0_A_12 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_unit_zero hz2, (tile m c t).scratch_read, (tile m c t).dq_read]; exact (tile m c t).dyT_eq
  · unfold out0_A_13; rw [View.read_writes_eq_canon _ _ _ (cover0_A_13 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    simp only [readCov_skip _ 0 1 (by decide), readCov_skip _ 0 2 (by decide), readCov_skip _ 1 2 (by decide), readCov_skip _ 0 3 (by decide), readCov_skip _ 1 3 (by decide), readCov_skip _ 2 3 (by decide), readCov_whole]
    refine canon_planes_over _ _ _ _ (fun s i j => (0 : EReal) + (tile m c t).we_add s i j) ?_ ?_ ?_ ?_ _ _ _ _ _ |>.trans ?_
    · exact fun i j => ((tile m c t).we0_at _ _ _).trans (congrArg (· + _) ((Tile.ld_plane j _ 0 0 rfl i _).trans (pay5_at _)))
    · exact fun i j => ((tile m c t).we1_at _ _ _).trans (congrArg (· + _) ((Tile.ld_plane j _ 1 1 rfl i _).trans (pay5_at _)))
    · exact fun i j => ((tile m c t).we2_at _ _ _).trans (congrArg (· + _) ((Tile.ld_plane j _ 2 2 rfl i _).trans (pay5_at _)))
    · exact fun i j => ((tile m c t).we3_at _ _ _).trans (congrArg (· + _) ((Tile.ld_plane j _ 3 3 rfl i _).trans (pay5_at _)))
    · funext i; idx_vars i; rfl
  · unfold out0_A_14; rw [View.read_writes_eq_canon _ _ _ (cover0_A_14 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    rw [View.canon_cons_unit_lit' (S := S8x2048) _ _ _ hz2', View.readCov_unit_lit' (S := S8x2048) _ _ _ hz2', (tile m c t).scratch_read, (tile m c t).dq_read, (tile m c t).gainT_eq]; exact congrArg _ (funext fun i => pay4_at i)
  · unfold out0_A_15; rw [View.read_writes_eq_canon _ _ _ (cover0_A_15 c _ _ _ _ _ _ _ _ _ _ _ _ _ _ _ _ _ _ _ _ _ _ _ _ _ _ _ _ _ _ _ _ _ _ _ _ _ _ _ _ _ _ _ _ _ )]; unfold kernelRun0_A; dsimp only; try sl_unfold_words
    simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_13 _).read_unread, (hs0_14 _).read_unread, (hs0_15 _).read_unread, View.ld_unit_zero (S := S256x2048) hz2, View.ld_unit_zero (S := S256x256) hz2, View.ld_unit_zero (S := S8x2048) hz2, View.ld_unit_zero (S := S8x128) hz2, View.ld_unit_zero (S := S2048x2048) hz2, View.ld_unit_zero (S := S1x2048) hz2, shapeCast_self]
    simp only [View.canon_cons_unit_lit' (S := S8x128) _ _ _ hz2', View.readCov_cons_unit_lit' (S := S8x128) _ _ _ _ _ hz2' hz2']; exact ((tile m c t).lossT_eq _).trans (congrArg _ (funext fun i => pay6_at i))

end Cert.Kernel4Ideal.Head

end
-- ==== Proof.HeadOut.lean ====
/- The output buffers of the head's grid after each point: the row results are those of the point's own tile, and the three
   accumulators hold the sums over the points so far. -/
module

public import proofs.«01_k».proof.Proof.HeadRun

@[expose] public section

set_option maxRecDepth 16384

noncomputable section

namespace Cert.Kernel4Ideal.Head

open Cert.Kernel4Ideal Cert.Kernel4Ideal.Gen Idealize.ShloMosaic Idealize.ShloMosaic.TcCoe Idealize.ShloMosaic.Tactic Cert.Head

variable (m : (ℓ : Loc nD τ sig) → Buf (Elt Ideal) ℓ)

theorem N_eq : cfg0.N = 32 := by decide +kernel

/-- The row results of a point. -/
theorem rows_out (c : Dev nD) (t : Fin cfg0.N) :
    (outsAt0 m c t.val t.isLt).1 = (tile m c t).hT ∧ (outsAt0 m c t.val t.isLt).2.1 = (tile m c t).dqT ∧
    (outsAt0 m c t.val t.isLt).2.2.1 = (tile m c t).dhT ∧ (outsAt0 m c t.val t.isLt).2.2.2.1 = (tile m c t).doT ∧
    (outsAt0 m c t.val t.isLt).2.2.2.2.1 = (tile m c t).dyT := by
  have hN := N_eq
  have ht := t.isLt
  by_cases h0 : t.val % 32 = 0
  · rw [outs_A m c t h0 (by omega)]; exact ⟨rfl, rfl, rfl, rfl, rfl⟩
  · by_cases h1 : t.val % 32 = 31
    · rw [outs_C m c t h0 h1 _ rfl]; exact ⟨rfl, rfl, rfl, rfl, rfl⟩
    · rw [outs_B m c t h0 h1 _ rfl]; exact ⟨rfl, rfl, rfl, rfl, rfl⟩

/-- What grows by one term at each step is the sum of the terms. -/
theorem sum_of_steps (N : Nat) (a : (n : Nat) → n < N → EReal) (d : Fin N → EReal) (K : Nat)
    (h0 : ∀ h, a 0 h = 0 + d ⟨0, h⟩)
    (hs : ∀ n (h : n + 1 < N), n + 1 < K → a (n + 1) h = a n (Nat.lt_of_succ_lt h) + d ⟨n + 1, h⟩) :
    ∀ n (h : n < N), n < K → a n h = ∑ t : Fin (n + 1), d ⟨t.val, Nat.lt_of_lt_of_le t.isLt h⟩ := by
  intro n
  induction n with
  | zero => intro h _; rw [h0, zero_add]; exact (Fin.sum_univ_one (M := EReal) (fun t : Fin 1 => d ⟨t.val, Nat.lt_of_lt_of_le t.isLt h⟩)).symm
  | succ n ih =>
    intro h hk
    rw [hs n h hk, ih (Nat.lt_of_succ_lt h) (Nat.lt_of_succ_lt hk), Fin.sum_univ_castSucc (n := n + 1)]
    rfl

/-- One point's terms. -/
def gainD (b : Tile) (q : Fin 8) (k : Fin 2048) : EReal :=
  ∑ x : Fin 32, (b.row ⟨x.val * 8 + q.val, by have := q.isLt; omega⟩).dh k * (b.row ⟨x.val * 8 + q.val, by have := q.isLt; omega⟩).on k
def lossD (b : Tile) : EReal :=
  b.sq 0 * Ideal.ofBits .f32 964689920#32 + (b.sq 1 * Ideal.ofBits .f32 964689920#32
    + (b.sq 2 * Ideal.ofBits .f32 964689920#32 + b.sq 3 * Ideal.ofBits .f32 964689920#32))

theorem step_we (c : Dev nD) (i : S4x256x512.Idx) (n : Nat) (h : n + 1 < cfg0.N) :
    (outsAt0 m c (n + 1) h).2.2.2.2.2.1 i
      = (outsAt0 m c n (Nat.lt_of_succ_lt h)).2.2.2.2.2.1 i + (tile m c ⟨n + 1, h⟩).we_add (i 0) (i 1) (i 2) := by
  have hN := N_eq
  have h0 : ¬(⟨n + 1, h⟩ : Fin cfg0.N).val % 32 = 0 := by show ¬(n + 1) % 32 = 0; omega
  by_cases h1 : (⟨n + 1, h⟩ : Fin cfg0.N).val % 32 = 31
  · exact congrFun (congrArg (fun p => p.2.2.2.2.2.1) (outs_C m c ⟨n + 1, h⟩ h0 h1 _ rfl)) i
  · exact congrFun (congrArg (fun p => p.2.2.2.2.2.1) (outs_B m c ⟨n + 1, h⟩ h0 h1 _ rfl)) i

theorem step_loss (c : Dev nD) (i : S8x128.Idx) (n : Nat) (h : n + 1 < cfg0.N) :
    (outsAt0 m c (n + 1) h).2.2.2.2.2.2.2 i
      = ((outsAt0 m c n (Nat.lt_of_succ_lt h)).2.2.2.2.2.2.2 i : EReal) + lossD (tile m c ⟨n + 1, h⟩) := by
  have hN := N_eq
  have h0 : ¬(⟨n + 1, h⟩ : Fin cfg0.N).val % 32 = 0 := by show ¬(n + 1) % 32 = 0; omega
  have key : ∀ (b : Tile) acc, b.lossT acc i = (acc i : EReal) + lossD b := fun b acc => by
    unfold Tile.lossT lossD; simp only [add_assoc]
  by_cases h1 : (⟨n + 1, h⟩ : Fin cfg0.N).val % 32 = 31
  · exact (congrFun (congrArg (fun p => p.2.2.2.2.2.2.2) (outs_C m c ⟨n + 1, h⟩ h0 h1 _ rfl)) i).trans (key _ _)
  · exact (congrFun (congrArg (fun p => p.2.2.2.2.2.2.2) (outs_B m c ⟨n + 1, h⟩ h0 h1 _ rfl)) i).trans (key _ _)

theorem step_gain (c : Dev nD) (i : S8x2048.Idx) (n : Nat) (h : n + 1 < cfg0.N) (hk : n + 1 < 31) :
    (outsAt0 m c (n + 1) h).2.2.2.2.2.2.1 i
      = ((outsAt0 m c n (Nat.lt_of_succ_lt h)).2.2.2.2.2.2.1 i : EReal) + gainD (tile m c ⟨n + 1, h⟩) (i 0) (i 1) := by
  have hN := N_eq
  have h0 : ¬(⟨n + 1, h⟩ : Fin cfg0.N).val % 32 = 0 := by show ¬(n + 1) % 32 = 0; omega
  have h1 : ¬(⟨n + 1, h⟩ : Fin cfg0.N).val % 32 = 31 := by show ¬(n + 1) % 32 = 31; omega
  exact congrFun (congrArg (fun p => p.2.2.2.2.2.2.1) (outs_B m c ⟨n + 1, h⟩ h0 h1 _ rfl)) i

theorem first_eq (c : Dev nD) (h : 0 < cfg0.N) :
    outsAt0 m c 0 h = ((tile m c ⟨0, h⟩).hT, (tile m c ⟨0, h⟩).dqT, (tile m c ⟨0, h⟩).dhT, (tile m c ⟨0, h⟩).doT, (tile m c ⟨0, h⟩).dyT,
      (tile m c ⟨0, h⟩).weT (fun _ => 0), (tile m c ⟨0, h⟩).gainT (fun _ => 0), (tile m c ⟨0, h⟩).lossT (fun _ => 0)) :=
  outs_A m c ⟨0, h⟩ rfl (by show ¬(0 % 32 = 31); omega)

/-- The three accumulators after the last point. -/
theorem we_out (c : Dev nD) (i : S4x256x512.Idx) (h : 31 < cfg0.N) :
    (outsAt0 m c 31 h).2.2.2.2.2.1 i
      = ∑ t : Fin 32, (tile m c ⟨t.val, Nat.lt_of_lt_of_le t.isLt h⟩).we_add (i 0) (i 1) (i 2) :=
  sum_of_steps cfg0.N (fun n h => (outsAt0 m c n h).2.2.2.2.2.1 i) (fun t => (tile m c t).we_add (i 0) (i 1) (i 2)) 32
    (fun h => congrFun (congrArg (fun p => p.2.2.2.2.2.1) (first_eq m c h)) i) (fun n h _ => step_we m c i n h) 31 h (by omega)

theorem first_loss (c : Dev nD) (i : S8x128.Idx) (h : 0 < cfg0.N) :
    (outsAt0 m c 0 h).2.2.2.2.2.2.2 i = (0 : EReal) + lossD (tile m c ⟨0, h⟩) := by
  rw [first_eq m c h]; unfold Tile.lossT lossD; simp only [add_assoc]

theorem loss_out (c : Dev nD) (i : S8x128.Idx) (h : 31 < cfg0.N) :
    (outsAt0 m c 31 h).2.2.2.2.2.2.2 i = ∑ t : Fin 32, lossD (tile m c ⟨t.val, Nat.lt_of_lt_of_le t.isLt h⟩) :=
  sum_of_steps cfg0.N (fun n h => (outsAt0 m c n h).2.2.2.2.2.2.2 i) (fun t => lossD (tile m c t)) 32
    (first_loss m c i) (fun n h _ => step_loss m c i n h) 31 h (by omega)

theorem last_gain (c : Dev nD) (i : S8x2048.Idx) (n : Nat) (h : n + 1 < cfg0.N) (hn : n = 30) :
    (outsAt0 m c (n + 1) h).2.2.2.2.2.2.1 i
      = ∑ q : Fin 8, (((outsAt0 m c n (Nat.lt_of_succ_lt h)).2.2.2.2.2.2.1 (ix2 q (i 1)) : EReal) + gainD (tile m c ⟨n + 1, h⟩) q (i 1)) := by
  have h0 : ¬(⟨n + 1, h⟩ : Fin cfg0.N).val % 32 = 0 := by show ¬(n + 1) % 32 = 0; omega
  have h1 : (⟨n + 1, h⟩ : Fin cfg0.N).val % 32 = 31 := by show (n + 1) % 32 = 31; omega
  exact congrFun (congrArg (fun p => p.2.2.2.2.2.2.1) (outs_C m c ⟨n + 1, h⟩ h0 h1 _ rfl)) i

theorem first_gain (c : Dev nD) (i : S8x2048.Idx) (h : 0 < cfg0.N) :
    (outsAt0 m c 0 h).2.2.2.2.2.2.1 i = (0 : EReal) + gainD (tile m c ⟨0, h⟩) (i 0) (i 1) := by
  rw [first_eq m c h]; rfl

theorem gain_before (c : Dev nD) (i : S8x2048.Idx) (n : Nat) (h : n < cfg0.N) (hk : n < 31) :
    (outsAt0 m c n h).2.2.2.2.2.2.1 i
      = ∑ t : Fin (n + 1), gainD (tile m c ⟨t.val, Nat.lt_of_lt_of_le t.isLt h⟩) (i 0) (i 1) :=
  sum_of_steps cfg0.N (fun n h => (outsAt0 m c n h).2.2.2.2.2.2.1 i) (fun t => gainD (tile m c t) (i 0) (i 1)) 31
    (first_gain m c i) (fun n h hk => step_gain m c i n h hk) n h hk

theorem gain_last (c : Dev nD) (i : S8x2048.Idx) (n : Nat) (h : n + 1 < cfg0.N) (hn : n = 30) :
    (outsAt0 m c (n + 1) h).2.2.2.2.2.2.1 i
      = ∑ q : Fin 8, ∑ t : Fin (n + 2), gainD (tile m c ⟨t.val, Nat.lt_of_lt_of_le t.isLt h⟩) q (i 1) := by
  rw [last_gain m c i n h hn]
  refine Finset.sum_congr rfl fun q _ => ?_
  rw [gain_before m c (ix2 q (i 1)) n (Nat.lt_of_succ_lt h) (by omega), Fin.sum_univ_castSucc (n := n + 1)]
  rfl

theorem gain_out (c : Dev nD) (i : S8x2048.Idx) (h : 31 < cfg0.N) :
    (outsAt0 m c 31 h).2.2.2.2.2.2.1 i
      = ∑ q : Fin 8, ∑ t : Fin 32, gainD (tile m c ⟨t.val, Nat.lt_of_lt_of_le t.isLt h⟩) q (i 1) :=
  gain_last m c i 30 h rfl

end Cert.Kernel4Ideal.Head

end
-- ==== Proof.HeadSums.lean ====
/- Sums and constants of the head: sums over all rows by tiles, a nonnegative sum times a constant, the loss's factor. -/
module

public import proofs.«01_k».proof.Proof.HeadRow
public import Idealize.ShloMosaic.Lib.Pointwise
public import Idealize.ShloMosaic.Lib.IdealHost

@[expose] public section

noncomputable section

namespace Cert.Head

open Idealize.ShloMosaic

/-- The constants' values. -/
theorem c2048 : Ideal.ofBits .f32 1157627904#32 = ((2048 : ℝ) : EReal) := by
  simp [Ideal.ofBits, Ideal.ieee, -EReal.coe_mul]; norm_num
theorem cHalf : Ideal.ofBits .f32 1056964608#32 = ((1 / 2 : ℝ) : EReal) := by
  simp [Ideal.ofBits, Ideal.ieee, -EReal.coe_mul]; norm_num
theorem cTwo : Ideal.ofBits .f32 1073741824#32 = ((2 : ℝ) : EReal) := by
  simp [Ideal.ofBits, Ideal.ieee, -EReal.coe_mul]; norm_num
theorem cMean : Ideal.ofBits .f32 973078528#32 = ((1 / 2048 : ℝ) : EReal) := by
  simp [Ideal.ofBits, Ideal.ieee, -EReal.coe_mul]; norm_num
theorem cLoss : Ideal.ofBits .f32 964689920#32 = ((1 / 4096 : ℝ) : EReal) := by
  simp [Ideal.ofBits, Ideal.ieee, -EReal.coe_mul]; norm_num

/-- Half of the mean's divisor, twice the error: the error over the width. -/
theorem two_halves (d : EReal) :
    Ideal.div (Ideal.ofBits .f32 1056964608#32) (Ideal.ofBits .f32 1157627904#32) * (Ideal.ofBits .f32 1073741824#32 * d)
      = d * Ideal.ofBits .f32 973078528#32 := by
  rw [cHalf, c2048, cTwo, cMean, Ideal.div_coe (by norm_num), ← mul_assoc, ← EReal.coe_mul, ← EReal.coe_mul, mul_comm]
  norm_num

theorem sq_nonneg (d : EReal) : 0 ≤ d * d := by
  rcases le_total 0 d with h | h
  · exact mul_nonneg h h
  · have h' : 0 ≤ -d := by rw [EReal.le_neg]; simpa using h
    have := mul_nonneg h' h'
    rwa [neg_mul_neg] at this

/-- A sum of nonnegative terms times a constant. -/
theorem sum_mul {ι : Type} (s : Finset ι) (f : ι → EReal) (c : EReal) (h : ∀ i, 0 ≤ f i) : (∑ i ∈ s, f i) * c = ∑ i ∈ s, f i * c := by
  classical
  induction s using Finset.induction_on with
  | empty => simp
  | insert i s hi ih =>
    rw [Finset.sum_insert hi, Finset.sum_insert hi, EReal.right_distrib_of_nonneg (h i) (Finset.sum_nonneg fun j _ => h j), ih]

/-- Half the sum of the rows' means is the sum over all of them times the constant. -/
theorem half_mean (f : Fin 8192 → Fin 2048 → EReal) :
    Ideal.ofBits .f32 1056964608#32 * ∑ R, Ideal.div (∑ k, f R k * f R k) (Ideal.ofBits .f32 1157627904#32)
      = (∑ R, ∑ k, f R k * f R k) * Ideal.ofBits .f32 964689920#32 := by
  have hn : ∀ R, 0 ≤ ∑ k, f R k * f R k := fun R => Finset.sum_nonneg fun k _ => sq_nonneg _
  rw [cHalf, c2048, cLoss]
  simp only [Ideal.div_coe (show (2048 : ℝ) ≠ 0 by norm_num)]
  rw [← sum_mul _ _ _ hn, mul_comm, mul_assoc, ← EReal.coe_mul]
  norm_num

/-- A sum over all rows, by tiles of 256. -/
theorem sum_rows (f : Fin 8192 → EReal) :
    ∑ R, f R = ∑ t : Fin 32, ∑ r : Fin 256, f ⟨t.val * 256 + r.val, by omega⟩ := Fin.sum_univ_tiles 32 256 rfl f

/-- … and a tile's sum by groups of eight rows. -/
theorem sum_groups (f : Fin 256 → EReal) :
    ∑ r, f r = ∑ x : Fin 32, ∑ q : Fin 8, f ⟨x.val * 8 + q.val, by omega⟩ := Fin.sum_univ_tiles 32 8 rfl f

/-- A sum over the columns, by bands. -/
theorem sum_cols (f : Fin 2048 → EReal) : ∑ k, f k = ∑ s : Fin 4, ∑ j : Fin 512, f (col s j) :=
  (Fin.sum_univ_tiles 4 512 rfl f).trans (Finset.sum_congr rfl fun s _ => Finset.sum_congr rfl fun j _ =>
    congrArg f (Fin.ext (by show s.val * 512 + j.val = 512 * s.val + j.val; omega)))

end Cert.Head

end
-- ==== Proof.HeadBlocks.lean ====
/- The arrays the head's run leaves, element by element, as functions of the rows of the argument arrays. -/
module

public import proofs.«01_k».proof.Proof.HeadOut
public import proofs.«01_k».proof.Proof.HeadSums
public import proofs.«01_k».proof.Proof.Gen.Kernel4Ideal.Value

@[expose] public section

set_option maxRecDepth 16384

noncomputable section

namespace Cert.Kernel4Ideal.Head

open Cert.Kernel4Ideal Cert.Kernel4Ideal.Gen Cert.Kernel4Ideal.Value Idealize.ShloMosaic Idealize.ShloMosaic.TcCoe Idealize.ShloMosaic.Tactic Cert.Head

variable (m : (ℓ : Loc nD τ sig) → Buf (Elt Ideal) ℓ) (c : Dev nD)

/-- One row of the argument arrays. -/
def rowOf (R : Fin 8192) : Row where
  x k := m ((c : Thread nD τ).loc main_arg0) (ix2 R k)
  y k := m ((c : Thread nD τ).loc main_arg1) (ix2 R k)
  p k := m ((c : Thread nD τ).loc main_arg2) (ix2 R k)
  tgt k := m ((c : Thread nD τ).loc main_arg3) (ix2 R k)
  gain k := m ((c : Thread nD τ).loc main_arg4) (ix2 0 k)
  wo j k := m ((c : Thread nD τ).loc main_arg5) (ix2 j k)
  wg j k := m ((c : Thread nD τ).loc main_arg6) (ix2 j k)
  we s i j := m ((c : Thread nD τ).loc main_arg7) (ix3 s i j)

/-- Which block each window stands on at a point. -/
theorem index_rows : ∀ t : Fin cfg0.N,
    (win0_0.index t (0 : Fin 2) = t.val ∧ win0_0.index t (1 : Fin 2) = 0) ∧ (win0_1.index t (0 : Fin 2) = t.val ∧ win0_1.index t (1 : Fin 2) = 0) ∧
    (win0_2.index t (0 : Fin 2) = t.val ∧ win0_2.index t (1 : Fin 2) = 0) ∧ (win0_3.index t (0 : Fin 2) = t.val ∧ win0_3.index t (1 : Fin 2) = 0) ∧
    (win0_8.index t (0 : Fin 2) = t.val ∧ win0_8.index t (1 : Fin 2) = 0) ∧ (win0_9.index t (0 : Fin 2) = t.val ∧ win0_9.index t (1 : Fin 2) = 0) ∧
    (win0_10.index t (0 : Fin 2) = t.val ∧ win0_10.index t (1 : Fin 2) = 0) ∧ (win0_11.index t (0 : Fin 2) = t.val ∧ win0_11.index t (1 : Fin 2) = 0) ∧
    (win0_12.index t (0 : Fin 2) = t.val ∧ win0_12.index t (1 : Fin 2) = 0) :=
  (by decide +kernel : ∀ t : Fin grid0.N, _)

theorem index_whole : ∀ t : Fin cfg0.N,
    (win0_4.index t (0 : Fin 2) = 0 ∧ win0_4.index t (1 : Fin 2) = 0) ∧ (win0_5.index t (0 : Fin 2) = 0 ∧ win0_5.index t (1 : Fin 2) = 0) ∧
    (win0_6.index t (0 : Fin 2) = 0 ∧ win0_6.index t (1 : Fin 2) = 0) ∧
    (win0_7.index t (0 : Fin 3) = 0 ∧ win0_7.index t (1 : Fin 3) = 0 ∧ win0_7.index t (2 : Fin 3) = 0) ∧
    (win0_13.index t (0 : Fin 3) = 0 ∧ win0_13.index t (1 : Fin 3) = 0 ∧ win0_13.index t (2 : Fin 3) = 0) ∧
    (win0_14.index t (0 : Fin 2) = 0 ∧ win0_14.index t (1 : Fin 2) = 0) ∧ (win0_15.index t (0 : Fin 2) = 0 ∧ win0_15.index t (1 : Fin 2) = 0) :=
  (by decide +kernel : ∀ t : Fin grid0.N, _)

/-- Row `r` of the tile at point `n` is row `256 n + r` of the arrays. -/
theorem row_lt (n : Nat) (h : n < cfg0.N) (r : Fin 256) : n * 256 + r.val < 8192 := by
  have := N_eq; have := r.isLt; omega

theorem tile_row (n : Nat) (h : n < cfg0.N) (r : Fin 256) :
    (tile m c ⟨n, h⟩).row r = rowOf m c ⟨n * 256 + r.val, row_lt n h r⟩ := by
  obtain ⟨⟨a0, a1⟩, ⟨b0, b1⟩, ⟨p0, p1⟩, ⟨t0, t1⟩, -⟩ := index_rows ⟨n, h⟩
  obtain ⟨⟨g0, g1⟩, ⟨o0, o1⟩, ⟨q0, q1⟩, ⟨e0, e1, e2⟩, -⟩ := index_whole ⟨n, h⟩
  refine (Row.mk.injEq ..).mpr ⟨?_, ?_, ?_, ?_, ?_, ?_, ?_, ?_⟩
  · funext k
    show V m c main_arg0 ((win0_0.rect ⟨n, h⟩).emb (ix2 r k)) = _
    rw [V_main_arg0]
    refine congrArg _ (funext fun a => Fin.ext ?_)
    match a with
    | ⟨0, _⟩ => exact (win0_0.rect_emb_val ⟨n, h⟩ (ix2 r k) (0 : Fin 2)).trans (by rw [a0]; rfl)
    | ⟨1, _⟩ => exact (win0_0.rect_emb_val ⟨n, h⟩ (ix2 r k) (1 : Fin 2)).trans (by rw [a1]; exact Nat.zero_add _)
  · funext k
    show V m c main_arg1 ((win0_1.rect ⟨n, h⟩).emb (ix2 r k)) = _
    rw [V_main_arg1]
    refine congrArg _ (funext fun a => Fin.ext ?_)
    match a with
    | ⟨0, _⟩ => exact (win0_1.rect_emb_val ⟨n, h⟩ (ix2 r k) (0 : Fin 2)).trans (by rw [b0]; rfl)
    | ⟨1, _⟩ => exact (win0_1.rect_emb_val ⟨n, h⟩ (ix2 r k) (1 : Fin 2)).trans (by rw [b1]; exact Nat.zero_add _)
  · funext k
    show V m c main_arg2 ((win0_2.rect ⟨n, h⟩).emb (ix2 r k)) = _
    rw [V_main_arg2]
    refine congrArg _ (funext fun a => Fin.ext ?_)
    match a with
    | ⟨0, _⟩ => exact (win0_2.rect_emb_val ⟨n, h⟩ (ix2 r k) (0 : Fin 2)).trans (by rw [p0]; rfl)
    | ⟨1, _⟩ => exact (win0_2.rect_emb_val ⟨n, h⟩ (ix2 r k) (1 : Fin 2)).trans (by rw [p1]; exact Nat.zero_add _)
  · funext k
    show V m c main_arg3 ((win0_3.rect ⟨n, h⟩).emb (ix2 r k)) = _
    rw [V_main_arg3]
    refine congrArg _ (funext fun a => Fin.ext ?_)
    match a with
    | ⟨0, _⟩ => exact (win0_3.rect_emb_val ⟨n, h⟩ (ix2 r k) (0 : Fin 2)).trans (by rw [t0]; rfl)
    | ⟨1, _⟩ => exact (win0_3.rect_emb_val ⟨n, h⟩ (ix2 r k) (1 : Fin 2)).trans (by rw [t1]; exact Nat.zero_add _)
  · funext k
    show V m c main_arg4 ((win0_4.rect ⟨n, h⟩).emb (ix2 0 k)) = _
    rw [V_main_arg4]
    refine congrArg _ (funext fun a => Fin.ext ?_)
    match a with
    | ⟨0, _⟩ => exact (win0_4.rect_emb_val ⟨n, h⟩ (ix2 0 k) (0 : Fin 2)).trans (by rw [g0]; rfl)
    | ⟨1, _⟩ => exact (win0_4.rect_emb_val ⟨n, h⟩ (ix2 0 k) (1 : Fin 2)).trans (by rw [g1]; exact Nat.zero_add _)
  · funext j k
    show V m c main_arg5 ((win0_5.rect ⟨n, h⟩).emb (ix2 j k)) = _
    rw [V_main_arg5]
    refine congrArg _ (funext fun a => Fin.ext ?_)
    match a with
    | ⟨0, _⟩ => exact (win0_5.rect_emb_val ⟨n, h⟩ (ix2 j k) (0 : Fin 2)).trans (by rw [o0]; exact Nat.zero_add _)
    | ⟨1, _⟩ => exact (win0_5.rect_emb_val ⟨n, h⟩ (ix2 j k) (1 : Fin 2)).trans (by rw [o1]; exact Nat.zero_add _)
  · funext j k
    show V m c main_arg6 ((win0_6.rect ⟨n, h⟩).emb (ix2 j k)) = _
    rw [V_main_arg6]
    refine congrArg _ (funext fun a => Fin.ext ?_)
    match a with
    | ⟨0, _⟩ => exact (win0_6.rect_emb_val ⟨n, h⟩ (ix2 j k) (0 : Fin 2)).trans (by rw [q0]; exact Nat.zero_add _)
    | ⟨1, _⟩ => exact (win0_6.rect_emb_val ⟨n, h⟩ (ix2 j k) (1 : Fin 2)).trans (by rw [q1]; exact Nat.zero_add _)
  · funext s i j
    show V m c main_arg7 ((win0_7.rect ⟨n, h⟩).emb (ix3 s i j)) = _
    rw [V_main_arg7]
    refine congrArg _ (funext fun a => Fin.ext ?_)
    match a with
    | ⟨0, _⟩ => exact (win0_7.rect_emb_val ⟨n, h⟩ (ix3 s i j) (0 : Fin 3)).trans (by rw [e0]; exact Nat.zero_add _)
    | ⟨1, _⟩ => exact (win0_7.rect_emb_val ⟨n, h⟩ (ix3 s i j) (1 : Fin 3)).trans (by rw [e1]; exact Nat.zero_add _)
    | ⟨2, _⟩ => exact (win0_7.rect_emb_val ⟨n, h⟩ (ix3 s i j) (2 : Fin 3)).trans (by rw [e2]; exact Nat.zero_add _)

/-- The five row results. -/
theorem h_arr (n : Nat) (h : n < cfg0.N) (r : Fin 256) (k : Fin 2048) :
    (dats m 0 c).arrAt 8 cfg0.N (ix2 ⟨n * 256 + r.val, row_lt n h r⟩ k) = (rowOf m c ⟨n * 256 + r.val, row_lt n h r⟩).h k := by
  have e := congrFun (blocks8 m c ⟨n, h⟩ (flush0_8 _)) (ix2 r k)
  obtain ⟨-, -, -, -, ⟨a0, a1⟩, -⟩ := index_rows ⟨n, h⟩
  rw [flushed8, (rows_out m c ⟨n, h⟩).1] at e
  refine Eq.trans (congrArg _ (funext fun a => Fin.ext ?_)) (e.trans (congrArg (fun q : Row => q.h k) (tile_row m c n h r)))
  match a with
  | ⟨0, _⟩ => exact ((win0_8.rect_emb_val ⟨n, h⟩ (ix2 r k) (0 : Fin 2)).trans (by rw [a0]; rfl)).symm
  | ⟨1, _⟩ => exact ((win0_8.rect_emb_val ⟨n, h⟩ (ix2 r k) (1 : Fin 2)).trans (by rw [a1]; exact Nat.zero_add _)).symm

theorem dq_arr (n : Nat) (h : n < cfg0.N) (r : Fin 256) (k : Fin 2048) :
    (dats m 0 c).arrAt 9 cfg0.N (ix2 ⟨n * 256 + r.val, row_lt n h r⟩ k) = (rowOf m c ⟨n * 256 + r.val, row_lt n h r⟩).dq k := by
  have e := congrFun (blocks9 m c ⟨n, h⟩ (flush0_9 _)) (ix2 r k)
  obtain ⟨-, -, -, -, -, ⟨a0, a1⟩, -⟩ := index_rows ⟨n, h⟩
  rw [flushed9, (rows_out m c ⟨n, h⟩).2.1] at e
  refine Eq.trans (congrArg _ (funext fun a => Fin.ext ?_)) (e.trans (congrArg (fun q : Row => q.dq k) (tile_row m c n h r)))
  match a with
  | ⟨0, _⟩ => exact ((win0_9.rect_emb_val ⟨n, h⟩ (ix2 r k) (0 : Fin 2)).trans (by rw [a0]; rfl)).symm
  | ⟨1, _⟩ => exact ((win0_9.rect_emb_val ⟨n, h⟩ (ix2 r k) (1 : Fin 2)).trans (by rw [a1]; exact Nat.zero_add _)).symm

theorem dh_arr (n : Nat) (h : n < cfg0.N) (r : Fin 256) (k : Fin 2048) :
    (dats m 0 c).arrAt 10 cfg0.N (ix2 ⟨n * 256 + r.val, row_lt n h r⟩ k) = (rowOf m c ⟨n * 256 + r.val, row_lt n h r⟩).dh k := by
  have e := congrFun (blocks10 m c ⟨n, h⟩ (flush0_10 _)) (ix2 r k)
  obtain ⟨-, -, -, -, -, -, ⟨a0, a1⟩, -⟩ := index_rows ⟨n, h⟩
  rw [flushed10, (rows_out m c ⟨n, h⟩).2.2.1] at e
  refine Eq.trans (congrArg _ (funext fun a => Fin.ext ?_)) (e.trans (congrArg (fun q : Row => q.dh k) (tile_row m c n h r)))
  match a with
  | ⟨0, _⟩ => exact ((win0_10.rect_emb_val ⟨n, h⟩ (ix2 r k) (0 : Fin 2)).trans (by rw [a0]; rfl)).symm
  | ⟨1, _⟩ => exact ((win0_10.rect_emb_val ⟨n, h⟩ (ix2 r k) (1 : Fin 2)).trans (by rw [a1]; exact Nat.zero_add _)).symm

theorem do_arr (n : Nat) (h : n < cfg0.N) (r : Fin 256) (k : Fin 2048) :
    (dats m 0 c).arrAt 11 cfg0.N (ix2 ⟨n * 256 + r.val, row_lt n h r⟩ k) = (rowOf m c ⟨n * 256 + r.val, row_lt n h r⟩).dO k := by
  have e := congrFun (blocks11 m c ⟨n, h⟩ (flush0_11 _)) (ix2 r k)
  obtain ⟨-, -, -, -, -, -, -, ⟨a0, a1⟩, -⟩ := index_rows ⟨n, h⟩
  rw [flushed11, (rows_out m c ⟨n, h⟩).2.2.2.1] at e
  refine Eq.trans (congrArg _ (funext fun a => Fin.ext ?_)) (e.trans (congrArg (fun q : Row => q.dO k) (tile_row m c n h r)))
  match a with
  | ⟨0, _⟩ => exact ((win0_11.rect_emb_val ⟨n, h⟩ (ix2 r k) (0 : Fin 2)).trans (by rw [a0]; rfl)).symm
  | ⟨1, _⟩ => exact ((win0_11.rect_emb_val ⟨n, h⟩ (ix2 r k) (1 : Fin 2)).trans (by rw [a1]; exact Nat.zero_add _)).symm

theorem dy_arr (n : Nat) (h : n < cfg0.N) (r : Fin 256) (k : Fin 2048) :
    (dats m 0 c).arrAt 12 cfg0.N (ix2 ⟨n * 256 + r.val, row_lt n h r⟩ k) = (rowOf m c ⟨n * 256 + r.val, row_lt n h r⟩).dy k := by
  have e := congrFun (blocks12 m c ⟨n, h⟩ (flush0_12 _)) (ix2 r k)
  obtain ⟨-, -, -, -, -, -, -, -, ⟨a0, a1⟩⟩ := index_rows ⟨n, h⟩
  rw [flushed12, (rows_out m c ⟨n, h⟩).2.2.2.2] at e
  refine Eq.trans (congrArg _ (funext fun a => Fin.ext ?_)) (e.trans (congrArg (fun q : Row => q.dy k) (tile_row m c n h r)))
  match a with
  | ⟨0, _⟩ => exact ((win0_12.rect_emb_val ⟨n, h⟩ (ix2 r k) (0 : Fin 2)).trans (by rw [a0]; rfl)).symm
  | ⟨1, _⟩ => exact ((win0_12.rect_emb_val ⟨n, h⟩ (ix2 r k) (1 : Fin 2)).trans (by rw [a1]; exact Nat.zero_add _)).symm

/-- The three accumulated results are what the last point leaves. -/
theorem last_lt : 31 < cfg0.N := by rw [N_eq]; omega

theorem only_last {w : Fin 16} (hw : ∀ t : Fin cfg0.N, (cfg0.win w).flush t = true ↔ t.val % 32 = 31) (t t' : Fin cfg0.N)
    (ht : (cfg0.win w).flush t = true) (ht' : (cfg0.win w).flush t' = true) (hne : t ≠ t') :
    Disjoint ((cfg0.win w).blk t).view.set ((cfg0.win w).blk t').view.set := by
  have := N_eq; have h1 := (hw t).mp ht; have h2 := (hw t').mp ht'; have := t.isLt; have := t'.isLt
  exact absurd (Fin.ext (by omega)) hne

theorem we_arr (s : Fin 4) (i : Fin 256) (j : Fin 512) (n : Nat) (h : n < cfg0.N) (hn : n % 32 = 31) :
    (dats m 0 c).arrAt 13 cfg0.N (ix3 s i j) = (outsAt0 m c n h).2.2.2.2.2.1 (ix3 s i j) := by
  have e := congrFun ((dats m 0 c).read_blk_arrAt_eq_flushed 13 (only_last flush0_13) cfg0.N ⟨n, h⟩ h ((flush0_13 _).mpr hn)) (ix3 s i j)
  obtain ⟨-, -, -, -, ⟨a0, a1, a2⟩, -⟩ := index_whole ⟨n, h⟩
  rw [flushed13] at e
  refine Eq.trans (congrArg _ (funext fun a => Fin.ext ?_)) e
  match a with
  | ⟨0, _⟩ => exact ((win0_13.rect_emb_val ⟨n, h⟩ (ix3 s i j) (0 : Fin 3)).trans (by rw [a0]; exact Nat.zero_add _)).symm
  | ⟨1, _⟩ => exact ((win0_13.rect_emb_val ⟨n, h⟩ (ix3 s i j) (1 : Fin 3)).trans (by rw [a1]; exact Nat.zero_add _)).symm
  | ⟨2, _⟩ => exact ((win0_13.rect_emb_val ⟨n, h⟩ (ix3 s i j) (2 : Fin 3)).trans (by rw [a2]; exact Nat.zero_add _)).symm

theorem gain_arr (q : Fin 8) (k : Fin 2048) (n : Nat) (h : n < cfg0.N) (hn : n % 32 = 31) :
    (dats m 0 c).arrAt 14 cfg0.N (ix2 q k) = (outsAt0 m c n h).2.2.2.2.2.2.1 (ix2 q k) := by
  have e := congrFun ((dats m 0 c).read_blk_arrAt_eq_flushed 14 (only_last flush0_14) cfg0.N ⟨n, h⟩ h ((flush0_14 _).mpr hn)) (ix2 q k)
  obtain ⟨-, -, -, -, -, ⟨a0, a1⟩, -⟩ := index_whole ⟨n, h⟩
  rw [flushed14] at e
  refine Eq.trans (congrArg _ (funext fun a => Fin.ext ?_)) e
  match a with
  | ⟨0, _⟩ => exact ((win0_14.rect_emb_val ⟨n, h⟩ (ix2 q k) (0 : Fin 2)).trans (by rw [a0]; exact Nat.zero_add _)).symm
  | ⟨1, _⟩ => exact ((win0_14.rect_emb_val ⟨n, h⟩ (ix2 q k) (1 : Fin 2)).trans (by rw [a1]; exact Nat.zero_add _)).symm

theorem loss_arr (q : Fin 8) (k : Fin 128) (n : Nat) (h : n < cfg0.N) (hn : n % 32 = 31) :
    (dats m 0 c).arrAt 15 cfg0.N (ix2 q k) = (outsAt0 m c n h).2.2.2.2.2.2.2 (ix2 q k) := by
  have e := congrFun ((dats m 0 c).read_blk_arrAt_eq_flushed 15 (only_last flush0_15) cfg0.N ⟨n, h⟩ h ((flush0_15 _).mpr hn)) (ix2 q k)
  obtain ⟨-, -, -, -, -, -, ⟨a0, a1⟩⟩ := index_whole ⟨n, h⟩
  rw [flushed15] at e
  refine Eq.trans (congrArg _ (funext fun a => Fin.ext ?_)) e
  match a with
  | ⟨0, _⟩ => exact ((win0_15.rect_emb_val ⟨n, h⟩ (ix2 q k) (0 : Fin 2)).trans (by rw [a0]; exact Nat.zero_add _)).symm
  | ⟨1, _⟩ => exact ((win0_15.rect_emb_val ⟨n, h⟩ (ix2 q k) (1 : Fin 2)).trans (by rw [a1]; exact Nat.zero_add _)).symm

/-- … as sums over all rows. -/
theorem we_sum (s : Fin 4) (i : Fin 256) (j : Fin 512) :
    (dats m 0 c).arrAt 13 cfg0.N (ix3 s i j) = ∑ R : Fin 8192, (rowOf m c R).p i * (rowOf m c R).dg (col s j) := by
  rw [we_arr m c s i j 31 last_lt (by omega), we_out, sum_rows]
  refine Finset.sum_congr (M := EReal) rfl fun t _ => Finset.sum_congr (M := EReal) rfl fun r _ => ?_
  rw [tile_row]; rfl

theorem gain_sum (q : Fin 8) (k : Fin 2048) :
    (dats m 0 c).arrAt 14 cfg0.N (ix2 q k) = ∑ R : Fin 8192, (rowOf m c R).dh k * (rowOf m c R).on k := by
  rw [gain_arr m c q k 31 last_lt (by omega), gain_out, sum_rows, Finset.sum_comm]
  refine Finset.sum_congr (M := EReal) rfl fun t _ => ?_
  rw [sum_groups, Finset.sum_comm]
  refine Finset.sum_congr (M := EReal) rfl fun q _ => Finset.sum_congr (M := EReal) rfl fun x _ => ?_
  rw [tile_row]; rfl

theorem lossD_eq (b : Tile) :
    lossD b = (∑ r, ∑ k, (b.row r).d k * (b.row r).d k) * Ideal.ofBits .f32 964689920#32 := by
  have hs : ∀ s, 0 ≤ b.sq s := fun s => Finset.sum_nonneg fun r _ => Finset.sum_nonneg fun j _ => sq_nonneg _
  have e : (∑ r, ∑ k, (b.row r).d k * (b.row r).d k) = ∑ s : Fin 4, b.sq s := by
    simp only [sum_cols]; rw [Finset.sum_comm]; rfl
  rw [e, sum_mul _ _ _ hs, Fin.sum_univ_four]
  unfold lossD
  simp only [add_assoc]

theorem loss_sum (q : Fin 8) (k : Fin 128) :
    (dats m 0 c).arrAt 15 cfg0.N (ix2 q k) = (∑ R : Fin 8192, ∑ k, (rowOf m c R).d k * (rowOf m c R).d k) * Ideal.ofBits .f32 964689920#32 := by
  have hn : ∀ R, 0 ≤ ∑ k, (rowOf m c R).d k * (rowOf m c R).d k := fun R => Finset.sum_nonneg fun k _ => sq_nonneg _
  rw [loss_arr m c q k 31 last_lt (by omega), loss_out, sum_rows, sum_mul _ _ _ fun t => Finset.sum_nonneg fun r _ => hn _]
  refine Finset.sum_congr (M := EReal) rfl fun t _ => ?_
  rw [lossD_eq]
  simp only [tile_row]

end Cert.Kernel4Ideal.Head

end
-- ==== Proof.NormBack.lean ====
/- The gradient of a row of length 2048 through a root-mean-square norm: the two forms agree. -/
module

public import Idealize.ShloMosaic.PureOps.Ideal
public import Idealize.ShloMosaic.Lib.Pointwise

@[expose] public section

noncomputable section

namespace Cert.Norm

open Idealize.ShloMosaic

/-- A value that is a real number. -/
def Fin' (a : EReal) : Prop := ∃ r : ℝ, a = (r : EReal)

theorem sum_coe {n : ℕ} (f : Fin n → ℝ) : (∑ i, ((f i : ℝ) : EReal)) = ((∑ i, f i : ℝ) : EReal) := by
  classical
  refine Finset.induction_on (motive := fun s => (∑ i ∈ s, ((f i : ℝ) : EReal)) = ((∑ i ∈ s, f i : ℝ) : EReal)) Finset.univ (by simp) fun i s hi e => ?_
  rw [Finset.sum_insert hi, Finset.sum_insert hi, e, EReal.coe_add]

/-- The mean square of a row plus the norm's small constant. -/
def ms (x : Fin 2048 → EReal) : EReal :=
  Ideal.div (∑ k, x k * x k) (Ideal.ofBits .f32 1157627904#32) + Ideal.ofBits .f32 897988541#32

theorem n2048 : Ideal.ofBits .f32 1157627904#32 = ((2048 : ℝ) : EReal) := by
  simp [Ideal.ofBits, Ideal.ieee, -EReal.coe_mul]; norm_num
theorem eps_val : Ideal.ofBits .f32 897988541#32 = ((8796093 / 8796093022208 : ℝ) : EReal) := by
  simp [Ideal.ofBits, Ideal.ieee, -EReal.coe_mul]; norm_num
theorem eps_pos : ∃ e : ℝ, 0 < e ∧ Ideal.ofBits .f32 897988541#32 = (e : EReal) := ⟨_, by norm_num, eps_val⟩
theorem negHalf : Ideal.ofBits .f32 3204448256#32 = ((-(1/2) : ℝ) : EReal) := by
  simp [Ideal.ofBits, Ideal.ieee, -EReal.coe_mul]; norm_num

/-- What the derivative of the reciprocal root contributes to a row's gradient. -/
def q (x d : Fin 2048 → EReal) : EReal :=
  Ideal.div ((∑ k, x k * d k) * (Ideal.ofBits .f32 3204448256#32 * Ideal.div (Ideal.rsqrt (ms x)) (ms x))) (Ideal.ofBits .f32 1157627904#32)

/-- A positive real factor goes into a sum. -/
theorem sum_mul_pos {n : ℕ} (f : Fin n → EReal) {s : ℝ} (hs : 0 < s) : (∑ i, f i) * (s : EReal) = ∑ i, f i * (s : EReal) := by
  classical
  refine Finset.induction_on (motive := fun t => (∑ i ∈ t, f i) * (s : EReal) = ∑ i ∈ t, f i * (s : EReal)) Finset.univ (by simp) fun i t hi e => ?_
  rw [Finset.sum_insert hi, Finset.sum_insert hi, EReal.right_distrib_of_nonneg_of_ne_top (EReal.coe_nonneg.2 hs.le) (EReal.coe_ne_top s), e]

/-- A square is not negative; that of an infinite value is infinite. -/
theorem sq_nonneg' (a : EReal) : 0 ≤ a * a := by
  induction a with
  | bot => simp
  | coe x => rw [← EReal.coe_mul]; exact EReal.coe_nonneg.2 (mul_self_nonneg x)
  | top => simp
theorem sq_top {a : EReal} (h : ¬ Fin' a) : a * a = ⊤ := by
  induction a with
  | bot => simp
  | coe x => exact absurd ⟨x, rfl⟩ h
  | top => simp

/-- Where a row has an infinite value, its mean square is infinite. -/
theorem ms_top (x : Fin 2048 → EReal) (k : Fin 2048) (h : ¬ Fin' (x k)) : ms x = ⊤ := by
  have e : (∑ k, x k * x k) = ⊤ := top_le_iff.1 ((sq_top h).symm.le.trans (Finset.single_le_sum (f := fun k => x k * x k) (fun i _ => sq_nonneg' _) (Finset.mem_univ k)))
  unfold ms
  rw [e, n2048, Ideal.div_coe (by norm_num), eps_val, EReal.top_mul_coe_of_pos (by norm_num), EReal.top_add_coe]

/-- Where a row has real values only, its mean square is a positive real number. -/
theorem ms_real (x : Fin 2048 → EReal) (hx : ∀ k, Fin' (x k)) : ∃ M : ℝ, 0 < M ∧ ms x = (M : EReal) := by
  choose a ha using hx
  obtain rfl : x = fun k => (a k : EReal) := funext ha
  obtain ⟨e, he, hE⟩ := eps_pos
  refine ⟨(∑ k, a k * a k) * (1 / 2048) + e, ?_, ?_⟩
  · have : 0 ≤ ∑ k, a k * a k := Finset.sum_nonneg fun k _ => mul_self_nonneg _
    positivity
  · unfold ms
    simp only [← EReal.coe_mul]
    rw [sum_coe, n2048, hE, Ideal.div_coe (by norm_num), ← EReal.coe_mul, ← EReal.coe_add]

/-- The two halves of the norm's term. -/
theorem halves (Z : EReal) (u : ℝ) (hu : 0 < u) : Z * ((-(u / 2) : ℝ) : EReal) + Z * ((-(u / 2) : ℝ) : EReal) = -(Z * (u : EReal)) := by
  induction Z with
  | bot => rw [EReal.bot_mul_coe_of_neg (by linarith), EReal.bot_mul_coe_of_pos hu]; rfl
  | coe z => rw [← EReal.coe_mul, ← EReal.coe_mul, ← EReal.coe_add, ← EReal.coe_neg]; congr 1; ring
  | top => rw [EReal.top_mul_coe_of_neg (by linarith), EReal.top_mul_coe_of_pos hu]; rfl

/-- The two forms of a row's gradient agree on all values. -/
theorem back (x d : Fin 2048 → EReal) (k : Fin 2048) :
    d k * Ideal.rsqrt (ms x) + x k * q x d + q x d * x k
      = Ideal.rsqrt (ms x) * (d k - x k * Ideal.rsqrt (ms x) * Ideal.div (∑ j, d j * (x j * Ideal.rsqrt (ms x))) (Ideal.ofBits .f32 1157627904#32)) := by
  by_cases hx : ∀ k, Fin' (x k)
  · obtain ⟨M, hM, hms⟩ := ms_real x hx
    have hr : Ideal.rsqrt ((M : ℝ) : EReal) = (((Real.sqrt M)⁻¹ : ℝ) : EReal) := by
      rw [Ideal.rsqrt_coe, if_neg (not_lt.2 hM.le), if_neg hM.ne']
    have hs : 0 < (Real.sqrt M)⁻¹ := inv_pos.2 (Real.sqrt_pos.2 hM)
    have hM2 : 1 / M = (Real.sqrt M)⁻¹ * (Real.sqrt M)⁻¹ := by
      rw [← mul_inv, Real.mul_self_sqrt hM.le, one_div]
    have e1 : (∑ j, d j * (x j * (((Real.sqrt M)⁻¹ : ℝ) : EReal))) = (∑ j, x j * d j) * (((Real.sqrt M)⁻¹ : ℝ) : EReal) := by
      rw [sum_mul_pos _ hs]; exact Finset.sum_congr rfl fun j _ => by rw [← mul_assoc, mul_comm (d j)]
    unfold q
    rw [hms, hr, n2048, negHalf, Ideal.div_coe hM.ne', Ideal.div_coe (by norm_num), Ideal.div_coe (by norm_num), e1, hM2]
    generalize (Real.sqrt M)⁻¹ = s at hs
    generalize (∑ j, x j * d j) = S
    rw [sub_eq_add_neg, EReal.left_distrib_of_nonneg_of_ne_top (EReal.coe_nonneg.2 hs.le) (EReal.coe_ne_top s), add_assoc, mul_comm (d k)]
    congr 1
    have hu : 0 < s * s * s * (1 / 2048) := by positivity
    have l : x k * (S * (((-(1 / 2) : ℝ) : EReal) * ((s : EReal) * ((s * s : ℝ) : EReal))) * ((1 / 2048 : ℝ) : EReal))
        = x k * S * ((-(s * s * s * (1 / 2048) / 2) : ℝ) : EReal) := by
      rw [← EReal.coe_mul, ← EReal.coe_mul, mul_assoc S, ← EReal.coe_mul, mul_assoc (x k)]
      refine congrArg (fun c : ℝ => x k * (S * (c : EReal))) ?_
      ring
    rw [mul_comm _ (x k), l, halves _ _ hu, mul_neg]
    refine congrArg (fun y : EReal => -y) ?_
    rw [EReal.coe_mul, EReal.coe_mul, EReal.coe_mul]
    ac_rfl
  · obtain ⟨j, hj⟩ := not_forall.1 hx
    have hr : Ideal.rsqrt ⊤ = 0 := rfl
    have h0 : Ideal.div 0 ⊤ = 0 := by unfold Ideal.div; simp
    have hq : q x d = 0 := by
      unfold q; rw [ms_top x j hj, hr, h0, mul_zero, mul_zero, n2048, Ideal.div_coe (by norm_num), zero_mul]
    rw [hq, ms_top x j hj, hr]; simp

end Cert.Norm

end
-- ==== Proof.HeadSpec.lean ====
/- The reference of the head, forward and backward, in named stages, and each stage read at an index. -/
module

public import proofs.«01_k».proof.Proof.Gen.Reference4Ideal.Run
public import Idealize.ShloMosaic.Lib.Pointwise
public import proofs.«01_k».proof.Proof.HeadSums
public import proofs.«01_k».proof.Proof.NormBack

@[expose] public section

set_option maxRecDepth 16384

noncomputable section

namespace Cert.Reference4Ideal.Head

open Cert.Reference4Ideal Cert.Reference4Ideal.Gen Cert.Reference4Ideal.Value Idealize.ShloMosaic Idealize.ShloMosaic.TcCoe Cert.Head

/-- The head's arguments: the residual, the branches' output, the features, the target, the norm's gain and the three weights. -/
structure Args where
  x : FVec Ideal S8192x2048 .f32
  y : FVec Ideal S8192x2048 .bf16
  p : FVec Ideal S8192x256 .f32
  tgt : FVec Ideal S8192x2048 .f32
  gain : FVec Ideal S1x2048 .f32
  wo : FVec Ideal S2048x2048 .bf16
  wg : FVec Ideal S2048x2048 .bf16
  we : FVec Ideal S4x256x512 .bf16

variable (a : Args)

/-- The output projection. -/
def oV : FVec Ideal S8192x2048 .f32 :=
  Host.dotGeneral dot_S8192x2048_S2048x2048_S8192x2048_1_0_0_1_n_n none (extf .f32 a.y bitsLt_bf16_f32) (extf .f32 a.wo bitsLt_bf16_f32)

/-- The mean square the norm divides by, and its reciprocal root. -/
def msV : FVec Ideal S8192x1 .f32 :=
  addf (Host.divf (broadcastInDim S8192x1 ![0] bcast_S8192_S8192x1_0 (Host.reduceAdd (mulf (oV a) (oV a)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
def rV : FVec Ideal S8192x1 .f32 := Host.rsqrt (msV a)

/-- The normalised projection. -/
def onV : FVec Ideal S8192x2048 .f32 := mulf (oV a) (broadcastInDim S8192x2048 ![0, 1] bcast_S8192x1_S8192x2048_0_1 (rV a))

/-- The gain, along the rows. -/
def gainV : FVec Ideal S8192x2048 .f32 :=
  broadcastInDim S8192x2048 ![0, 1] bcast_S1x2048_S8192x2048_0_1 (broadcastInDim S1x2048 ![1] bcast_S2048_S1x2048_1 (shapeCast _ a.gain shapeCasts_S1x2048_S2048))

/-- The residual stream after the branches. -/
def hV : FVec Ideal S8192x2048 .f32 := addf a.x (mulf (onV a) (gainV a))

/-- The embedding's projection. -/
def peV : FVec Ideal S8192x2048 .f32 :=
  Host.dotGeneral dot_S8192x256_S256x2048_S8192x2048_1_0_0_1_n_n none a.p (extf .f32 (shapeCast _ (transpose S256x4x512 [1, 0, 2] a.we transposes_S4x256x512_S256x4x512_1_0_2) shapeCasts_S256x4x512_S256x2048) bitsLt_bf16_f32)

/-- The gate. -/
def gV : FVec Ideal S8192x2048 .f32 :=
  Host.divf (broadcastInDim S8192x2048 ![] bcast_S_S8192x2048 (constant S_ .f32 0x3F800000#32)) (addf (broadcastInDim S8192x2048 ![] bcast_S_S8192x2048 (constant S_ .f32 0x3F800000#32)) (Host.exp (Host.negf (Host.dotGeneral dot_S8192x2048_S2048x2048_S8192x2048_1_0_0_1_n_n none (hV a) (extf .f32 a.wg bitsLt_bf16_f32)))))

/-- The error. -/
def errV : FVec Ideal S8192x2048 .f32 := subf (addf (hV a) (mulf (peV a) (gV a))) a.tgt

/-- The gradient at the output, at the gate's argument, at the residual stream. -/
def doutV : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) (errV a))
def dqV : FVec Ideal S8192x2048 .f32 :=
  mulf (mulf (peV a) (doutV a)) (mulf (gV a) (subf (broadcastInDim S8192x2048 ![] bcast_S_S8192x2048 (constant S_ .f32 0x3F800000#32)) (gV a)))
def dhV : FVec Ideal S8192x2048 .f32 :=
  addf (doutV a) (Host.dotGeneral dot_S8192x2048_S2048x2048_S8192x2048_1_1_0_0_n_n none (dqV a) (extf .f32 a.wg bitsLt_bf16_f32))

/-- The gradient at the norm's output, and back through the norm. -/
def dnV : FVec Ideal S8192x2048 .f32 := mulf (dhV a) (gainV a)
def qV : FVec Ideal S8192x2048 .f32 :=
  broadcastInDim S8192x2048 ![0] bcast_S8192_S8192x2048_0 (Host.reduceAdd (Host.divf (mulf (shapeCast _ (Host.reduceAdd (mulf (oV a) (dnV a)) (constant S_ .f32 0x00000000#32) reducesTo_S8192x2048_S8192_d1 h_S_) shapeCasts_S8192_S8192x1) (mulf (broadcastInDim S8192x1 ![] bcast_S_S8192x1 (constant S_ .f32 0xBF000000#32)) (Host.divf (rV a) (msV a)))) (broadcastInDim S8192x1 ![] bcast_S_S8192x1 (constant S_ .f32 0x45000000#32))) (constant S_ .f32 0x00000000#32) reducesTo_S8192x1_S8192_d1 h_S_)
def doV : FVec Ideal S8192x2048 .f32 :=
  addf (addf (mulf (dnV a) (broadcastInDim S8192x2048 ![0, 1] bcast_S8192x1_S8192x2048_0_1 (rV a))) (mulf (oV a) (qV a))) (mulf (qV a) (oV a))

/-- The arguments a memory holds. -/
def argsOf (m : (ℓ : Loc nD τ sig) → Buf (Elt Ideal) ℓ) (c : Dev nD) : Args where
  x := m ((c.tc : Thread nD τ).loc main_arg0)
  y := m ((c.tc : Thread nD τ).loc main_arg1)
  p := m ((c.tc : Thread nD τ).loc main_arg2)
  tgt := m ((c.tc : Thread nD τ).loc main_arg3)
  gain := m ((c.tc : Thread nD τ).loc main_arg4)
  wo := m ((c.tc : Thread nD τ).loc main_arg5)
  wg := m ((c.tc : Thread nD τ).loc main_arg6)
  we := m ((c.tc : Thread nD τ).loc main_arg7)

variable (m : (ℓ : Loc nD τ sig) → Buf (Elt Ideal) ℓ) (c : Dev nD)

theorem res_dq : res_out1 m c = truncf .bf16 (dqV (argsOf m c)) bitsLt_bf16_f32 := rfl
theorem res_dh : res_out2 m c = dhV (argsOf m c) := rfl
theorem res_do : res_out3 m c = truncf .bf16 (doV (argsOf m c)) bitsLt_bf16_f32 := rfl
theorem res_dy : res_out4 m c = Host.dotGeneral dot_S8192x2048_S2048x2048_S8192x2048_1_1_0_0_n_n none (doV (argsOf m c)) (extf .f32 (argsOf m c).wo bitsLt_bf16_f32) := rfl
theorem res_we : res_out5 m c = transpose S4x256x512 [1, 0, 2] (shapeCast _ (transpose S256x2048 [1, 0] (Host.dotGeneral dot_S8192x2048_S8192x256_S2048x256_0_0_1_1_n_n none (mulf (doutV (argsOf m c)) (gV (argsOf m c))) (argsOf m c).p) transposes_S2048x256_S256x2048_1_0) shapeCasts_S256x2048_S256x4x512) transposes_S256x4x512_S4x256x512_1_0_2 := rfl
theorem res_gain : res_out6 m c = broadcastInDim S8x2048 ![0, 1] bcast_S1x2048_S8x2048_0_1 (broadcastInDim S1x2048 ![1] bcast_S2048_S1x2048_1 (Host.reduceAdd (shapeCast _ (Host.reduceAdd (mulf (onV (argsOf m c)) (dhV (argsOf m c))) (constant S_ .f32 0x00000000#32) reducesTo_S8192x2048_S2048_d0 h_S_) shapeCasts_S2048_S1x2048) (constant S_ .f32 0x00000000#32) reducesTo_S1x2048_S2048_d0 h_S_)) := rfl
theorem res_loss : res_out7 m c = broadcastInDim S8x128 ![] bcast_S_S8x128 (mulf (constant S_ .f32 0x3F000000#32) (Host.reduceAdd (Host.divf (Host.reduceAdd (mulf (errV (argsOf m c)) (errV (argsOf m c))) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) := rfl

/-- One row of the arguments. -/
def Args.row (R : Fin 8192) : Row where
  x k := a.x (ix2 R k)
  y k := a.y (ix2 R k)
  p k := a.p (ix2 R k)
  tgt k := a.tgt (ix2 R k)
  gain k := a.gain (ix2 0 k)
  wo j k := a.wo (ix2 j k)
  wg j k := a.wg (ix2 j k)
  we s i j := a.we (ix3 s i j)

variable (R : Fin 8192) (k : Fin 2048)

theorem col_eq (s : Fin 4) (j : Fin 512) : col s j = ⟨s.val * 512 + j.val, by omega⟩ :=
  Fin.ext (by show 512 * s.val + j.val = s.val * 512 + j.val; omega)

theorem o_at : oV a (ix2 R k) = (a.row R).o k := by unfold oV; pointwise; rfl
theorem ms_at : msV a (ix2 R 0) = (a.row R).ms := by unfold msV; pointwise; simp only [o_at]; rfl
theorem r_at : rV a (ix2 R 0) = (a.row R).r := by unfold rV; pointwise; rw [ms_at]; rfl
theorem on_at : onV a (ix2 R k) = (a.row R).on k := by unfold onV; pointwise; rw [o_at, r_at]; rfl
theorem h_at : hV a (ix2 R k) = (a.row R).h k := by unfold hV gainV; pointwise; rw [on_at]; rfl
theorem pe_at (s : Fin 4) (j : Fin 512) : peV a (ix2 R (col s j)) = (a.row R).pe s j := by
  rw [col_eq]; unfold peV; pointwise; rfl
theorem peAt_at : peV a (ix2 R k) = (a.row R).peAt k := by
  obtain ⟨s, j, rfl⟩ := exists_col k
  rw [pe_at, Row.peAt_col]
theorem g_at : gV a (ix2 R k) = (a.row R).g k := by unfold gV; pointwise; simp only [h_at]; rfl
theorem d_at : errV a (ix2 R k) = (a.row R).d k := by unfold errV; pointwise; rw [h_at, peAt_at, g_at]; rfl
theorem dout_at : doutV a (ix2 R k) = (a.row R).dout k := by
  unfold doutV; pointwise; rw [d_at]; exact two_halves _
theorem dq_at : dqV a (ix2 R k) = (a.row R).dq k := by
  unfold dqV; pointwise; rw [dout_at, g_at, peAt_at]; unfold Row.dq Row.dg
  rw [mul_comm ((a.row R).peAt k), mul_assoc, mul_assoc, mul_assoc, mul_left_comm ((a.row R).peAt k)]
theorem dh_at : dhV a (ix2 R k) = (a.row R).dh k := by unfold dhV; pointwise; simp only [dq_at, dout_at]; rfl

theorem dn_at : dnV a (ix2 R k) = (a.row R).dn k := by unfold dnV gainV; pointwise; rw [dh_at]; rfl
theorem q_at : qV a (ix2 R k) = Norm.q (a.row R).o (a.row R).dn := by
  unfold qV; pointwise; simp only [dn_at, o_at]
  refine (Fin.sum_univ_one (M := EReal) _).trans ?_
  rw [r_at, ms_at]; rfl
/-- The reference's form of the gradient at the projection is the kernel's. -/
theorem do_at : doV a (ix2 R k) = (a.row R).dO k := by
  unfold doV; pointwise; rw [dn_at, r_at, q_at, o_at]
  exact Norm.back (a.row R).o (a.row R).dn k

theorem resH_at : truncf (F := Ideal) .bf16 (hV (argsOf m c)) bitsLt_bf16_f32 (ix2 R k) = ((argsOf m c).row R).h k := h_at _ _ _
theorem resDq_at : res_out1 m c (ix2 R k) = ((argsOf m c).row R).dq k := by rw [res_dq]; exact dq_at _ _ _
theorem resDh_at : res_out2 m c (ix2 R k) = ((argsOf m c).row R).dh k := by rw [res_dh]; exact dh_at _ _ _
theorem resDo_at : res_out3 m c (ix2 R k) = ((argsOf m c).row R).dO k := by rw [res_do]; exact do_at _ _ _
theorem resDy_at : res_out4 m c (ix2 R k) = ((argsOf m c).row R).dy k := by rw [res_dy]; pointwise; simp only [do_at]; rfl

theorem we_at (s : Fin 4) (i : Fin 256) (j : Fin 512) :
    res_out5 m c (ix3 s i j) = ∑ R : Fin 8192, ((argsOf m c).row R).p i * ((argsOf m c).row R).dg (col s j) := by
  rw [res_we]; pointwise; rw [← col_eq]; simp only [dout_at, g_at]
  exact Finset.sum_congr (M := EReal) rfl fun R _ => @mul_comm EReal _ _ _
theorem gain_at (r : Fin 8) (k : Fin 2048) :
    res_out6 m c (ix2 r k) = ∑ R : Fin 8192, ((argsOf m c).row R).dh k * ((argsOf m c).row R).on k := by
  rw [res_gain]; pointwise; simp only [dh_at, on_at]
  rw [Fin.sum_univ_one]
  exact Finset.sum_congr (M := EReal) rfl fun R _ => @mul_comm EReal _ _ _
theorem loss_at (r : Fin 8) (k : Fin 128) :
    res_out7 m c (ix2 r k) = (∑ R : Fin 8192, ∑ k, ((argsOf m c).row R).d k * ((argsOf m c).row R).d k) * Ideal.ofBits .f32 964689920#32 := by
  rw [res_loss]; pointwise; simp only [d_at]
  exact half_mean _

end Cert.Reference4Ideal.Head

end
-- ==== Proof.HeadTie.lean ====
/- The head, forward and backward: what the kernel leaves is what the reference computes. -/
module

public import proofs.«01_k».proof.Defs
public import proofs.«01_k».proof.Proof.HeadBlocks
public import proofs.«01_k».proof.Proof.HeadSpec

@[expose] public section

set_option maxRecDepth 16384

noncomputable section

namespace Cert.Proof

open Idealize.ShloMosaic Idealize.SL.Sem Cert.Head

theorem exists_row (R : Fin 8192) : ∃ (n : Nat) (h : n < Cert.Kernel4Ideal.cfg0.N) (r : Fin 256), R = ⟨n * 256 + r.val, Cert.Kernel4Ideal.Head.row_lt n h r⟩ :=
  ⟨R.val / 256, by rw [Cert.Kernel4Ideal.Head.N_eq]; omega, ⟨R.val % 256, by omega⟩, Fin.ext (by show R.val = R.val / 256 * 256 + R.val % 256; omega)⟩

/-- A property of all indices by coordinates. -/
theorem all2 {a b : Nat} {P : (⟨2, ![a, b]⟩ : Shape).Idx → Prop} (h : ∀ (r : Fin a) (k : Fin b), P (ix2 r k)) (i) : P i := by
  have e : i = ix2 (i 0) (i 1) := funext fun x => match x with | ⟨0, _⟩ => rfl | ⟨1, _⟩ => rfl
  rw [e]; exact h _ _
theorem all3 {a b d : Nat} {P : (⟨3, ![a, b, d]⟩ : Shape).Idx → Prop} (h : ∀ (r : Fin a) (k : Fin b) (j : Fin d), P (ix3 r k j)) (i) : P i := by
  have e : i = ix3 (i 0) (i 1) (i 2) := funext fun x => match x with | ⟨0, _⟩ => rfl | ⟨1, _⟩ => rfl | ⟨2, _⟩ => rfl
  rw [e]; exact h _ _ _

set_option maxHeartbeats 2000000 in
theorem head : algebraic_Kernel4Ideal_Reference4Ideal := by
  intro m ρ m' ρ' _ hagree
  refine ⟨fun c => (Cert.Kernel4Ideal.Gen.dats m 0 c).arrAt 8 Cert.Kernel4Ideal.cfg0.N, fun c => (Cert.Kernel4Ideal.Gen.dats m 0 c).arrAt 9 Cert.Kernel4Ideal.cfg0.N, fun c => (Cert.Kernel4Ideal.Gen.dats m 0 c).arrAt 10 Cert.Kernel4Ideal.cfg0.N, fun c => (Cert.Kernel4Ideal.Gen.dats m 0 c).arrAt 11 Cert.Kernel4Ideal.cfg0.N, fun c => (Cert.Kernel4Ideal.Gen.dats m 0 c).arrAt 12 Cert.Kernel4Ideal.cfg0.N, fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N,
    (θ_run Cert.Kernel4Ideal.defs _ _).mono (fun r h c => ?_) (Cert.Kernel4Ideal.Value.run_blocks (F := Ideal) m ρ), ?_⟩
  · obtain ⟨h0, h1, h2, h3, h4, h5, h6, h7, hk⟩ := h c
    exact ⟨h0, h1, h2, h3, h4, h5, h6, h7, hk⟩
  refine (θ_run Cert.Reference4Ideal.defs _ _).mono (fun r h c => ?_) (Cert.Reference4Ideal.Value.run (F := Ideal) m' ρ')
  have hrow : ∀ R, (Cert.Reference4Ideal.Head.argsOf m' c).row R = Cert.Kernel4Ideal.Head.rowOf m c R := by
    intro R
    obtain ⟨a0, a1, a2, a3, a4, a5, a6, a7⟩ := hagree c
    unfold Cert.Reference4Ideal.Head.Args.row Cert.Reference4Ideal.Head.argsOf Cert.Kernel4Ideal.Head.rowOf
    simp only [a0, a1, a2, a3, a4, a5, a6, a7]
  obtain ⟨h0, h1, h2, h3, h4, h5, h6, h7, hk⟩ := h c
  refine ⟨h0.trans (funext (all2 (P := fun i => truncf .bf16 (Cert.Reference4Ideal.Head.hV (Cert.Reference4Ideal.Head.argsOf m' c)) Cert.Reference4Ideal.Gen.bitsLt_bf16_f32 i = (Cert.Kernel4Ideal.Gen.dats m 0 c).arrAt 8 Cert.Kernel4Ideal.cfg0.N i) ?_)),
    h1.trans (funext (all2 (P := fun i => Cert.Reference4Ideal.Value.res_out1 m' c i = (Cert.Kernel4Ideal.Gen.dats m 0 c).arrAt 9 Cert.Kernel4Ideal.cfg0.N i) ?_)),
    h2.trans (funext (all2 (P := fun i => Cert.Reference4Ideal.Value.res_out2 m' c i = (Cert.Kernel4Ideal.Gen.dats m 0 c).arrAt 10 Cert.Kernel4Ideal.cfg0.N i) ?_)),
    h3.trans (funext (all2 (P := fun i => Cert.Reference4Ideal.Value.res_out3 m' c i = (Cert.Kernel4Ideal.Gen.dats m 0 c).arrAt 11 Cert.Kernel4Ideal.cfg0.N i) ?_)),
    h4.trans (funext (all2 (P := fun i => Cert.Reference4Ideal.Value.res_out4 m' c i = (Cert.Kernel4Ideal.Gen.dats m 0 c).arrAt 12 Cert.Kernel4Ideal.cfg0.N i) ?_)),
    h5.trans (funext (all3 (P := fun i => Cert.Reference4Ideal.Value.res_out5 m' c i = (Cert.Kernel4Ideal.Gen.dats m 0 c).arrAt 13 Cert.Kernel4Ideal.cfg0.N i) ?_)),
    h6.trans (funext (all2 (P := fun i => Cert.Reference4Ideal.Value.res_out6 m' c i = (Cert.Kernel4Ideal.Gen.dats m 0 c).arrAt 14 Cert.Kernel4Ideal.cfg0.N i) ?_)),
    h7.trans (funext (all2 (P := fun i => Cert.Reference4Ideal.Value.res_out7 m' c i = (Cert.Kernel4Ideal.Gen.dats m 0 c).arrAt 15 Cert.Kernel4Ideal.cfg0.N i) ?_)), hk⟩
  · intro R k
    obtain ⟨n, hn, r, rfl⟩ := exists_row R
    refine Eq.trans ?_ (Cert.Kernel4Ideal.Head.h_arr m c n hn r k).symm
    rw [← hrow]
    exact Cert.Reference4Ideal.Head.resH_at m' c _ k
  · intro R k
    obtain ⟨n, hn, r, rfl⟩ := exists_row R
    refine Eq.trans ?_ (Cert.Kernel4Ideal.Head.dq_arr m c n hn r k).symm
    rw [← hrow]
    exact Cert.Reference4Ideal.Head.resDq_at m' c _ k
  · intro R k
    obtain ⟨n, hn, r, rfl⟩ := exists_row R
    refine Eq.trans ?_ (Cert.Kernel4Ideal.Head.dh_arr m c n hn r k).symm
    rw [← hrow]
    exact Cert.Reference4Ideal.Head.resDh_at m' c _ k
  · intro R k
    obtain ⟨n, hn, r, rfl⟩ := exists_row R
    refine Eq.trans ?_ (Cert.Kernel4Ideal.Head.do_arr m c n hn r k).symm
    rw [← hrow]
    exact Cert.Reference4Ideal.Head.resDo_at m' c _ k
  · intro R k
    obtain ⟨n, hn, r, rfl⟩ := exists_row R
    refine Eq.trans ?_ (Cert.Kernel4Ideal.Head.dy_arr m c n hn r k).symm
    rw [← hrow]
    exact Cert.Reference4Ideal.Head.resDy_at m' c _ k
  · intro s i j
    refine Eq.trans (Cert.Reference4Ideal.Head.we_at m' c s i j) (Eq.trans ?_ (Cert.Kernel4Ideal.Head.we_sum m c s i j).symm)
    simp only [hrow]
  · intro q k
    refine Eq.trans (Cert.Reference4Ideal.Head.gain_at m' c q k) (Eq.trans ?_ (Cert.Kernel4Ideal.Head.gain_sum m c q k).symm)
    simp only [hrow]
  · intro q k
    refine Eq.trans (Cert.Reference4Ideal.Head.loss_at m' c q k) (Eq.trans ?_ (Cert.Kernel4Ideal.Head.loss_sum m c q k).symm)
    simp only [hrow]

end Cert.Proof

end
-- ==== Proof.InEnd.lean ====
/- The run of both loops of the input projection's backward call: what the two result arrays hold. -/
module

public import proofs.«01_k».proof.Proof.Gen.Kernel5Ideal.Frame

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every weakly fair execution ends with the result arrays as the second loop leaves them and the arguments as they were. -/
theorem run : θ_run defs (onTc (τ := τ) (main (F := F))) ⟨m, fun _ => 0, ρ⟩ (fun r => (∀ c : Dev nD,
      r.2.mem ((c.tc : Thread nD τ).loc main_v2_0) = (dat1 (V3 m ρ) c).arrAt 7 cfg1.N
      ∧ r.2.mem ((c.tc : Thread nD τ).loc main_v2_1) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨(fun c =>
      ⟨(h c _ (mem_uc main_v2_0 (by decide))).trans (W4_arr m ρ c 7),
       (h c _ (mem_uc main_v2_1 (by decide))).trans (W4_arr m ρ c 8),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩), funext fun g => hz g (.inr (no_unscoped g.2))⟩)

end Cert.Kernel5Ideal.In

end
-- ==== Proof.InRow.lean ====
/- One row of the backward call of the input projection, as functions of the row's data and the weights over the extended
   reals. -/
module

public import proofs.«01_k».proof.Proof.NormBack

@[expose] public section

noncomputable section

namespace Cert.In

open Idealize.ShloMosaic

/-- A row of the residual stream, the gradient that goes round the norm, the gradient at the projection's output in four bands,
    and the norm's gain and the weights all rows share. -/
structure Row where
  x : Fin 2048 → EReal
  up : Fin 2048 → EReal
  gain : Fin 2048 → EReal
  dz : Fin 4 → Fin 1280 → EReal
  w : Fin 4 → Fin 2048 → Fin 1280 → EReal

namespace Row

variable (a : Row)

/-- The gradient at the norm's output, the reciprocal root, the normalised row, the row's part of the gain's gradient. -/
def dn (k : Fin 2048) : EReal := ∑ s, ∑ j, a.dz s j * a.w s k j
def r : EReal := Ideal.rsqrt (Norm.ms a.x)
def xn (k : Fin 2048) : EReal := a.x k * a.r
def gp (k : Fin 2048) : EReal := a.dn k * a.xn k

/-- The gradient at the normalised row, and at the row. -/
def dx (k : Fin 2048) : EReal := a.dn k * a.gain k
def gx (k : Fin 2048) : EReal :=
  a.up k + a.r * (a.dx k - a.xn k * Ideal.div (∑ j, a.dx j * a.xn j) (Ideal.ofBits .f32 1157627904#32))

end Row

/-- The part of the gain's gradient a tile of 256 rows adds to group `q` of eight, its two halves one after the other. -/
def part (ρ : Fin 256 → Row) (q : Fin 8) (k : Fin 2048) : EReal :=
  (∑ x : Fin 16, (ρ ⟨x.val * 8 + q.val, by omega⟩).gp k) + ∑ x : Fin 16, (ρ ⟨128 + (x.val * 8 + q.val), by omega⟩).gp k

theorem part_eq (ρ : Fin 256 → Row) (q : Fin 8) (k : Fin 2048) :
    part ρ q k = ∑ x : Fin 32, (ρ ⟨x.val * 8 + q.val, by omega⟩).gp k := by
  unfold part
  refine Eq.trans ?_ (Fin.sum_univ_add (a := 16) (b := 16) (fun x : Fin 32 => (ρ ⟨x.val * 8 + q.val, by omega⟩).gp k)).symm
  refine congrArg₂ (· + ·) (Finset.sum_congr rfl fun x _ => rfl) (Finset.sum_congr rfl fun x _ => ?_)
  exact congrArg (fun r => (ρ r).gp k) (Fin.ext (show 128 + (x.val * 8 + q.val) = (16 + x.val) * 8 + q.val by omega))

end Cert.In

end
-- ==== Proof.InTile.lean ====
/- The values the two bodies of the input projection's backward call store, read at an index, from the rows of a tile. -/
module

public import proofs.«01_k».proof.Proof.Gen.Kernel5Ideal.Frame
public import Idealize.ShloMosaic.Lib.Pointwise
public import Idealize.ShloMosaic.Lib.Pipeline.ValueKit.Tiles
public import proofs.«01_k».proof.Proof.InRow

@[expose] public section

set_option maxRecDepth 16384

noncomputable section

namespace Cert.Kernel5Ideal.In

open Cert.Kernel5Ideal Cert.Kernel5Ideal.Gen Idealize.ShloMosaic Idealize.ShloMosaic.TcCoe Idealize.ShloMosaic.Tactic Cert.In

/-- The blocks of a point. -/
structure Tile where
  dz : Vec Ideal S256x5120 .bf16
  w : Vec Ideal S4x2048x1280 .bf16
  x : Vec Ideal S256x2048 .f32
  up : Vec Ideal S256x2048 .f32
  gain : Vec Ideal S1x2048 .f32

/-- Column `j` of band `s` of the projection. -/
def zcol (s : Fin 4) (j : Fin 1280) : Fin 5120 := ⟨1280 * s.val + j.val, by omega⟩

/-- A row of a tile. -/
def Tile.row (b : Tile) (r : Fin 256) : Row where
  x k := b.x (ix2 r k)
  up k := b.up (ix2 r k)
  gain k := b.gain (ix2 0 k)
  dz s j := b.dz (ix2 r (zcol s j))
  w s k j := b.w (ix3 s k j)

/-- Bands of columns, planes and halves, read. -/
theorem ld_band (v : Vec Ideal S256x5120 .bf16) (s : Fin 4) (o : Nat) (ho : o = 1280 * s.val)
    (inb : ∀ a, (![0, o] : Fin 2 → Nat) a + (![256, 1280] : Fin 2 → Nat) a ≤ S256x5120.size a) (r : Fin 256) (j : Fin 1280) :
    View.ld (Val := Elt Ideal) v (Rect.unit ![0, o] ![256, 1280] inb) (ix2 r j) = v (ix2 r (zcol s j)) := by
  subst ho
  exact congrArg v (funext fun a => Fin.ext (match a with
    | ⟨0, _⟩ => by show 0 + 1 * r.val = r.val; omega
    | ⟨1, _⟩ => by show 1280 * s.val + 1 * j.val = 1280 * s.val + j.val; omega))

theorem ld_plane (v : Vec Ideal S4x2048x1280 .bf16) (s : Fin 4) (o : Nat) (ho : o = s.val)
    (inb : ∀ a, (![o, 0, 0] : Fin 3 → Nat) a + (![1, 2048, 1280] : Fin 3 → Nat) a ≤ S4x2048x1280.size a) (k : Fin 2048) (j : Fin 1280) :
    View.ld (Val := Elt Ideal) v (Rect.unit ![o, 0, 0] ![1, 2048, 1280] inb) (ix3 0 k j) = v (ix3 s k j) := by
  subst ho
  exact congrArg v (funext fun a => Fin.ext (match a with
    | ⟨0, _⟩ => by show s.val + 1 * 0 = s.val; omega
    | ⟨1, _⟩ => by show 0 + 1 * k.val = k.val; omega
    | ⟨2, _⟩ => by show 0 + 1 * j.val = j.val; omega))

theorem ld_half0 (v : Vec Ideal S256x2048 .f32)
    (inb : ∀ a, (![0, 0] : Fin 2 → Nat) a + (![128, 2048] : Fin 2 → Nat) a ≤ S256x2048.size a) (r : Fin 128) (k : Fin 2048) :
    View.ld (Val := Elt Ideal) v (Rect.unit ![0, 0] ![128, 2048] inb) (ix2 r k) = v (ix2 ⟨r.val, by omega⟩ k) :=
  congrArg v (funext fun a => Fin.ext (match a with
    | ⟨0, _⟩ => by show 0 + 1 * r.val = r.val; omega
    | ⟨1, _⟩ => by show 0 + 1 * k.val = k.val; omega))

theorem ld_half1 (v : Vec Ideal S256x2048 .f32)
    (inb : ∀ a, (![128, 0] : Fin 2 → Nat) a + (![128, 2048] : Fin 2 → Nat) a ≤ S256x2048.size a) (r : Fin 128) (k : Fin 2048) :
    View.ld (Val := Elt Ideal) v (Rect.unit ![128, 0] ![128, 2048] inb) (ix2 r k) = v (ix2 ⟨128 + r.val, by omega⟩ k) :=
  congrArg v (funext fun a => Fin.ext (match a with
    | ⟨0, _⟩ => by show 128 + 1 * r.val = 128 + r.val; omega
    | ⟨1, _⟩ => by show 0 + 1 * k.val = k.val; omega))

/-- The product of a tile: four bands, added from the left. -/
theorem dn_at (b : Tile) (z0 z1 z2 z3 : Vec Ideal S256x1280 .bf16) (w0 w1 w2 w3 : Vec Ideal S1x2048x1280 .bf16)
    (hz0 : ∀ r j, z0 (ix2 r j) = b.dz (ix2 r (zcol 0 j))) (hz1 : ∀ r j, z1 (ix2 r j) = b.dz (ix2 r (zcol 1 j)))
    (hz2 : ∀ r j, z2 (ix2 r j) = b.dz (ix2 r (zcol 2 j))) (hz3 : ∀ r j, z3 (ix2 r j) = b.dz (ix2 r (zcol 3 j)))
    (hw0 : ∀ k j, w0 (ix3 0 k j) = b.w (ix3 0 k j)) (hw1 : ∀ k j, w1 (ix3 0 k j) = b.w (ix3 1 k j))
    (hw2 : ∀ k j, w2 (ix3 0 k j) = b.w (ix3 2 k j)) (hw3 : ∀ k j, w3 (ix3 0 k j) = b.w (ix3 3 k j)) (r : Fin 256) (k : Fin 2048) :
    k0_pay6 (F := Ideal) z0 w0 z1 w1 z2 w2 z3 w3 (ix2 r k) = (b.row r).dn k := by
  pointwise [k0_pay6]
  simp only [hz0, hz1, hz2, hz3, hw0, hw1, hw2, hw3]
  exact (Fin.sum_univ_four (M := EReal) fun s => ∑ j, (b.row r).dz s j * (b.row r).w s k j).symm

/-- A half of a tile: 128 rows, their residual, product, gain and the gradient that goes round. -/
structure Half where
  x : Vec Ideal S128x2048 .f32
  a : Vec Ideal S128x2048 .f32
  g : Vec Ideal S1x2048 .f32
  u : Vec Ideal S128x2048 .f32
  ρ : Fin 128 → Row
  hx : ∀ r k, x (ix2 r k) = (ρ r).x k
  ha : ∀ r k, a (ix2 r k) = (ρ r).dn k
  hg : ∀ r k, g (ix2 0 k) = (ρ r).gain k
  hu : ∀ r k, u (ix2 r k) = (ρ r).up k

namespace Half
variable (h : Half) (r : Fin 128) (k : Fin 2048)

theorem r0 : k0_pay8 (F := Ideal) (k0_pay7 h.x) (ix2 r 0) = (h.ρ r).r := by
  pointwise [k0_pay8, k0_pay7]; simp only [h.hx]; rfl
theorem xn0 : k0_pay9 (F := Ideal) h.x (k0_pay7 h.x) (ix2 r k) = (h.ρ r).xn k := by
  pointwise [k0_pay9]; rw [h.r0, h.hx]; rfl
theorem gp0 (acc : Vec Ideal S8x2048 .f32) (q : Fin 8) : k0_pay10 (F := Ideal) h.x (k0_pay7 h.x) h.a acc (ix2 q k)
    = (acc (ix2 q k) : EReal) + ∑ x : Fin 16, (h.ρ ⟨x.val * 8 + q.val, by omega⟩).gp k := by
  pointwise [k0_pay10]; simp only [h.xn0, h.ha]; rfl
theorem gx0 : k0_pay11 (F := Ideal) h.x (k0_pay7 h.x) h.a h.g h.u (ix2 r k) = (h.ρ r).gx k := by
  pointwise [k0_pay11]; simp only [h.xn0, h.r0, h.ha, h.hu, h.hg r]; rfl

theorem r1 : k0_pay1 (F := Ideal) (k0_pay12 h.x) (ix2 r 0) = (h.ρ r).r := h.r0 r
theorem xn1 : k0_pay2 (F := Ideal) h.x (k0_pay12 h.x) (ix2 r k) = (h.ρ r).xn k := h.xn0 r k
theorem gp1 (acc : Vec Ideal S8x2048 .f32) (q : Fin 8) : k0_pay3 (F := Ideal) h.x (k0_pay12 h.x) h.a acc (ix2 q k)
    = (acc (ix2 q k) : EReal) + ∑ x : Fin 16, (h.ρ ⟨x.val * 8 + q.val, by omega⟩).gp k := h.gp0 k acc q
theorem gx1 : k0_pay4 (F := Ideal) h.x (k0_pay12 h.x) h.a h.g h.u (ix2 r k) = (h.ρ r).gx k := h.gx0 r k
end Half

theorem pay5_at (i : S8x2048.Idx) : k0_pay5 (F := Ideal) i = (0 : EReal) := by idx_vars i; pointwise [k0_pay5]
theorem fold_at (v : Vec Ideal S8x2048 .f32) (q : Fin 8) (k : Fin 2048) :
    k1_pay5 (F := Ideal) v (ix2 q k) = ∑ q' : Fin 8, (v (ix2 q' k) : EReal) := by pointwise [k1_pay5]
theorem init_at (v : Vec Ideal S8x2048 .f32) : k1_pay6 (F := Ideal) v = v := by
  funext i; idx_vars i; pointwise [k1_pay6]

/-- The second body's stored values are the first's. -/
theorem pay7_eq : k1_pay7 (F := Ideal) = k0_pay6 := rfl
theorem pay11_eq : k1_pay11 (F := Ideal) = k0_pay10 := rfl
theorem pay12_eq : k1_pay12 (F := Ideal) = k0_pay11 := rfl
theorem pay8_eq : k1_pay8 (F := Ideal) = k0_pay7 := rfl
theorem pay13_eq : k1_pay13 (F := Ideal) = k0_pay12 := rfl
theorem pay3_eq : k1_pay3 (F := Ideal) = k0_pay3 := rfl
theorem pay4_eq : k1_pay4 (F := Ideal) = k0_pay4 := rfl

/-- Two halves of 128 rows are the tile. -/
theorem canon_halves (f0 f1 : Vec Ideal S128x2048 .f32) (v : Fin 256 → Fin 2048 → EReal)
    (h0 : ∀ (r : Fin 128) k, f0 (ix2 r k) = v ⟨r.val, by omega⟩ k) (h1 : ∀ (r : Fin 128) k, f1 (ix2 r k) = v ⟨128 + r.val, by omega⟩ k) (i0 i1) :
    View.canon (Val := Elt Ideal) (s := S256x2048) (e := .f32)
      [⟨Rect.unit ![128, 0] ![128, 2048] i1, f1⟩, ⟨Rect.unit ![0, 0] ![128, 2048] i0, f0⟩] = fun i => v (i 0) (i 1) := by
  funext y
  refine View.canon_eq_of_allAt _ y _ (View.cover_of_tiledL (s := S256x2048) _ ![128, 2048] (by sl_kernel_rfl) y) ?_
  have key : ∀ (f : Vec Ideal S128x2048 .f32) (o : Nat) (ho : o + 128 ≤ 256), (∀ (r : Fin 128) k, f (ix2 r k) = v ⟨o + r.val, by omega⟩ k) →
      View.TileAt (Val := Elt Ideal) (S := S256x2048) y ![o, 0] ![128, 2048] f (v (y 0) (y 1)) := by
    intro f o ho hf x hx
    have e0 : y 0 = (⟨o + (x 0).val, by have : (x 0).val < 128 := (x 0).isLt; omega⟩ : Fin 256) := Fin.ext (hx 0)
    have e1 : y 1 = x 1 := Fin.ext ((hx 1).trans (Nat.zero_add _))
    rw [e0, e1]
    refine Eq.trans (congrArg f (funext fun a => ?_)) (hf (x 0) (x 1))
    exact match a with | ⟨0, _⟩ => rfl | ⟨1, _⟩ => rfl
  exact View.allAt_cons_unit _ _ _ _ _ (key f1 128 (by omega) h1) (View.allAt_cons_unit _ _ _ _ _
    (key f0 0 (by omega) fun r k => (h0 r k).trans (congrArg (fun r => v r k) (Fin.ext (Nat.zero_add _).symm))) (View.allAt_nil _ _))

end Cert.Kernel5Ideal.In

end
-- ==== Proof.InRun.lean ====
/- What one point of each of the two grids leaves in the output buffers: a function of the point's blocks and of what the
   point before left. -/
module

public import proofs.«01_k».proof.Proof.InTile

@[expose] public section

set_option maxRecDepth 16384

noncomputable section

namespace Cert.Kernel5Ideal.In

open Cert.Kernel5Ideal Cert.Kernel5Ideal.Gen Idealize.ShloMosaic Idealize.ShloMosaic.TcCoe Idealize.ShloMosaic.Tactic Cert.In

variable (V : (c : Dev nD) → (b : Ref sig .tc) → Buf (Elt Ideal) ((c : Thread nD τ).loc b))

theorem hz2 : (![0, 0] : Fin 2 → Nat) = fun _ => 0 := funext fun a => by fin_cases a <;> rfl
theorem hz2' : ∀ a : Fin 2, (![0, 0] : Fin 2 → Nat) a = 0 := congrFun hz2

/-- The blocks of a point of the first grid, and of the second. -/
abbrev tile0 (c : Dev nD) (t : Fin cfg0.N) : Tile where
  dz := iblk0 V c 0 t
  w := iblk0 V c 1 t
  x := iblk0 V c 2 t
  up := iblk0 V c 3 t
  gain := iblk0 V c 4 t

abbrev tile1 (c : Dev nD) (t : Fin cfg1.N) : Tile where
  dz := iblk1 V c 0 t
  w := iblk1 V c 1 t
  x := iblk1 V c 2 t
  up := iblk1 V c 3 t
  gain := iblk1 V c 4 t

namespace Tile
variable (b : Tile)

/-- The row results of a tile, and what it makes of the accumulator. -/
def gxT : FVec Ideal S256x2048 .f32 := fun i => (b.row (i 0)).gx (i 1)
def gpT (acc : FVec Ideal S8x2048 .f32) : FVec Ideal S8x2048 .f32 := fun i => (acc i : EReal) + part b.row (i 0) (i 1)

/-- The product of a tile, as the body writes it. -/
abbrev P : Vec Ideal S256x2048 .f32 :=
  k0_pay6 (View.ld (Val := Elt Ideal) (S := S256x5120) (e' := .bf16) b.dz (Rect.unit (s := S256x5120) ![0, 0] ![256, 1280] inb_S256x5120_S256x1280_0_0))
    (View.ld (Val := Elt Ideal) (S := S4x2048x1280) (e' := .bf16) b.w (Rect.unit (s := S4x2048x1280) ![0, 0, 0] ![1, 2048, 1280] inb_S4x2048x1280_S1x2048x1280_0_0_0))
    (View.ld (Val := Elt Ideal) (S := S256x5120) (e' := .bf16) b.dz (Rect.unit (s := S256x5120) ![0, 1280] ![256, 1280] inb_S256x5120_S256x1280_0_1280))
    (View.ld (Val := Elt Ideal) (S := S4x2048x1280) (e' := .bf16) b.w (Rect.unit (s := S4x2048x1280) ![1, 0, 0] ![1, 2048, 1280] inb_S4x2048x1280_S1x2048x1280_1_0_0))
    (View.ld (Val := Elt Ideal) (S := S256x5120) (e' := .bf16) b.dz (Rect.unit (s := S256x5120) ![0, 2560] ![256, 1280] inb_S256x5120_S256x1280_0_2560))
    (View.ld (Val := Elt Ideal) (S := S4x2048x1280) (e' := .bf16) b.w (Rect.unit (s := S4x2048x1280) ![2, 0, 0] ![1, 2048, 1280] inb_S4x2048x1280_S1x2048x1280_2_0_0))
    (View.ld (Val := Elt Ideal) (S := S256x5120) (e' := .bf16) b.dz (Rect.unit (s := S256x5120) ![0, 3840] ![256, 1280] inb_S256x5120_S256x1280_0_3840))
    (View.ld (Val := Elt Ideal) (S := S4x2048x1280) (e' := .bf16) b.w (Rect.unit (s := S4x2048x1280) ![3, 0, 0] ![1, 2048, 1280] inb_S4x2048x1280_S1x2048x1280_3_0_0))

theorem P_at (r : Fin 256) (k : Fin 2048) : b.P (ix2 r k) = (b.row r).dn k :=
  dn_at b _ _ _ _ _ _ _ _ (ld_band b.dz 0 0 rfl _) (ld_band b.dz 1 1280 rfl _) (ld_band b.dz 2 2560 rfl _) (ld_band b.dz 3 3840 rfl _)
    (ld_plane b.w 0 0 rfl _) (ld_plane b.w 1 1 rfl _) (ld_plane b.w 2 2 rfl _) (ld_plane b.w 3 3 rfl _) r k

/-- Half of what one store covers, read back. -/
theorem cov0 {sig : RefSig} {κ : Kind} {sp : Space} (w : View sig κ sp S256x2048 .f32) (f : Vec Ideal S256x2048 .f32) (i j) (r : Fin 128) (k : Fin 2048) :
    w.readCov (Val := Elt Ideal) [⟨Rect.unit (s := S256x2048) ![0, 0] ![256, 2048] i, f⟩] (Rect.unit (s := S256x2048) ![0, 0] ![128, 2048] j).toLoadRect (ix2 r k) = f (ix2 ⟨r.val, by omega⟩ k) := by
  refine (congrFun (View.readCov_eq_canon' (Val := Elt Ideal) w _ _) _).trans ?_
  rw [View.canon_unit_zero (S := S256x2048) hz2]
  exact ld_half0 f j r k

theorem cov1 {sig : RefSig} {κ : Kind} {sp : Space} (w : View sig κ sp S256x2048 .f32) (f : Vec Ideal S256x2048 .f32) (i j) (r : Fin 128) (k : Fin 2048) :
    w.readCov (Val := Elt Ideal) [⟨Rect.unit (s := S256x2048) ![0, 0] ![256, 2048] i, f⟩] (Rect.unit (s := S256x2048) ![128, 0] ![128, 2048] j).toLoadRect (ix2 r k) = f (ix2 ⟨128 + r.val, by omega⟩ k) := by
  refine (congrFun (View.readCov_eq_canon' (Val := Elt Ideal) w _ _) _).trans ?_
  rw [View.canon_unit_zero (S := S256x2048) hz2]
  exact ld_half1 f j r k

variable {sig : RefSig} {κ : Kind} {sp : Space} (w : View sig κ sp S256x2048 .f32)

/-- The reads of the two halves of a tile. -/
abbrev x0 : Vec Ideal S128x2048 .f32 := View.ld (Val := Elt Ideal) (S := S256x2048) (e' := .f32) b.x (Rect.unit (s := S256x2048) ![0, 0] ![128, 2048] inb_S256x2048_S128x2048_0_0)
abbrev x1 : Vec Ideal S128x2048 .f32 := View.ld (Val := Elt Ideal) (S := S256x2048) (e' := .f32) b.x (Rect.unit (s := S256x2048) ![128, 0] ![128, 2048] inb_S256x2048_S128x2048_128_0)
abbrev u0 : Vec Ideal S128x2048 .f32 := View.ld (Val := Elt Ideal) (S := S256x2048) (e' := .f32) b.up (Rect.unit (s := S256x2048) ![0, 0] ![128, 2048] inb_S256x2048_S128x2048_0_0)
abbrev u1 : Vec Ideal S128x2048 .f32 := View.ld (Val := Elt Ideal) (S := S256x2048) (e' := .f32) b.up (Rect.unit (s := S256x2048) ![128, 0] ![128, 2048] inb_S256x2048_S128x2048_128_0)
abbrev a0 : Vec Ideal S128x2048 .f32 := w.readCov (Val := Elt Ideal) [⟨Rect.unit (s := S256x2048) ![0, 0] ![256, 2048] inb_S256x2048_S256x2048_0_0, b.P⟩] (Rect.unit (s := S256x2048) ![0, 0] ![128, 2048] inb_S256x2048_S128x2048_0_0).toLoadRect
abbrev a1 : Vec Ideal S128x2048 .f32 := w.readCov (Val := Elt Ideal) [⟨Rect.unit (s := S256x2048) ![0, 0] ![256, 2048] inb_S256x2048_S256x2048_0_0, b.P⟩] (Rect.unit (s := S256x2048) ![128, 0] ![128, 2048] inb_S256x2048_S128x2048_128_0).toLoadRect

/-- The two halves. -/
def half0 : Half where
  x := b.x0
  a := b.a0 w
  g := b.gain
  u := b.u0
  ρ r := b.row ⟨r.val, by omega⟩
  hx := ld_half0 b.x _
  ha r k := (cov0 w b.P _ _ r k).trans (b.P_at _ _)
  hg _ _ := rfl
  hu := ld_half0 b.up _

def half1 : Half where
  x := b.x1
  a := b.a1 w
  g := b.gain
  u := b.u1
  ρ r := b.row ⟨128 + r.val, by omega⟩
  hx := ld_half1 b.x _
  ha r k := (cov1 w b.P _ _ r k).trans (b.P_at _ _)
  hg _ _ := rfl
  hu := ld_half1 b.up _

theorem gx0 (r : Fin 128) (k : Fin 2048) : k0_pay11 (F := Ideal) b.x0 (k0_pay7 b.x0) (b.a0 w) b.gain b.u0 (ix2 r k) = (b.row ⟨r.val, by omega⟩).gx k :=
  (b.half0 w).gx0 r k
theorem gx1 (r : Fin 128) (k : Fin 2048) : k0_pay4 (F := Ideal) b.x1 (k0_pay12 b.x1) (b.a1 w) b.gain b.u1 (ix2 r k) = (b.row ⟨128 + r.val, by omega⟩).gx k :=
  (b.half1 w).gx1 r k

/-- What the body writes of the two results. -/
theorem gx_canon (i0 i1) : View.canon (Val := Elt Ideal) (s := S256x2048) (e := .f32)
    [⟨Rect.unit (s := S256x2048) ![128, 0] ![128, 2048] i1, k0_pay4 (F := Ideal) b.x1 (k0_pay12 b.x1) (b.a1 w) b.gain b.u1⟩,
     ⟨Rect.unit (s := S256x2048) ![0, 0] ![128, 2048] i0, k0_pay11 (F := Ideal) b.x0 (k0_pay7 b.x0) (b.a0 w) b.gain b.u0⟩] = b.gxT :=
  canon_halves _ _ (fun r k => (b.row r).gx k) (b.gx0 w) (b.gx1 w) i0 i1

theorem gp_eq (acc : Vec Ideal S8x2048 .f32) :
    k0_pay3 (F := Ideal) b.x1 (k0_pay12 b.x1) (b.a1 w) (k0_pay10 (F := Ideal) b.x0 (k0_pay7 b.x0) (b.a0 w) acc) = b.gpT acc := by
  funext i; idx_vars i
  exact ((b.half1 w).gp1 i1 _ i0).trans ((congrArg (· + (_ : EReal)) ((b.half0 w).gp0 i1 acc i0)).trans (add_assoc (G := EReal) _ _ _))
end Tile

/-- The eight groups of the accumulator, added and spread. -/
def foldT (v : FVec Ideal S8x2048 .f32) : FVec Ideal S8x2048 .f32 := fun i => ∑ q : Fin 8, (v (ix2 q (i 1)) : EReal)
theorem fold_eq (v : FVec Ideal S8x2048 .f32) : k1_pay5 (F := Ideal) v = foldT v := by funext i; idx_vars i; exact fold_at _ _ _
theorem zero_eq : k0_pay5 (F := Ideal) = fun _ => (0 : EReal) := funext pay5_at

set_option maxHeartbeats 8000000 in
/-- A point of the first grid after its first. -/
theorem outs0_B (c : Dev nD) (t : Fin cfg0.N) (h0 : ¬t.val % 10 = 0) (P)
    (hP : P = outsAt0 V c (t.val - 1) (Nat.lt_of_le_of_lt (Nat.sub_le _ _) t.isLt)) :
    outsAt0 V c t.val t.isLt = ((tile0 V c t).gxT, (tile0 V c t).gpT P.2) := by
  subst hP
  rw [outsAt0_B V c t h0]
  refine Prod.ext ?_ ?_ <;> dsimp only
  · unfold out0_B_6; rw [View.read_writes_eq_canon _ _ _ (cover0_B_6 c _ _ _ _ _ _ _ _ _ _ _ _ _ _ _ _ _ _ _ _ _ _ _ _ _ _ _)]; unfold kernelRun0_B; dsimp only; try sl_unfold_words
    simp only [View.readAt_eq_ld, (hs0_0 _).read_unread, (hs0_1 _).read_unread, (hs0_2 _).read_unread, (hs0_3 _).read_unread, (hs0_4 _).read_unread, (hs0_7 _).read_unread, View.ld_unit_zero (S := S256x2048) hz2, View.ld_unit_zero (S := S8x2048) hz2, View.ld_unit_zero (S := S1x2048) hz2, shapeCast_self]
    exact (tile0 V c t).gx_canon (View.whole cc0_scratch0) _ _
  · unfold out0_B_7; rw [View.read_writes_eq_canon _ _ _ (cover0_B_7 c _ _ _ _ _ _ _ _ _ _ _ _ _ _ _ _ _ _ _ _ _ _ _ _ _ _ _)]; unfold kernelRun0_B; dsimp only; try sl_unfold_words
    simp only [View.readAt_eq_ld, (hs0_0 _).read_unread, (hs0_1 _).read_unread, (hs0_2 _).read_unread, (hs0_3 _).read_unread, (hs0_4 _).read_unread, (hs0_7 _).read_unread, View.ld_unit_zero (S := S256x2048) hz2, View.ld_unit_zero (S := S8x2048) hz2, View.ld_unit_zero (S := S1x2048) hz2, shapeCast_self]
    simp only [View.canon_cons_unit_lit' (S := S8x2048) _ _ _ hz2', View.readCov_cons_unit_lit' (S := S8x2048) _ _ _ _ _ hz2' hz2', View.readCov_unit_lit' (S := S8x2048) _ _ _ hz2']
    exact (tile0 V c t).gp_eq (View.whole cc0_scratch0) _

set_option maxHeartbeats 8000000 in
/-- The first point of the first grid. -/
theorem outs0_A (c : Dev nD) (t : Fin cfg0.N) (h0 : t.val % 10 = 0) :
    outsAt0 V c t.val t.isLt = ((tile0 V c t).gxT, (tile0 V c t).gpT (fun _ => (0 : EReal))) := by
  rw [outsAt0_A V c t h0]
  refine Prod.ext ?_ ?_ <;> dsimp only
  · unfold out0_A_6; rw [View.read_writes_eq_canon _ _ _ (cover0_A_6 c _ _ _ _ _ _ _ _ _ _ _ _ _ _ _ _ _ _ _ _ _ _ _ _ _ _)]; unfold kernelRun0_A; dsimp only; try sl_unfold_words
    simp only [View.readAt_eq_ld, (hs0_0 _).read_unread, (hs0_1 _).read_unread, (hs0_2 _).read_unread, (hs0_3 _).read_unread, (hs0_4 _).read_unread, View.ld_unit_zero (S := S256x2048) hz2, View.ld_unit_zero (S := S8x2048) hz2, View.ld_unit_zero (S := S1x2048) hz2, shapeCast_self]
    exact (tile0 V c t).gx_canon (View.whole cc0_scratch0) _ _
  · unfold out0_A_7; rw [View.read_writes_eq_canon _ _ _ (cover0_A_7 c _ _ _ _ _ _ _ _ _ _ _ _ _ _ _ _ _ _ _ _ _ _ _ _ _ _)]; unfold kernelRun0_A; dsimp only; try sl_unfold_words
    simp only [View.readAt_eq_ld, (hs0_0 _).read_unread, (hs0_1 _).read_unread, (hs0_2 _).read_unread, (hs0_3 _).read_unread, (hs0_4 _).read_unread, View.ld_unit_zero (S := S256x2048) hz2, View.ld_unit_zero (S := S8x2048) hz2, View.ld_unit_zero (S := S1x2048) hz2, shapeCast_self]
    simp only [View.canon_cons_unit_lit' (S := S8x2048) _ _ _ hz2', View.readCov_cons_unit_lit' (S := S8x2048) _ _ _ _ _ hz2' hz2', View.readCov_unit_lit' (S := S8x2048) _ _ _ hz2']
    rw [zero_eq]; exact (tile0 V c t).gp_eq (View.whole cc0_scratch0) _

set_option maxHeartbeats 8000000 in
/-- A point of the second grid that is neither its first nor its last. -/
theorem outs1_B (c : Dev nD) (t : Fin cfg1.N) (h0 : ¬t.val % 22 = 0) (h1 : ¬t.val % 22 = 21) (P)
    (hP : P = outsAt1 V c (t.val - 1) (Nat.lt_of_le_of_lt (Nat.sub_le _ _) t.isLt)) :
    outsAt1 V c t.val t.isLt = ((tile1 V c t).gxT, (tile1 V c t).gpT P.2) := by
  subst hP
  rw [outsAt1_B V c t h0 h1]
  refine Prod.ext ?_ ?_ <;> dsimp only
  · unfold out1_B_7; rw [View.read_writes_eq_canon _ _ _ (cover1_B_7 c _ _ _ _ _ _ _ _ _ _ _ _ _ _ _ _ _ _ _ _ _ _ _ _ _ _ _ _ _ _ _)]; unfold kernelRun1_B; dsimp only; try sl_unfold_words
    simp only [View.readAt_eq_ld, (hs1_0 _).read_unread, (hs1_1 _).read_unread, (hs1_2 _).read_unread, (hs1_3 _).read_unread, (hs1_4 _).read_unread, (hs1_6 _).read_unread, (hs1_8 _).read_unread, View.ld_unit_zero (S := S256x2048) hz2, View.ld_unit_zero (S := S8x2048) hz2, View.ld_unit_zero (S := S1x2048) hz2, shapeCast_self, pay3_eq, pay4_eq, pay7_eq, pay8_eq, pay11_eq, pay12_eq, pay13_eq]
    exact (tile1 V c t).gx_canon (View.whole cc1_scratch0) _ _
  · unfold out1_B_8; rw [View.read_writes_eq_canon _ _ _ (cover1_B_8 c _ _ _ _ _ _ _ _ _ _ _ _ _ _ _ _ _ _ _ _ _ _ _ _ _ _ _ _ _ _ _)]; unfold kernelRun1_B; dsimp only; try sl_unfold_words
    simp only [View.readAt_eq_ld, (hs1_0 _).read_unread, (hs1_1 _).read_unread, (hs1_2 _).read_unread, (hs1_3 _).read_unread, (hs1_4 _).read_unread, (hs1_6 _).read_unread, (hs1_8 _).read_unread, View.ld_unit_zero (S := S256x2048) hz2, View.ld_unit_zero (S := S8x2048) hz2, View.ld_unit_zero (S := S1x2048) hz2, shapeCast_self, pay3_eq, pay4_eq, pay7_eq, pay8_eq, pay11_eq, pay12_eq, pay13_eq]
    simp only [View.canon_cons_unit_lit' (S := S8x2048) _ _ _ hz2', View.readCov_cons_unit_lit' (S := S8x2048) _ _ _ _ _ hz2' hz2', View.readCov_unit_lit' (S := S8x2048) _ _ _ hz2']
    exact (tile1 V c t).gp_eq (View.whole cc1_scratch0) _

set_option maxHeartbeats 8000000 in
/-- The first point of the second grid. -/
theorem outs1_A (c : Dev nD) (t : Fin cfg1.N) (h0 : t.val % 22 = 0) (h1 : ¬t.val % 22 = 21) :
    outsAt1 V c t.val t.isLt = ((tile1 V c t).gxT, (tile1 V c t).gpT (iblk1 V c 6 t)) := by
  rw [outsAt1_A V c t h0 h1]
  refine Prod.ext ?_ ?_ <;> dsimp only
  · unfold out1_A_7; rw [View.read_writes_eq_canon _ _ _ (cover1_A_7 c _ _ _ _ _ _ _ _ _ _ _ _ _ _ _ _ _ _ _ _ _ _ _ _ _ _ _ _ _ _)]; unfold kernelRun1_A; dsimp only; try sl_unfold_words
    simp only [View.readAt_eq_ld, (hs1_0 _).read_unread, (hs1_1 _).read_unread, (hs1_2 _).read_unread, (hs1_3 _).read_unread, (hs1_4 _).read_unread, (hs1_6 _).read_unread, View.ld_unit_zero (S := S256x2048) hz2, View.ld_unit_zero (S := S8x2048) hz2, View.ld_unit_zero (S := S1x2048) hz2, shapeCast_self, pay3_eq, pay4_eq, pay7_eq, pay8_eq, pay11_eq, pay12_eq, pay13_eq]
    exact (tile1 V c t).gx_canon (View.whole cc1_scratch0) _ _
  · unfold out1_A_8; rw [View.read_writes_eq_canon _ _ _ (cover1_A_8 c _ _ _ _ _ _ _ _ _ _ _ _ _ _ _ _ _ _ _ _ _ _ _ _ _ _ _ _ _ _)]; unfold kernelRun1_A; dsimp only; try sl_unfold_words
    simp only [View.readAt_eq_ld, (hs1_0 _).read_unread, (hs1_1 _).read_unread, (hs1_2 _).read_unread, (hs1_3 _).read_unread, (hs1_4 _).read_unread, (hs1_6 _).read_unread, View.ld_unit_zero (S := S256x2048) hz2, View.ld_unit_zero (S := S8x2048) hz2, View.ld_unit_zero (S := S1x2048) hz2, shapeCast_self, pay3_eq, pay4_eq, pay7_eq, pay8_eq, pay11_eq, pay12_eq, pay13_eq]
    simp only [View.canon_cons_unit_lit' (S := S8x2048) _ _ _ hz2', View.readCov_cons_unit_lit' (S := S8x2048) _ _ _ _ _ hz2' hz2', View.readCov_unit_lit' (S := S8x2048) _ _ _ hz2']
    rw [init_at]; exact (tile1 V c t).gp_eq (View.whole cc1_scratch0) _

set_option maxHeartbeats 8000000 in
/-- The last point of the second grid. -/
theorem outs1_C (c : Dev nD) (t : Fin cfg1.N) (h0 : ¬t.val % 22 = 0) (h1 : t.val % 22 = 21) (P)
    (hP : P = outsAt1 V c (t.val - 1) (Nat.lt_of_le_of_lt (Nat.sub_le _ _) t.isLt)) :
    outsAt1 V c t.val t.isLt = ((tile1 V c t).gxT, foldT ((tile1 V c t).gpT P.2)) := by
  subst hP
  rw [outsAt1_C V c t h0 h1]
  refine Prod.ext ?_ ?_ <;> dsimp only
  · unfold out1_C_7; rw [View.read_writes_eq_canon _ _ _ (cover1_C_7 c _ _ _ _ _ _ _ _ _ _ _ _ _ _ _ _ _ _ _ _ _ _ _ _ _ _ _ _ _ _ _)]; unfold kernelRun1_C; dsimp only; try sl_unfold_words
    simp only [View.readAt_eq_ld, (hs1_0 _).read_unread, (hs1_1 _).read_unread, (hs1_2 _).read_unread, (hs1_3 _).read_unread, (hs1_4 _).read_unread, (hs1_6 _).read_unread, (hs1_8 _).read_unread, View.ld_unit_zero (S := S256x2048) hz2, View.ld_unit_zero (S := S8x2048) hz2, View.ld_unit_zero (S := S1x2048) hz2, shapeCast_self, pay3_eq, pay4_eq, pay7_eq, pay8_eq, pay11_eq, pay12_eq, pay13_eq]
    exact (tile1 V c t).gx_canon (View.whole cc1_scratch0) _ _
  · unfold out1_C_8; rw [View.read_writes_eq_canon _ _ _ (cover1_C_8 c _ _ _ _ _ _ _ _ _ _ _ _ _ _ _ _ _ _ _ _ _ _ _ _ _ _ _ _ _ _ _)]; unfold kernelRun1_C; dsimp only; try sl_unfold_words
    simp only [View.readAt_eq_ld, (hs1_0 _).read_unread, (hs1_1 _).read_unread, (hs1_2 _).read_unread, (hs1_3 _).read_unread, (hs1_4 _).read_unread, (hs1_6 _).read_unread, (hs1_8 _).read_unread, View.ld_unit_zero (S := S256x2048) hz2, View.ld_unit_zero (S := S8x2048) hz2, View.ld_unit_zero (S := S1x2048) hz2, shapeCast_self, pay3_eq, pay4_eq, pay7_eq, pay8_eq, pay11_eq, pay12_eq, pay13_eq]
    simp only [View.canon_cons_unit_lit' (S := S8x2048) _ _ _ hz2', View.readCov_cons_unit_lit' (S := S8x2048) _ _ _ _ _ hz2' hz2', View.readCov_unit_lit' (S := S8x2048) _ _ _ hz2']
    rw [fold_eq]; exact congrArg foldT ((tile1 V c t).gp_eq (View.whole cc1_scratch0) _)

end Cert.Kernel5Ideal.In

end
-- ==== Proof.InOut.lean ====
/- The output buffers of the two grids after each point: the row results are those of the point's own tile, and the
   accumulator holds what it held at the first point and the sums over the points so far. -/
module

public import proofs.«01_k».proof.Proof.InRun

@[expose] public section

set_option maxRecDepth 16384

noncomputable section

namespace Cert.Kernel5Ideal.In

open Cert.Kernel5Ideal Cert.Kernel5Ideal.Gen Idealize.ShloMosaic Idealize.ShloMosaic.TcCoe Idealize.ShloMosaic.Tactic Cert.In

variable (V : (c : Dev nD) → (b : Ref sig .tc) → Buf (Elt Ideal) ((c : Thread nD τ).loc b))

theorem N0_eq : cfg0.N = 10 := by decide +kernel
theorem N1_eq : cfg1.N = 22 := by decide +kernel

/-- The row results of a point. -/
theorem rows0 (c : Dev nD) (t : Fin cfg0.N) : (outsAt0 V c t.val t.isLt).1 = (tile0 V c t).gxT := by
  by_cases h0 : t.val % 10 = 0
  · rw [outs0_A V c t h0]
  · rw [outs0_B V c t h0 _ rfl]

theorem rows1 (c : Dev nD) (t : Fin cfg1.N) : (outsAt1 V c t.val t.isLt).1 = (tile1 V c t).gxT := by
  by_cases h0 : t.val % 22 = 0
  · rw [outs1_A V c t h0 (by omega)]
  · by_cases h1 : t.val % 22 = 21
    · rw [outs1_C V c t h0 h1 _ rfl]
    · rw [outs1_B V c t h0 h1 _ rfl]

/-- What grows by one term at each step is what it was first and the sum of the terms. -/
theorem sum_of_steps (N : Nat) (a : (n : Nat) → n < N → EReal) (z : EReal) (d : Fin N → EReal) (K : Nat)
    (h0 : ∀ h, a 0 h = z + d ⟨0, h⟩)
    (hs : ∀ n (h : n + 1 < N), n + 1 < K → a (n + 1) h = a n (Nat.lt_of_succ_lt h) + d ⟨n + 1, h⟩) :
    ∀ n (h : n < N), n < K → a n h = z + ∑ t : Fin (n + 1), d ⟨t.val, Nat.lt_of_lt_of_le t.isLt h⟩ := by
  intro n
  induction n with
  | zero => intro h _; rw [h0]; exact congrArg (z + ·) (Fin.sum_univ_one (M := EReal) (fun t : Fin 1 => d ⟨t.val, Nat.lt_of_lt_of_le t.isLt h⟩)).symm
  | succ n ih =>
    intro h hk
    rw [hs n h hk, ih (Nat.lt_of_succ_lt h) (Nat.lt_of_succ_lt hk), Fin.sum_univ_castSucc (n := n + 1), add_assoc]
    rfl

/-- One point's term of the accumulator. -/
def term (b : Tile) (q : Fin 8) (k : Fin 2048) : EReal := part b.row q k

theorem step0 (c : Dev nD) (i : S8x2048.Idx) (n : Nat) (h : n + 1 < cfg0.N) :
    ((outsAt0 V c (n + 1) h).2 i : EReal) = ((outsAt0 V c n (Nat.lt_of_succ_lt h)).2 i : EReal) + term (tile0 V c ⟨n + 1, h⟩) (i 0) (i 1) := by
  have hN := N0_eq
  have h0 : ¬(⟨n + 1, h⟩ : Fin cfg0.N).val % 10 = 0 := by show ¬(n + 1) % 10 = 0; omega
  exact congrFun (congrArg (fun p => p.2) (outs0_B V c ⟨n + 1, h⟩ h0 _ rfl)) i

theorem first0 (c : Dev nD) (i : S8x2048.Idx) (h : 0 < cfg0.N) :
    ((outsAt0 V c 0 h).2 i : EReal) = (0 : EReal) + term (tile0 V c ⟨0, h⟩) (i 0) (i 1) :=
  congrFun (congrArg (fun p => p.2) (outs0_A V c ⟨0, h⟩ rfl)) i

theorem acc0 (c : Dev nD) (i : S8x2048.Idx) (n : Nat) (h : n < cfg0.N) :
    ((outsAt0 V c n h).2 i : EReal) = ∑ t : Fin (n + 1), term (tile0 V c ⟨t.val, Nat.lt_of_lt_of_le t.isLt h⟩) (i 0) (i 1) :=
  (sum_of_steps cfg0.N (fun n h => (outsAt0 V c n h).2 i) 0 (fun t => term (tile0 V c t) (i 0) (i 1)) cfg0.N
    (first0 V c i) (fun n h _ => step0 V c i n h) n h h).trans (zero_add _)

/-- What the second grid starts its accumulator from. -/
abbrev start (c : Dev nD) (h : 0 < cfg1.N) : FVec Ideal S8x2048 .f32 := iblk1 V c 6 ⟨0, h⟩

theorem step1 (c : Dev nD) (i : S8x2048.Idx) (n : Nat) (h : n + 1 < cfg1.N) (hk : n + 1 < 21) :
    ((outsAt1 V c (n + 1) h).2 i : EReal) = ((outsAt1 V c n (Nat.lt_of_succ_lt h)).2 i : EReal) + term (tile1 V c ⟨n + 1, h⟩) (i 0) (i 1) := by
  have hN := N1_eq
  have h0 : ¬(⟨n + 1, h⟩ : Fin cfg1.N).val % 22 = 0 := by show ¬(n + 1) % 22 = 0; omega
  have h1 : ¬(⟨n + 1, h⟩ : Fin cfg1.N).val % 22 = 21 := by show ¬(n + 1) % 22 = 21; omega
  exact congrFun (congrArg (fun p => p.2) (outs1_B V c ⟨n + 1, h⟩ h0 h1 _ rfl)) i

theorem first1 (c : Dev nD) (i : S8x2048.Idx) (h : 0 < cfg1.N) :
    ((outsAt1 V c 0 h).2 i : EReal) = (start V c h i : EReal) + term (tile1 V c ⟨0, h⟩) (i 0) (i 1) :=
  congrFun (congrArg (fun p => p.2) (outs1_A V c ⟨0, h⟩ rfl (by show ¬(0 % 22 = 21); omega))) i

theorem last1 (c : Dev nD) (i : S8x2048.Idx) (n : Nat) (h : n + 1 < cfg1.N) (hn : n = 20) :
    ((outsAt1 V c (n + 1) h).2 i : EReal)
      = ∑ q : Fin 8, (((outsAt1 V c n (Nat.lt_of_succ_lt h)).2 (ix2 q (i 1)) : EReal) + term (tile1 V c ⟨n + 1, h⟩) q (i 1)) := by
  have h0 : ¬(⟨n + 1, h⟩ : Fin cfg1.N).val % 22 = 0 := by show ¬(n + 1) % 22 = 0; omega
  have h1 : (⟨n + 1, h⟩ : Fin cfg1.N).val % 22 = 21 := by show (n + 1) % 22 = 21; omega
  exact congrFun (congrArg (fun p => p.2) (outs1_C V c ⟨n + 1, h⟩ h0 h1 _ rfl)) i

theorem acc1 (c : Dev nD) (i : S8x2048.Idx) (n : Nat) (h : n + 1 < cfg1.N) (hn : n = 20) :
    ((outsAt1 V c (n + 1) h).2 i : EReal)
      = ∑ q : Fin 8, ((start V c (Nat.lt_of_le_of_lt (Nat.zero_le _) h) (ix2 q (i 1)) : EReal)
          + ∑ t : Fin (n + 2), term (tile1 V c ⟨t.val, Nat.lt_of_lt_of_le t.isLt h⟩) q (i 1)) := by
  rw [last1 V c i n h hn]
  refine Finset.sum_congr rfl fun q _ => ?_
  rw [sum_of_steps cfg1.N (fun n h => (outsAt1 V c n h).2 (ix2 q (i 1))) (start V c (Nat.lt_of_le_of_lt (Nat.zero_le _) h) (ix2 q (i 1))) (fun t => term (tile1 V c t) q (i 1)) 21
    (first1 V c (ix2 q (i 1))) (fun n h hk => step1 V c (ix2 q (i 1)) n h hk) n (Nat.lt_of_succ_lt h) (by omega),
    Fin.sum_univ_castSucc (n := n + 1), add_assoc]
  rfl

end Cert.Kernel5Ideal.In

end
-- ==== Proof.InBlocks.lean ====
/- The arrays the two grids leave, element by element, as functions of the rows of the argument arrays. -/
module

public import proofs.«01_k».proof.Proof.InOut
public import proofs.«01_k».proof.Proof.HeadSums
public import Idealize.ShloMosaic.Lib.Pipeline.Value
public import Idealize.ShloMosaic.Lib.StableHlo.Run

@[expose] public section

set_option maxRecDepth 16384

noncomputable section

namespace Cert.Kernel5Ideal.In

open Cert.Kernel5Ideal Cert.Kernel5Ideal.Gen Idealize.ShloMosaic Idealize.ShloMosaic.TcCoe Idealize.ShloMosaic.Tactic Cert.In

variable (m : (ℓ : Loc nD τ sig) → Buf (Elt Ideal) ℓ) (ρ : Dev nD → PrngReg) (c : Dev nD)

/-- One row of the argument arrays. -/
def rowOf (R : Fin 8192) : Row where
  x k := m ((c : Thread nD τ).loc main_arg2) (ix2 R k)
  up k := m ((c : Thread nD τ).loc main_arg3) (ix2 R k)
  gain k := m ((c : Thread nD τ).loc main_arg4) (ix2 0 k)
  dz s j := m ((c : Thread nD τ).loc main_arg0) (ix2 R (zcol s j))
  w s k j := m ((c : Thread nD τ).loc main_arg1) (ix3 s k j)

/-- Which block each window stands on at a point. -/
theorem index0 : ∀ t : Fin cfg0.N,
    (win0_0.index t (0 : Fin 2) = t.val ∧ win0_0.index t (1 : Fin 2) = 0) ∧
    (win0_1.index t (0 : Fin 3) = 0 ∧ win0_1.index t (1 : Fin 3) = 0 ∧ win0_1.index t (2 : Fin 3) = 0) ∧
    (win0_2.index t (0 : Fin 2) = t.val ∧ win0_2.index t (1 : Fin 2) = 0) ∧ (win0_3.index t (0 : Fin 2) = t.val ∧ win0_3.index t (1 : Fin 2) = 0) ∧
    (win0_4.index t (0 : Fin 2) = 0 ∧ win0_4.index t (1 : Fin 2) = 0) ∧ (win0_6.index t (0 : Fin 2) = t.val ∧ win0_6.index t (1 : Fin 2) = 0) ∧
    (win0_7.index t (0 : Fin 2) = 0 ∧ win0_7.index t (1 : Fin 2) = 0) :=
  (by decide +kernel : ∀ t : Fin grid0.N, _)

theorem index1 : ∀ t : Fin cfg1.N,
    (win1_0.index t (0 : Fin 2) = t.val + 10 ∧ win1_0.index t (1 : Fin 2) = 0) ∧
    (win1_1.index t (0 : Fin 3) = 0 ∧ win1_1.index t (1 : Fin 3) = 0 ∧ win1_1.index t (2 : Fin 3) = 0) ∧
    (win1_2.index t (0 : Fin 2) = t.val + 10 ∧ win1_2.index t (1 : Fin 2) = 0) ∧ (win1_3.index t (0 : Fin 2) = t.val + 10 ∧ win1_3.index t (1 : Fin 2) = 0) ∧
    (win1_4.index t (0 : Fin 2) = 0 ∧ win1_4.index t (1 : Fin 2) = 0) ∧ (win1_6.index t (0 : Fin 2) = 0 ∧ win1_6.index t (1 : Fin 2) = 0) ∧
    (win1_7.index t (0 : Fin 2) = t.val + 10 ∧ win1_7.index t (1 : Fin 2) = 0) ∧ (win1_8.index t (0 : Fin 2) = 0 ∧ win1_8.index t (1 : Fin 2) = 0) :=
  (by decide +kernel : ∀ t : Fin grid1.N, _)

/-- Row `r` of the tile at point `n` of the first grid is row `256 n + r` of the arrays, of the second `256 (n + 10) + r`. -/
theorem row_lt0 (n : Nat) (h : n < cfg0.N) (r : Fin 256) : n * 256 + r.val < 8192 := by
  have := N0_eq; have := r.isLt; omega
theorem row_lt1 (n : Nat) (h : n < cfg1.N) (r : Fin 256) : (n + 10) * 256 + r.val < 8192 := by
  have := N1_eq; have := r.isLt; omega

theorem tile0_row (n : Nat) (h : n < cfg0.N) (r : Fin 256) :
    (tile0 (V1 m ρ) c ⟨n, h⟩).row r = rowOf m c ⟨n * 256 + r.val, row_lt0 n h r⟩ := by
  obtain ⟨⟨z0, z1⟩, ⟨w0, w1, w2⟩, ⟨x0, x1⟩, ⟨u0, u1⟩, ⟨g0, g1⟩, -⟩ := index0 ⟨n, h⟩
  refine (Row.mk.injEq ..).mpr ⟨?_, ?_, ?_, ?_, ?_⟩
  · funext k
    show W1 m ρ c (Proc.devRef .tc main_arg2) ((win0_2.rect ⟨n, h⟩).emb (ix2 r k)) = _
    rw [W1_args m ρ c main_arg2 (by decide)]
    refine congrArg _ (funext fun a => Fin.ext ?_)
    match a with
    | ⟨0, _⟩ => exact (win0_2.rect_emb_val ⟨n, h⟩ (ix2 r k) (0 : Fin 2)).trans (by rw [x0]; rfl)
    | ⟨1, _⟩ => exact (win0_2.rect_emb_val ⟨n, h⟩ (ix2 r k) (1 : Fin 2)).trans (by rw [x1]; exact Nat.zero_add _)
  · funext k
    show W1 m ρ c (Proc.devRef .tc main_arg3) ((win0_3.rect ⟨n, h⟩).emb (ix2 r k)) = _
    rw [W1_args m ρ c main_arg3 (by decide)]
    refine congrArg _ (funext fun a => Fin.ext ?_)
    match a with
    | ⟨0, _⟩ => exact (win0_3.rect_emb_val ⟨n, h⟩ (ix2 r k) (0 : Fin 2)).trans (by rw [u0]; rfl)
    | ⟨1, _⟩ => exact (win0_3.rect_emb_val ⟨n, h⟩ (ix2 r k) (1 : Fin 2)).trans (by rw [u1]; exact Nat.zero_add _)
  · funext k
    show W1 m ρ c (Proc.devRef .tc main_arg4) ((win0_4.rect ⟨n, h⟩).emb (ix2 0 k)) = _
    rw [W1_args m ρ c main_arg4 (by decide)]
    refine congrArg _ (funext fun a => Fin.ext ?_)
    match a with
    | ⟨0, _⟩ => exact (win0_4.rect_emb_val ⟨n, h⟩ (ix2 0 k) (0 : Fin 2)).trans (by rw [g0]; rfl)
    | ⟨1, _⟩ => exact (win0_4.rect_emb_val ⟨n, h⟩ (ix2 0 k) (1 : Fin 2)).trans (by rw [g1]; exact Nat.zero_add _)
  · funext s j
    show W1 m ρ c (Proc.devRef .tc main_arg0) ((win0_0.rect ⟨n, h⟩).emb (ix2 r (zcol s j))) = _
    rw [W1_args m ρ c main_arg0 (by decide)]
    refine congrArg _ (funext fun a => Fin.ext ?_)
    match a with
    | ⟨0, _⟩ => exact (win0_0.rect_emb_val ⟨n, h⟩ (ix2 r (zcol s j)) (0 : Fin 2)).trans (by rw [z0]; rfl)
    | ⟨1, _⟩ => exact (win0_0.rect_emb_val ⟨n, h⟩ (ix2 r (zcol s j)) (1 : Fin 2)).trans (by rw [z1]; exact Nat.zero_add _)
  · funext s k j
    show W1 m ρ c (Proc.devRef .tc main_arg1) ((win0_1.rect ⟨n, h⟩).emb (ix3 s k j)) = _
    rw [W1_args m ρ c main_arg1 (by decide)]
    refine congrArg _ (funext fun a => Fin.ext ?_)
    match a with
    | ⟨0, _⟩ => exact (win0_1.rect_emb_val ⟨n, h⟩ (ix3 s k j) (0 : Fin 3)).trans (by rw [w0]; exact Nat.zero_add _)
    | ⟨1, _⟩ => exact (win0_1.rect_emb_val ⟨n, h⟩ (ix3 s k j) (1 : Fin 3)).trans (by rw [w1]; exact Nat.zero_add _)
    | ⟨2, _⟩ => exact (win0_1.rect_emb_val ⟨n, h⟩ (ix3 s k j) (2 : Fin 3)).trans (by rw [w2]; exact Nat.zero_add _)

theorem tile1_row (n : Nat) (h : n < cfg1.N) (r : Fin 256) :
    (tile1 (V3 m ρ) c ⟨n, h⟩).row r = rowOf m c ⟨(n + 10) * 256 + r.val, row_lt1 n h r⟩ := by
  obtain ⟨⟨z0, z1⟩, ⟨w0, w1, w2⟩, ⟨x0, x1⟩, ⟨u0, u1⟩, ⟨g0, g1⟩, -⟩ := index1 ⟨n, h⟩
  refine (Row.mk.injEq ..).mpr ⟨?_, ?_, ?_, ?_, ?_⟩
  · funext k
    show W3 m ρ c (Proc.devRef .tc main_arg2) ((win1_2.rect ⟨n, h⟩).emb (ix2 r k)) = _
    rw [W3_args m ρ c main_arg2 (by decide)]
    refine congrArg _ (funext fun a => Fin.ext ?_)
    match a with
    | ⟨0, _⟩ => exact (win1_2.rect_emb_val ⟨n, h⟩ (ix2 r k) (0 : Fin 2)).trans (by rw [x0]; rfl)
    | ⟨1, _⟩ => exact (win1_2.rect_emb_val ⟨n, h⟩ (ix2 r k) (1 : Fin 2)).trans (by rw [x1]; exact Nat.zero_add _)
  · funext k
    show W3 m ρ c (Proc.devRef .tc main_arg3) ((win1_3.rect ⟨n, h⟩).emb (ix2 r k)) = _
    rw [W3_args m ρ c main_arg3 (by decide)]
    refine congrArg _ (funext fun a => Fin.ext ?_)
    match a with
    | ⟨0, _⟩ => exact (win1_3.rect_emb_val ⟨n, h⟩ (ix2 r k) (0 : Fin 2)).trans (by rw [u0]; rfl)
    | ⟨1, _⟩ => exact (win1_3.rect_emb_val ⟨n, h⟩ (ix2 r k) (1 : Fin 2)).trans (by rw [u1]; exact Nat.zero_add _)
  · funext k
    show W3 m ρ c (Proc.devRef .tc main_arg4) ((win1_4.rect ⟨n, h⟩).emb (ix2 0 k)) = _
    rw [W3_args m ρ c main_arg4 (by decide)]
    refine congrArg _ (funext fun a => Fin.ext ?_)
    match a with
    | ⟨0, _⟩ => exact (win1_4.rect_emb_val ⟨n, h⟩ (ix2 0 k) (0 : Fin 2)).trans (by rw [g0]; rfl)
    | ⟨1, _⟩ => exact (win1_4.rect_emb_val ⟨n, h⟩ (ix2 0 k) (1 : Fin 2)).trans (by rw [g1]; exact Nat.zero_add _)
  · funext s j
    show W3 m ρ c (Proc.devRef .tc main_arg0) ((win1_0.rect ⟨n, h⟩).emb (ix2 r (zcol s j))) = _
    rw [W3_args m ρ c main_arg0 (by decide)]
    refine congrArg _ (funext fun a => Fin.ext ?_)
    match a with
    | ⟨0, _⟩ => exact (win1_0.rect_emb_val ⟨n, h⟩ (ix2 r (zcol s j)) (0 : Fin 2)).trans (by rw [z0]; rfl)
    | ⟨1, _⟩ => exact (win1_0.rect_emb_val ⟨n, h⟩ (ix2 r (zcol s j)) (1 : Fin 2)).trans (by rw [z1]; exact Nat.zero_add _)
  · funext s k j
    show W3 m ρ c (Proc.devRef .tc main_arg1) ((win1_1.rect ⟨n, h⟩).emb (ix3 s k j)) = _
    rw [W3_args m ρ c main_arg1 (by decide)]
    refine congrArg _ (funext fun a => Fin.ext ?_)
    match a with
    | ⟨0, _⟩ => exact (win1_1.rect_emb_val ⟨n, h⟩ (ix3 s k j) (0 : Fin 3)).trans (by rw [w0]; exact Nat.zero_add _)
    | ⟨1, _⟩ => exact (win1_1.rect_emb_val ⟨n, h⟩ (ix3 s k j) (1 : Fin 3)).trans (by rw [w1]; exact Nat.zero_add _)
    | ⟨2, _⟩ => exact (win1_1.rect_emb_val ⟨n, h⟩ (ix3 s k j) (2 : Fin 3)).trans (by rw [w2]; exact Nat.zero_add _)

/-- What the first grid leaves of the rows it covers. -/
theorem only_last0 (t t' : Fin cfg0.N) (ht : (cfg0.win 7).flush t = true) (ht' : (cfg0.win 7).flush t' = true) (hne : t ≠ t') :
    Disjoint ((cfg0.win 7).blk t).view.set ((cfg0.win 7).blk t').view.set := by
  have := N0_eq; have h1 := (flush0_7 t).mp ht; have h2 := (flush0_7 t').mp ht'; have := t.isLt; have := t'.isLt
  exact absurd (Fin.ext (by omega)) hne
theorem only_last1 (t t' : Fin cfg1.N) (ht : (cfg1.win 8).flush t = true) (ht' : (cfg1.win 8).flush t' = true) (hne : t ≠ t') :
    Disjoint ((cfg1.win 8).blk t).view.set ((cfg1.win 8).blk t').view.set := by
  have := N1_eq; have h1 := (flush1_8 t).mp ht; have h2 := (flush1_8 t').mp ht'; have := t.isLt; have := t'.isLt
  exact absurd (Fin.ext (by omega)) hne

theorem disjoint0 (t t' : Fin cfg0.N) (_ : (cfg0.win 6).flush t = true) (_ : (cfg0.win 6).flush t' = true) (hne : t ≠ t') :
    Disjoint ((cfg0.win 6).blk t).view.set ((cfg0.win 6).blk t').view.set :=
  (cfg0.win 6).disjoint_blk fun h => hne (Fin.ext (by
    have h : win0_6.index t (0 : Fin 2) = win0_6.index t' (0 : Fin 2) := congrFun h (0 : Fin 2)
    rwa [(index0 t).2.2.2.2.2.1.1, (index0 t').2.2.2.2.2.1.1] at h))
theorem disjoint1 (t t' : Fin cfg1.N) (_ : (cfg1.win 7).flush t = true) (_ : (cfg1.win 7).flush t' = true) (hne : t ≠ t') :
    Disjoint ((cfg1.win 7).blk t).view.set ((cfg1.win 7).blk t').view.set :=
  (cfg1.win 7).disjoint_blk fun h => hne (Fin.ext (by
    have h : win1_7.index t (0 : Fin 2) = win1_7.index t' (0 : Fin 2) := congrFun h (0 : Fin 2)
    rw [(index1 t).2.2.2.2.2.2.1.1, (index1 t').2.2.2.2.2.2.1.1] at h; omega))

theorem gx_arr0 (n : Nat) (h : n < cfg0.N) (r : Fin 256) (k : Fin 2048) :
    (dat0 (V1 m ρ) c).arrAt 6 cfg0.N (ix2 ⟨n * 256 + r.val, row_lt0 n h r⟩ k) = (rowOf m c ⟨n * 256 + r.val, row_lt0 n h r⟩).gx k := by
  have e := congrFun ((dat0 (V1 m ρ) c).read_blk_arrAt_eq_flushed 6 disjoint0 cfg0.N ⟨n, h⟩ h (flush0_6 _)) (ix2 r k)
  obtain ⟨-, -, -, -, -, ⟨a0, a1⟩, -⟩ := index0 ⟨n, h⟩
  have f : (dat0 (V1 m ρ) c).flushed 6 ⟨n, h⟩ (ix2 r k) = (outsAt0 (V1 m ρ) c n h).1 (ix2 r k) := by
    show (cfg0.win 6).cut (grid0.coords ⟨n, h⟩) ((dat0 (V1 m ρ) c).after 6 ⟨n, h⟩) (ix2 r k) = _
    rw [after0_6]
    rfl
  refine Eq.trans (congrArg _ (funext fun a => Fin.ext ?_)) (e.trans (f.trans ((congrFun (rows0 (V1 m ρ) c ⟨n, h⟩) _).trans (congrArg (fun q : Row => q.gx k) (tile0_row m ρ c n h r)))))
  match a with
  | ⟨0, _⟩ => exact ((win0_6.rect_emb_val ⟨n, h⟩ (ix2 r k) (0 : Fin 2)).trans (by rw [a0]; rfl)).symm
  | ⟨1, _⟩ => exact ((win0_6.rect_emb_val ⟨n, h⟩ (ix2 r k) (1 : Fin 2)).trans (by rw [a1]; exact Nat.zero_add _)).symm

theorem gx_arr1 (n : Nat) (h : n < cfg1.N) (r : Fin 256) (k : Fin 2048) :
    (dat1 (V3 m ρ) c).arrAt 7 cfg1.N (ix2 ⟨(n + 10) * 256 + r.val, row_lt1 n h r⟩ k) = (rowOf m c ⟨(n + 10) * 256 + r.val, row_lt1 n h r⟩).gx k := by
  have e := congrFun ((dat1 (V3 m ρ) c).read_blk_arrAt_eq_flushed 7 disjoint1 cfg1.N ⟨n, h⟩ h (flush1_7 _)) (ix2 r k)
  obtain ⟨-, -, -, -, -, -, ⟨a0, a1⟩, -⟩ := index1 ⟨n, h⟩
  have f : (dat1 (V3 m ρ) c).flushed 7 ⟨n, h⟩ (ix2 r k) = (outsAt1 (V3 m ρ) c n h).1 (ix2 r k) := by
    show (cfg1.win 7).cut (grid1.coords ⟨n, h⟩) ((dat1 (V3 m ρ) c).after 7 ⟨n, h⟩) (ix2 r k) = _
    rw [after1_7]
    rfl
  refine Eq.trans (congrArg _ (funext fun a => Fin.ext ?_)) (e.trans (f.trans ((congrFun (rows1 (V3 m ρ) c ⟨n, h⟩) _).trans (congrArg (fun q : Row => q.gx k) (tile1_row m ρ c n h r)))))
  match a with
  | ⟨0, _⟩ => exact ((win1_7.rect_emb_val ⟨n, h⟩ (ix2 r k) (0 : Fin 2)).trans (by rw [a0]; rfl)).symm
  | ⟨1, _⟩ => exact ((win1_7.rect_emb_val ⟨n, h⟩ (ix2 r k) (1 : Fin 2)).trans (by rw [a1]; exact Nat.zero_add _)).symm

/-- The second grid starts from the first grid's row results, copied, and its accumulator. -/
theorem W3_gx : W3 m ρ c (Proc.devRef .tc main_v2_0) = (dat0 (V1 m ρ) c).arrAt 6 cfg0.N := by
  refine Eq.trans ?_ (W2_arr m ρ c 6)
  show StableHlo.after hostOps1 (W2 m ρ c) (Proc.devRef .tc main_v2_0) = _
  after_results_simp
  rfl

theorem W3_gp : W3 m ρ c (Proc.devRef .tc main_v1_1) = (dat0 (V1 m ρ) c).arrAt 7 cfg0.N :=
  (W3_of m ρ c main_v1_1 (by decide)).trans (W2_arr m ρ c 7)

/-- The rows of the first grid are in no block the second writes. -/
theorem gx_kept (R : Fin 8192) (k : Fin 2048) (hR : R.val < 2560) :
    (dat1 (V3 m ρ) c).arrAt 7 cfg1.N (ix2 R k) = (dat0 (V1 m ρ) c).arrAt 6 cfg0.N (ix2 R k) := by
  rw [(dat1 (V3 m ρ) c).arrAt_apply_of_forall_not_mem 7 cfg1.N (ix2 R k) ?_, A_eq1]
  · exact congrFun (W3_gx m ρ c) (ix2 R k)
  · intro t _ _ hm
    have hm : ix2 R k ∈ ((View.whole main_v2_0).slice (win1_7.rect t)).set := hm
    obtain ⟨y, -, hy⟩ := Finset.mem_map.mp hm
    have e := congrArg Fin.val (congrFun hy (0 : Fin 2))
    have e' := win1_7.rect_emb_val t y (0 : Fin 2)
    rw [(index1 t).2.2.2.2.2.2.1.1] at e'
    have e'' : R.val = (t.val + 10) * 256 + (y (0 : Fin 2)).val := e.symm.trans e'
    omega

/-- The gradient at the row, all rows. -/
theorem gx_all (R : Fin 8192) (k : Fin 2048) : (dat1 (V3 m ρ) c).arrAt 7 cfg1.N (ix2 R k) = (rowOf m c R).gx k := by
  by_cases hR : R.val < 2560
  · rw [gx_kept m ρ c R k hR]
    have e : R = ⟨R.val / 256 * 256 + (⟨R.val % 256, Nat.mod_lt _ (by omega)⟩ : Fin 256).val, by show R.val / 256 * 256 + R.val % 256 < 8192; omega⟩ :=
      Fin.ext (by show R.val = R.val / 256 * 256 + R.val % 256; omega)
    rw [e]
    exact gx_arr0 m ρ c (R.val / 256) (by rw [N0_eq]; omega) ⟨R.val % 256, Nat.mod_lt _ (by omega)⟩ k
  · have e : R = ⟨(R.val / 256 - 10 + 10) * 256 + (⟨R.val % 256, Nat.mod_lt _ (by omega)⟩ : Fin 256).val, by show (R.val / 256 - 10 + 10) * 256 + R.val % 256 < 8192; omega⟩ :=
      Fin.ext (by show R.val = (R.val / 256 - 10 + 10) * 256 + R.val % 256; omega)
    rw [e]
    exact gx_arr1 m ρ c (R.val / 256 - 10) (by rw [N1_eq]; omega) ⟨R.val % 256, Nat.mod_lt _ (by omega)⟩ k

/-- The accumulator after the first grid, and what the second starts from. -/
theorem gp_arr0 (q : Fin 8) (k : Fin 2048) (n : Nat) (h : n < cfg0.N) (hn : n % 10 = 9) :
    (dat0 (V1 m ρ) c).arrAt 7 cfg0.N (ix2 q k) = (outsAt0 (V1 m ρ) c n h).2 (ix2 q k) := by
  have e := congrFun ((dat0 (V1 m ρ) c).read_blk_arrAt_eq_flushed 7 only_last0 cfg0.N ⟨n, h⟩ h ((flush0_7 _).mpr hn)) (ix2 q k)
  obtain ⟨-, -, -, -, -, -, ⟨a0, a1⟩⟩ := index0 ⟨n, h⟩
  have f : (dat0 (V1 m ρ) c).flushed 7 ⟨n, h⟩ (ix2 q k) = (outsAt0 (V1 m ρ) c n h).2 (ix2 q k) := by
    show (cfg0.win 7).cut (grid0.coords ⟨n, h⟩) ((dat0 (V1 m ρ) c).after 7 ⟨n, h⟩) (ix2 q k) = _
    rw [after0_7]
    rfl
  refine Eq.trans (congrArg _ (funext fun a => Fin.ext ?_)) (e.trans f)
  match a with
  | ⟨0, _⟩ => exact ((win0_7.rect_emb_val ⟨n, h⟩ (ix2 q k) (0 : Fin 2)).trans (by rw [a0]; exact Nat.zero_add _)).symm
  | ⟨1, _⟩ => exact ((win0_7.rect_emb_val ⟨n, h⟩ (ix2 q k) (1 : Fin 2)).trans (by rw [a1]; exact Nat.zero_add _)).symm

theorem start_eq (h : 0 < cfg1.N) (q : Fin 8) (k : Fin 2048) :
    start (V3 m ρ) c h (ix2 q k) = (dat0 (V1 m ρ) c).arrAt 7 cfg0.N (ix2 q k) := by
  obtain ⟨-, -, -, -, -, ⟨a0, a1⟩, -⟩ := index1 ⟨0, h⟩
  show W3 m ρ c (Proc.devRef .tc main_v1_1) ((win1_6.rect ⟨0, h⟩).emb (ix2 q k)) = _
  rw [W3_gp]
  refine congrArg _ (funext fun a => Fin.ext ?_)
  match a with
  | ⟨0, _⟩ => exact (win1_6.rect_emb_val ⟨0, h⟩ (ix2 q k) (0 : Fin 2)).trans (by rw [a0]; exact Nat.zero_add _)
  | ⟨1, _⟩ => exact (win1_6.rect_emb_val ⟨0, h⟩ (ix2 q k) (1 : Fin 2)).trans (by rw [a1]; exact Nat.zero_add _)

theorem gp_arr1 (q : Fin 8) (k : Fin 2048) (n : Nat) (h : n < cfg1.N) (hn : n % 22 = 21) :
    (dat1 (V3 m ρ) c).arrAt 8 cfg1.N (ix2 q k) = (outsAt1 (V3 m ρ) c n h).2 (ix2 q k) := by
  have e := congrFun ((dat1 (V3 m ρ) c).read_blk_arrAt_eq_flushed 8 only_last1 cfg1.N ⟨n, h⟩ h ((flush1_8 _).mpr hn)) (ix2 q k)
  obtain ⟨-, -, -, -, -, -, -, ⟨a0, a1⟩⟩ := index1 ⟨n, h⟩
  have f : (dat1 (V3 m ρ) c).flushed 8 ⟨n, h⟩ (ix2 q k) = (outsAt1 (V3 m ρ) c n h).2 (ix2 q k) := by
    show (cfg1.win 8).cut (grid1.coords ⟨n, h⟩) ((dat1 (V3 m ρ) c).after 8 ⟨n, h⟩) (ix2 q k) = _
    rw [after1_8]
    rfl
  refine Eq.trans (congrArg _ (funext fun a => Fin.ext ?_)) (e.trans f)
  match a with
  | ⟨0, _⟩ => exact ((win1_8.rect_emb_val ⟨n, h⟩ (ix2 q k) (0 : Fin 2)).trans (by rw [a0]; exact Nat.zero_add _)).symm
  | ⟨1, _⟩ => exact ((win1_8.rect_emb_val ⟨n, h⟩ (ix2 q k) (1 : Fin 2)).trans (by rw [a1]; exact Nat.zero_add _)).symm

/-- The terms of a point, from the rows of the arrays. -/
def grp (T : Fin 32) (q : Fin 8) (k : Fin 2048) : EReal := ∑ x : Fin 32, (rowOf m c ⟨T.val * 256 + (x.val * 8 + q.val), by omega⟩).gp k

theorem term0 (n : Nat) (h : n < cfg0.N) (q : Fin 8) (k : Fin 2048) :
    term (tile0 (V1 m ρ) c ⟨n, h⟩) q k = grp m c ⟨n, by have := N0_eq; omega⟩ q k := by
  unfold term grp; rw [part_eq]; simp only [tile0_row]
theorem term1 (n : Nat) (h : n < cfg1.N) (q : Fin 8) (k : Fin 2048) :
    term (tile1 (V3 m ρ) c ⟨n, h⟩) q k = grp m c ⟨n + 10, by have := N1_eq; omega⟩ q k := by
  unfold term grp; rw [part_eq]; simp only [tile1_row]

theorem last0_lt : 9 < cfg0.N := by rw [N0_eq]; decide
theorem last1_lt : 21 < cfg1.N := by rw [N1_eq]; decide

theorem gp_first (q : Fin 8) (k : Fin 2048) (n : Nat) (h : n < cfg0.N) (hn : n = 9) :
    (dat0 (V1 m ρ) c).arrAt 7 cfg0.N (ix2 q k) = ∑ t : Fin (n + 1), grp m c ⟨t.val, by omega⟩ q k := by
  rw [gp_arr0 m ρ c q k n h (by omega)]
  refine (acc0 (V1 m ρ) c (ix2 q k) n h).trans (Finset.sum_congr rfl fun t _ => ?_)
  exact term0 m ρ c t.val _ q k

theorem gp_second (r : Fin 8) (k : Fin 2048) (n : Nat) (h : n + 1 < cfg1.N) (hn : n = 20) :
    (dat1 (V3 m ρ) c).arrAt 8 cfg1.N (ix2 r k)
      = ∑ q : Fin 8, ((∑ t : Fin 10, grp m c ⟨t.val, by omega⟩ q k) + ∑ t : Fin (n + 2), grp m c ⟨t.val + 10, by omega⟩ q k) := by
  rw [gp_arr1 m ρ c r k (n + 1) h (by omega)]
  refine (acc1 (V3 m ρ) c (ix2 r k) n h hn).trans (Finset.sum_congr rfl fun q _ => ?_)
  refine congrArg₂ (· + ·) ((start_eq m ρ c _ q k).trans (gp_first m ρ c q k 9 last0_lt rfl)) (Finset.sum_congr rfl fun t _ => ?_)
  exact term1 m ρ c t.val _ q k

/-- The gain's gradient, summed over all rows. -/
theorem gp_all (r : Fin 8) (k : Fin 2048) : (dat1 (V3 m ρ) c).arrAt 8 cfg1.N (ix2 r k) = ∑ R : Fin 8192, (rowOf m c R).gp k := by
  rw [gp_second m ρ c r k 20 last1_lt rfl, Cert.Head.sum_rows]
  have e : ∀ q : Fin 8, (∑ t : Fin 10, grp m c ⟨t.val, by omega⟩ q k) + (∑ t : Fin 22, grp m c ⟨t.val + 10, by omega⟩ q k) = ∑ T : Fin 32, grp m c T q k := by
    intro q
    refine Eq.trans ?_ (Fin.sum_univ_add (a := 10) (b := 22) (fun T : Fin 32 => grp m c T q k)).symm
    refine congrArg₂ (· + ·) (Finset.sum_congr rfl fun x _ => rfl) (Finset.sum_congr rfl fun x _ => ?_)
    exact congrArg (fun T => grp m c T q k) (Fin.ext (Nat.add_comm _ _))
  refine (Finset.sum_congr rfl fun q _ => e q).trans ?_
  rw [Finset.sum_comm]
  refine Finset.sum_congr (M := EReal) rfl fun t _ => ?_
  rw [Cert.Head.sum_groups, Finset.sum_comm]
  rfl

end Cert.Kernel5Ideal.In

end
-- ==== Proof.InSpec.lean ====
/- The reference of the input projection's backward call, in named stages, and each stage read at an index; its
   gradient at the row is brought to the kernel's form. -/
module

public import proofs.«01_k».proof.Proof.Gen.Reference5Ideal.Run
public import Idealize.ShloMosaic.Lib.Pointwise
public import proofs.«01_k».proof.Proof.InRow

@[expose] public section

set_option maxRecDepth 16384

noncomputable section

namespace Cert.Reference5Ideal.In

open Cert.Reference5Ideal Cert.Reference5Ideal.Gen Cert.Reference5Ideal.Value Idealize.ShloMosaic Idealize.ShloMosaic.TcCoe Cert.In Cert.Norm

/-- The arguments: the gradient at the projection's output, the weights, the residual stream, the gradient that goes round the
    norm, the norm's gain. -/
structure Args where
  dz : FVec Ideal S8192x5120 .bf16
  w : FVec Ideal S4x2048x1280 .bf16
  x : FVec Ideal S8192x2048 .f32
  up : FVec Ideal S8192x2048 .f32
  gain : FVec Ideal S1x2048 .f32

variable (a : Args)

/-- The weights of all devices side by side, and the gradient at the norm's output. -/
def wV : FVec Ideal S2048x5120 .f32 :=
  extf .f32 (shapeCast _ (transpose S2048x4x1280 [1, 0, 2] a.w transposes_S4x2048x1280_S2048x4x1280_1_0_2) shapeCasts_S2048x4x1280_S2048x5120) bitsLt_bf16_f32
def dnV : FVec Ideal S8192x2048 .f32 :=
  Host.dotGeneral dot_S8192x5120_S2048x5120_S8192x2048_1_1_0_0_n_n none (extf .f32 a.dz bitsLt_bf16_f32) (wV a)

/-- The mean square the norm divides by, its reciprocal root, the normalised row. -/
def msV : FVec Ideal S8192x1 .f32 :=
  addf (Host.divf (broadcastInDim S8192x1 ![0] bcast_S8192_S8192x1_0 (Host.reduceAdd (mulf a.x a.x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
def rV : FVec Ideal S8192x1 .f32 := Host.rsqrt (msV a)
def xnV : FVec Ideal S8192x2048 .f32 := mulf a.x (broadcastInDim S8192x2048 ![0, 1] bcast_S8192x1_S8192x2048_0_1 (rV a))

/-- The gain, along the rows; the gradient at the normalised row. -/
def gainV : FVec Ideal S8192x2048 .f32 :=
  broadcastInDim S8192x2048 ![0, 1] bcast_S1x2048_S8192x2048_0_1 (broadcastInDim S1x2048 ![1] bcast_S2048_S1x2048_1 (shapeCast _ a.gain shapeCasts_S1x2048_S2048))
def dxV : FVec Ideal S8192x2048 .f32 := mulf (dnV a) (gainV a)

/-- Back through the norm. -/
def qV : FVec Ideal S8192x2048 .f32 :=
  broadcastInDim S8192x2048 ![0] bcast_S8192_S8192x2048_0 (Host.reduceAdd (Host.divf (mulf (shapeCast _ (Host.reduceAdd (mulf a.x (dxV a)) (constant S_ .f32 0x00000000#32) reducesTo_S8192x2048_S8192_d1 h_S_) shapeCasts_S8192_S8192x1) (mulf (broadcastInDim S8192x1 ![] bcast_S_S8192x1 (constant S_ .f32 0xBF000000#32)) (Host.divf (rV a) (msV a)))) (broadcastInDim S8192x1 ![] bcast_S_S8192x1 (constant S_ .f32 0x45000000#32))) (constant S_ .f32 0x00000000#32) reducesTo_S8192x1_S8192_d1 h_S_)
def gxV : FVec Ideal S8192x2048 .f32 :=
  addf a.up (addf (addf (mulf (dxV a) (broadcastInDim S8192x2048 ![0, 1] bcast_S8192x1_S8192x2048_0_1 (rV a))) (mulf a.x (qV a))) (mulf (qV a) a.x))
def gpV : FVec Ideal S8x2048 .f32 :=
  broadcastInDim S8x2048 ![0, 1] bcast_S1x2048_S8x2048_0_1 (broadcastInDim S1x2048 ![1] bcast_S2048_S1x2048_1 (Host.reduceAdd (shapeCast _ (Host.reduceAdd (mulf (xnV a) (dnV a)) (constant S_ .f32 0x00000000#32) reducesTo_S8192x2048_S2048_d0 h_S_) shapeCasts_S2048_S1x2048) (constant S_ .f32 0x00000000#32) reducesTo_S1x2048_S2048_d0 h_S_))

/-- The arguments a memory holds. -/
def argsOf (m : (ℓ : Loc nD τ sig) → Buf (Elt Ideal) ℓ) (c : Dev nD) : Args where
  dz := m ((c.tc : Thread nD τ).loc main_arg0)
  w := m ((c.tc : Thread nD τ).loc main_arg1)
  x := m ((c.tc : Thread nD τ).loc main_arg2)
  up := m ((c.tc : Thread nD τ).loc main_arg3)
  gain := m ((c.tc : Thread nD τ).loc main_arg4)

theorem res_gx (m : (ℓ : Loc nD τ sig) → Buf (Elt Ideal) ℓ) (c : Dev nD) : res_out0 m c = gxV (argsOf m c) := rfl

/-- One row of the arguments. -/
def Args.row (R : Fin 8192) : Row where
  x k := a.x (ix2 R k)
  up k := a.up (ix2 R k)
  gain k := a.gain (ix2 0 k)
  dz s j := a.dz (ix2 R ⟨1280 * s.val + j.val, by omega⟩)
  w s k j := a.w (ix3 s k j)

variable (R : Fin 8192) (k : Fin 2048)

theorem w_at (s : Fin 4) (j : Fin 1280) : wV a (ix2 k ⟨s.val * 1280 + j.val, by omega⟩) = a.w (ix3 s k j) := by
  unfold wV; pointwise
theorem dn_at : dnV a (ix2 R k) = (a.row R).dn k := by
  unfold dnV; pointwise
  refine (Fin.sum_univ_tiles (M := EReal) 4 1280 rfl _).trans (Finset.sum_congr (M := EReal) rfl fun s _ => Finset.sum_congr (M := EReal) rfl fun j _ => ?_)
  refine congrArg₂ (fun u v : EReal => u * v) (congrArg (fun l => a.dz (ix2 R l)) (Fin.ext ?_)) (w_at a k s j)
  show s.val * 1280 + j.val = 1280 * s.val + j.val
  omega
theorem ms_at : msV a (ix2 R 0) = ms (a.row R).x := by unfold msV; pointwise; rfl
theorem r_at : rV a (ix2 R 0) = (a.row R).r := by unfold rV; pointwise; rw [ms_at]; rfl
theorem xn_at : xnV a (ix2 R k) = (a.row R).xn k := by unfold xnV; pointwise; rw [r_at]; rfl
theorem dx_at : dxV a (ix2 R k) = (a.row R).dx k := by unfold dxV gainV; pointwise; rw [dn_at]; rfl
theorem q_at : qV a (ix2 R k) = q (a.row R).x (a.row R).dx := by
  unfold qV; pointwise; simp only [dx_at]
  refine (Fin.sum_univ_one (M := EReal) _).trans ?_
  rw [r_at, ms_at]; rfl

/-- The gradient at the row, in the reference's form. -/
theorem gxRef_at : gxV a (ix2 R k) = (a.row R).up k
    + ((a.row R).dx k * (a.row R).r + (a.row R).x k * q (a.row R).x (a.row R).dx + q (a.row R).x (a.row R).dx * (a.row R).x k) := by
  unfold gxV; pointwise; rw [dx_at, r_at, q_at]; rfl

/-- The two forms agree. -/
theorem gx_at : gxV a (ix2 R k) = (a.row R).gx k :=
  (gxRef_at a R k).trans (congrArg ((a.row R).up k + ·) (back (a.row R).x (a.row R).dx k))

theorem gp_at (r : Fin 8) : gpV a (ix2 r k) = ∑ R : Fin 8192, (a.row R).gp k := by
  unfold gpV; pointwise; simp only [dn_at, xn_at]
  refine (Fin.sum_univ_one (M := EReal) _).trans ?_
  exact Finset.sum_congr (M := EReal) rfl fun R _ => @mul_comm EReal _ _ _

end Cert.Reference5Ideal.In

end
-- ==== Proof.InTie.lean ====
/- The input projection's backward call: what the kernel leaves is what the reference computes. -/
module

public import proofs.«01_k».proof.Defs
public import proofs.«01_k».proof.Proof.InEnd
public import proofs.«01_k».proof.Proof.InBlocks
public import proofs.«01_k».proof.Proof.InSpec

@[expose] public section

set_option maxRecDepth 16384

noncomputable section

namespace Cert.Proof

open Idealize.ShloMosaic Idealize.SL.Sem Cert.In

/-- Two matrices that agree at each row and column are the same at an index. -/
theorem same2 {a b : Nat} {f g : (⟨2, ![a, b]⟩ : Shape).Idx → EReal} (h : ∀ (r : Fin a) (k : Fin b), f (ix2 r k) = g (ix2 r k)) (i) : f i = g i := by
  have e : i = ix2 (i 0) (i 1) := funext fun x => match x with | ⟨0, _⟩ => rfl | ⟨1, _⟩ => rfl
  rw [e]; exact h _ _

set_option maxHeartbeats 2000000 in
theorem inproj : algebraic_Kernel5Ideal_Reference5Ideal := by
  intro m ρ m' ρ' _ hagree
  refine ⟨fun c => (Cert.Kernel5Ideal.Gen.dat1 (Cert.Kernel5Ideal.Gen.V3 m ρ) c).arrAt 7 Cert.Kernel5Ideal.cfg1.N, fun c => (Cert.Kernel5Ideal.Gen.dat1 (Cert.Kernel5Ideal.Gen.V3 m ρ) c).arrAt 8 Cert.Kernel5Ideal.cfg1.N,
    (θ_run Cert.Kernel5Ideal.defs _ _).mono (fun r h c => ?_) (Cert.Kernel5Ideal.In.run (F := Ideal) m ρ), ?_⟩
  · obtain ⟨h0, h1, hk⟩ := h.1 c
    exact ⟨h0, h1, hk⟩
  refine (θ_run Cert.Reference5Ideal.defs _ _).mono (fun r h c => ?_) (Cert.Reference5Ideal.Value.run (F := Ideal) m' ρ')
  obtain ⟨a0, a1, a2, a3, a4⟩ := hagree c
  have hrow : ∀ R, (Cert.Reference5Ideal.In.argsOf m' c).row R = Cert.Kernel5Ideal.In.rowOf m c R := by
    intro R
    unfold Cert.Reference5Ideal.In.Args.row Cert.Reference5Ideal.In.argsOf Cert.Kernel5Ideal.In.rowOf
    simp only [a0, a1, a2, a3, a4]
    rfl
  obtain ⟨h0, h1, hk⟩ := h c
  refine ⟨h0.trans (funext fun i => ?_), h1.trans (funext fun i => ?_), hk⟩
  · refine same2 (f := Cert.Reference5Ideal.In.gxV (Cert.Reference5Ideal.In.argsOf m' c)) (fun R k => ?_) i
    refine (Cert.Reference5Ideal.In.gx_at _ R k).trans (Eq.trans ?_ (Cert.Kernel5Ideal.In.gx_all m ρ c R k).symm)
    rw [hrow]
  · refine same2 (f := Cert.Reference5Ideal.In.gpV (Cert.Reference5Ideal.In.argsOf m' c)) (fun q k => ?_) i
    refine (Cert.Reference5Ideal.In.gp_at _ k q).trans (Eq.trans ?_ (Cert.Kernel5Ideal.In.gp_all m ρ c q k).symm)
    simp only [hrow]

end Cert.Proof

end
-- ==== Proof.Adam.lean ====
/- One AdamW step on one number: the new moments and the change of the weight. The constants are the f32 numbers that both programs carry. -/
module

public import Idealize.ShloMosaic.Lib.Pointwise

@[expose] public section

noncomputable section

namespace Cert.Adam

open Idealize.ShloMosaic

/-- A constant of the step. -/
abbrev const (b : BitVec 32) : Ideal .f32 := Scalar.ofBits .f32 b

/-- The new first moment. -/
def first (g m : Ideal .f32) : Ideal .f32 := (const 0x3F666666#32 * m : EReal) + (const 0x3DCCCCCD#32 * g : EReal)

/-- The new second moment. -/
def second (g v : Ideal .f32) : Ideal .f32 := (const 0x3F7FBE77#32 * v : EReal) + (const 0x3A83126F#32 * (g * g : EReal) : EReal)

/-- The change of the weight. -/
def change (w g m v : Ideal .f32) : Ideal .f32 :=
  (const 0xBA83126F#32 * (Ideal.div (Ideal.div (first g m) (const 0x3F26BD02#32))
    (Ideal.sqrt (Ideal.div (second g v) (const 0x3C231ACC#32)) + const 0x322BCC77#32 : EReal) + (const 0x3C23D70A#32 * w : EReal) : EReal) : EReal)

/-- Blocks of `b` whole rows take in every element of the array. -/
theorem rows_cover {N b n k : Nat} (hn : n = N * b) (place : Fin N → Shape.Idx ⟨2, ![b, k]⟩ → Shape.Idx ⟨2, ![n, k]⟩)
    (h : ∀ t x, ((place t x 0 : Fin n) : Nat) = t.val * b + (x 0 : Fin b).val ∧ ((place t x 1 : Fin k) : Nat) = (x 1 : Fin k).val)
    (y : Shape.Idx ⟨2, ![n, k]⟩) : ∃ t x, place t x = y := by
  obtain ⟨r, hr⟩ : ∃ r : Fin n, r = y 0 := ⟨y 0, rfl⟩
  have hlt : r.val < N * b := hn ▸ r.isLt
  have hb : 0 < b := Nat.pos_of_ne_zero fun h => by simp [h] at hlt
  obtain ⟨e0, e1⟩ := h ⟨r.val / b, Nat.div_lt_of_lt_mul (Nat.mul_comm N b ▸ hlt)⟩ (ix2 ⟨r.val % b, Nat.mod_lt _ hb⟩ (y 1))
  refine ⟨⟨r.val / b, Nat.div_lt_of_lt_mul (Nat.mul_comm N b ▸ hlt)⟩, ix2 ⟨r.val % b, Nat.mod_lt _ hb⟩ (y 1), funext fun a => Fin.ext ?_⟩
  match a with
  | ⟨0, _⟩ => exact (e0.trans (Nat.div_add_mod' r.val b)).trans (congrArg Fin.val hr)
  | ⟨1, _⟩ => exact e1

section
variable {T X Y : Type} {place : T → X → Y} (cover : ∀ y, ∃ t x, place t x = y)
  {A5 A6 A7 A8 W G M V : Y → Ideal .f32} {w g m v : T → X → Ideal .f32}
  (operands : ∀ t x, w t x = W (place t x) ∧ g t x = G (place t x) ∧ m t x = M (place t x) ∧ v t x = V (place t x))
  (results : ∀ t x, A5 (place t x) = g t x ∧ A6 (place t x) = change (w t x) (g t x) (m t x) (v t x)
    ∧ A7 (place t x) = first (g t x) (m t x) ∧ A8 (place t x) = second (g t x) (v t x))
include cover operands results

/-- If every block of the four results is the step of the same blocks of the operands, the results are the step of the operands. -/
theorem whole_step : A5 = G ∧ A6 = (fun y => change (W y) (G y) (M y) (V y)) ∧ A7 = (fun y => first (G y) (M y))
    ∧ A8 = fun y => second (G y) (V y) := by
  have key : ∀ y, A5 y = G y ∧ A6 y = change (W y) (G y) (M y) (V y) ∧ A7 y = first (G y) (M y) ∧ A8 y = second (G y) (V y) := by
    intro y
    obtain ⟨t, x, rfl⟩ := cover y
    obtain ⟨a, b, c, d⟩ := operands t x
    rw [← a, ← b, ← c, ← d]
    exact results t x
  exact ⟨funext fun y => (key y).1, funext fun y => (key y).2.1, funext fun y => (key y).2.2.1, funext fun y => (key y).2.2.2⟩
end

end Cert.Adam

end
-- ==== Proof.AdamWIn.lean ====
/- The AdamW step of the input projection's weight: the arrays the kernel leaves are the reference's. -/
module

public import proofs.«01_k».proof.Defs
public import proofs.«01_k».proof.Proof.Adam
public import proofs.«01_k».proof.Proof.Gen.Kernel6Ideal.Value
public import proofs.«01_k».proof.Proof.Gen.Reference6Ideal.Run

@[expose] public section

noncomputable section

namespace Cert.Kernel6Ideal.Adam

open Cert.Kernel6Ideal Cert.Kernel6Ideal.Gen Cert.Kernel6Ideal.Value Idealize.ShloMosaic Idealize.ShloMosaic.TcCoe

variable (m : (ℓ : Loc nD τ sig) → Buf (Elt Ideal) ℓ) (c : Dev nD)

/-- Where an element of block `t` lies in the arrays; all eight windows take the same blocks. -/
abbrev place (t : Fin 4) (x : S512x1280.Idx) : S2048x1280.Idx := (win0_0.rect t).emb x

theorem index_rows : ∀ t : Fin 4, win0_0.index t (0 : Fin 2) = t.val ∧ win0_0.index t (1 : Fin 2) = 0 := by decide +kernel

theorem cover (y : S2048x1280.Idx) : ∃ t x, place t x = y :=
  Cert.Adam.rows_cover rfl place (fun t x =>
    ⟨(win0_0.rect_emb_val t x (0 : Fin 2)).trans (by rw [(index_rows t).1]; rfl),
     (win0_0.rect_emb_val t x (1 : Fin 2)).trans (by rw [(index_rows t).2]; exact Nat.zero_add _)⟩) y

/-- The blocks of the weight, the gradient and the two moments. -/
theorem operands (t : Fin 4) (x : S512x1280.Idx) :
    iblk m c 0 t x = m ((c : Thread nD τ).loc main_arg0) (place t x) ∧ iblk m c 1 t x = m ((c : Thread nD τ).loc main_arg1) (place t x)
    ∧ iblk m c 2 t x = m ((c : Thread nD τ).loc main_arg2) (place t x) ∧ iblk m c 3 t x = m ((c : Thread nD τ).loc main_arg3) (place t x) := by
  rw [← V_main_arg0 m c, ← V_main_arg1 m c, ← V_main_arg2 m c, ← V_main_arg3 m c]
  exact ⟨rfl, rfl, rfl, rfl⟩

theorem zeros : (![0, 0] : Fin 2 → Nat) = fun _ => 0 := by decide

/-- A load of a whole block. -/
theorem whole (X : Vec Ideal S512x1280 .f32) : View.ld X r0_0 = X := View.ld_unit_zero zeros _ X

/-- The blocks of the four results. -/
theorem results (t : Fin 4) (x : S512x1280.Idx) :
    (dats m 0 c).arrAt 5 cfg0.N (place t x) = iblk m c 1 t x
    ∧ (dats m 0 c).arrAt 6 cfg0.N (place t x) = Cert.Adam.change (iblk m c 0 t x) (iblk m c 1 t x) (iblk m c 2 t x) (iblk m c 3 t x)
    ∧ (dats m 0 c).arrAt 7 cfg0.N (place t x) = Cert.Adam.first (iblk m c 1 t x) (iblk m c 2 t x)
    ∧ (dats m 0 c).arrAt 8 cfg0.N (place t x) = Cert.Adam.second (iblk m c 1 t x) (iblk m c 3 t x) := by
  have e5 := congrFun ((blocks5 m c t (flush0_5 t)).trans (flushed5 m c t)) x
  have e6 := congrFun ((blocks6 m c t (flush0_6 t)).trans (flushed6 m c t)) x
  have e7 := congrFun ((blocks7 m c t (flush0_7 t)).trans (flushed7 m c t)) x
  have e8 := congrFun ((blocks8 m c t (flush0_8 t)).trans (flushed8 m c t)) x
  unfold out0_5 at e5; unfold out0_6 at e6; unfold out0_7 at e7; unfold out0_8 at e8
  rw [View.canon_unit_zero zeros] at e5 e6 e7 e8
  simp only [whole] at e5 e6 e7 e8
  exact ⟨e5, e6, e7, e8⟩

end Cert.Kernel6Ideal.Adam

namespace Cert.Proof

open Idealize.ShloMosaic Idealize.SL.Sem

theorem adam_w_in : algebraic_Kernel6Ideal_Reference6Ideal := by
  intro m ρ m' ρ' _ hagree
  refine ⟨_, _, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨hg, hd, hm, hv, hargs⟩ := h c
  obtain ⟨a0, a1, a2, a3⟩ := hagree c
  obtain ⟨s5, s6, s7, s8⟩ :=
    Cert.Adam.whole_step Cert.Kernel6Ideal.Adam.cover (Cert.Kernel6Ideal.Adam.operands m c) (Cert.Kernel6Ideal.Adam.results m c)
  exact ⟨(hg.trans a1).trans s5.symm, (hd.trans (by rw [a0, a1, a2, a3]; rfl)).trans s6.symm,
    (hm.trans (by rw [a1, a2]; rfl)).trans s7.symm, (hv.trans (by rw [a1, a3]; rfl)).trans s8.symm, hargs⟩

end Cert.Proof

end
-- ==== Proof.AdamWOut.lean ====
/- The AdamW step of the output projection's (and the gate projection's) weight: the arrays the kernel leaves are the reference's. -/
module

public import proofs.«01_k».proof.Defs
public import proofs.«01_k».proof.Proof.Adam
public import proofs.«01_k».proof.Proof.Gen.Kernel7Ideal.Value
public import proofs.«01_k».proof.Proof.Gen.Reference7Ideal.Run

@[expose] public section

noncomputable section

namespace Cert.Kernel7Ideal.Adam

open Cert.Kernel7Ideal Cert.Kernel7Ideal.Gen Cert.Kernel7Ideal.Value Idealize.ShloMosaic Idealize.ShloMosaic.TcCoe

variable (m : (ℓ : Loc nD τ sig) → Buf (Elt Ideal) ℓ) (c : Dev nD)

/-- Where an element of block `t` lies in the arrays; all eight windows take the same blocks. -/
abbrev place (t : Fin 2) (x : S256x2048.Idx) : S512x2048.Idx := (win0_0.rect t).emb x

theorem index_rows : ∀ t : Fin 2, win0_0.index t (0 : Fin 2) = t.val ∧ win0_0.index t (1 : Fin 2) = 0 := by decide +kernel

theorem cover (y : S512x2048.Idx) : ∃ t x, place t x = y :=
  Cert.Adam.rows_cover rfl place (fun t x =>
    ⟨(win0_0.rect_emb_val t x (0 : Fin 2)).trans (by rw [(index_rows t).1]; rfl),
     (win0_0.rect_emb_val t x (1 : Fin 2)).trans (by rw [(index_rows t).2]; exact Nat.zero_add _)⟩) y

/-- The blocks of the weight, the gradient and the two moments. -/
theorem operands (t : Fin 2) (x : S256x2048.Idx) :
    iblk m c 0 t x = m ((c : Thread nD τ).loc main_arg0) (place t x) ∧ iblk m c 1 t x = m ((c : Thread nD τ).loc main_arg1) (place t x)
    ∧ iblk m c 2 t x = m ((c : Thread nD τ).loc main_arg2) (place t x) ∧ iblk m c 3 t x = m ((c : Thread nD τ).loc main_arg3) (place t x) := by
  rw [← V_main_arg0 m c, ← V_main_arg1 m c, ← V_main_arg2 m c, ← V_main_arg3 m c]
  exact ⟨rfl, rfl, rfl, rfl⟩

theorem zeros : (![0, 0] : Fin 2 → Nat) = fun _ => 0 := by decide

/-- A load of a whole block. -/
theorem whole (X : Vec Ideal S256x2048 .f32) : View.ld X r0_0 = X := View.ld_unit_zero zeros _ X

/-- The blocks of the four results. -/
theorem results (t : Fin 2) (x : S256x2048.Idx) :
    (dats m 0 c).arrAt 5 cfg0.N (place t x) = iblk m c 1 t x
    ∧ (dats m 0 c).arrAt 6 cfg0.N (place t x) = Cert.Adam.change (iblk m c 0 t x) (iblk m c 1 t x) (iblk m c 2 t x) (iblk m c 3 t x)
    ∧ (dats m 0 c).arrAt 7 cfg0.N (place t x) = Cert.Adam.first (iblk m c 1 t x) (iblk m c 2 t x)
    ∧ (dats m 0 c).arrAt 8 cfg0.N (place t x) = Cert.Adam.second (iblk m c 1 t x) (iblk m c 3 t x) := by
  have e5 := congrFun ((blocks5 m c t (flush0_5 t)).trans (flushed5 m c t)) x
  have e6 := congrFun ((blocks6 m c t (flush0_6 t)).trans (flushed6 m c t)) x
  have e7 := congrFun ((blocks7 m c t (flush0_7 t)).trans (flushed7 m c t)) x
  have e8 := congrFun ((blocks8 m c t (flush0_8 t)).trans (flushed8 m c t)) x
  unfold out0_5 at e5; unfold out0_6 at e6; unfold out0_7 at e7; unfold out0_8 at e8
  rw [View.canon_unit_zero zeros] at e5 e6 e7 e8
  simp only [whole] at e5 e6 e7 e8
  exact ⟨e5, e6, e7, e8⟩

end Cert.Kernel7Ideal.Adam

namespace Cert.Proof

open Idealize.ShloMosaic Idealize.SL.Sem

theorem adam_w_out : algebraic_Kernel7Ideal_Reference7Ideal := by
  intro m ρ m' ρ' _ hagree
  refine ⟨_, _, _, _, Cert.Kernel7Ideal.Value.run_blocks (F := Ideal) m ρ, ?_⟩
  refine (θ_run Cert.Reference7Ideal.defs _ _).mono (fun _ h c => ?_) (Cert.Reference7Ideal.Value.run (F := Ideal) m' ρ')
  obtain ⟨hg, hd, hm, hv, hargs⟩ := h c
  obtain ⟨a0, a1, a2, a3⟩ := hagree c
  obtain ⟨s5, s6, s7, s8⟩ :=
    Cert.Adam.whole_step Cert.Kernel7Ideal.Adam.cover (Cert.Kernel7Ideal.Adam.operands m c) (Cert.Kernel7Ideal.Adam.results m c)
  exact ⟨(hg.trans a1).trans s5.symm, (hd.trans (by rw [a0, a1, a2, a3]; rfl)).trans s6.symm,
    (hm.trans (by rw [a1, a2]; rfl)).trans s7.symm, (hv.trans (by rw [a1, a3]; rfl)).trans s8.symm, hargs⟩

end Cert.Proof

end
-- ==== Proof.AdamWPe.lean ====
/- The AdamW step of the weight on the per-layer input: the arrays the kernel leaves are the reference's. -/
module

public import proofs.«01_k».proof.Defs
public import proofs.«01_k».proof.Proof.Adam
public import proofs.«01_k».proof.Proof.Gen.Kernel8Ideal.Value
public import proofs.«01_k».proof.Proof.Gen.Reference8Ideal.Run

@[expose] public section

noncomputable section

namespace Cert.Kernel8Ideal.Adam

open Cert.Kernel8Ideal Cert.Kernel8Ideal.Gen Cert.Kernel8Ideal.Value Idealize.ShloMosaic Idealize.ShloMosaic.TcCoe

variable (m : (ℓ : Loc nD τ sig) → Buf (Elt Ideal) ℓ) (c : Dev nD)

/-- Where an element of block `t` lies in the arrays; all eight windows take the same blocks. -/
abbrev place (t : Fin 1) (x : S256x512.Idx) : S256x512.Idx := (win0_0.rect t).emb x

theorem index_rows : ∀ t : Fin 1, win0_0.index t (0 : Fin 2) = t.val ∧ win0_0.index t (1 : Fin 2) = 0 := by decide +kernel

theorem cover (y : S256x512.Idx) : ∃ t x, place t x = y :=
  Cert.Adam.rows_cover rfl place (fun t x =>
    ⟨(win0_0.rect_emb_val t x (0 : Fin 2)).trans (by rw [(index_rows t).1]; rfl),
     (win0_0.rect_emb_val t x (1 : Fin 2)).trans (by rw [(index_rows t).2]; exact Nat.zero_add _)⟩) y

/-- The blocks of the weight, the gradient and the two moments. -/
theorem operands (t : Fin 1) (x : S256x512.Idx) :
    iblk m c 0 t x = m ((c : Thread nD τ).loc main_arg0) (place t x) ∧ iblk m c 1 t x = m ((c : Thread nD τ).loc main_arg1) (place t x)
    ∧ iblk m c 2 t x = m ((c : Thread nD τ).loc main_arg2) (place t x) ∧ iblk m c 3 t x = m ((c : Thread nD τ).loc main_arg3) (place t x) := by
  rw [← V_main_arg0 m c, ← V_main_arg1 m c, ← V_main_arg2 m c, ← V_main_arg3 m c]
  exact ⟨rfl, rfl, rfl, rfl⟩

theorem zeros : (![0, 0] : Fin 2 → Nat) = fun _ => 0 := by decide

/-- A load of a whole block. -/
theorem whole (X : Vec Ideal S256x512 .f32) : View.ld X r0_0 = X := View.ld_unit_zero zeros _ X

/-- The blocks of the four results. -/
theorem results (t : Fin 1) (x : S256x512.Idx) :
    (dats m 0 c).arrAt 5 cfg0.N (place t x) = iblk m c 1 t x
    ∧ (dats m 0 c).arrAt 6 cfg0.N (place t x) = Cert.Adam.change (iblk m c 0 t x) (iblk m c 1 t x) (iblk m c 2 t x) (iblk m c 3 t x)
    ∧ (dats m 0 c).arrAt 7 cfg0.N (place t x) = Cert.Adam.first (iblk m c 1 t x) (iblk m c 2 t x)
    ∧ (dats m 0 c).arrAt 8 cfg0.N (place t x) = Cert.Adam.second (iblk m c 1 t x) (iblk m c 3 t x) := by
  have e5 := congrFun ((blocks5 m c t (flush0_5 t)).trans (flushed5 m c t)) x
  have e6 := congrFun ((blocks6 m c t (flush0_6 t)).trans (flushed6 m c t)) x
  have e7 := congrFun ((blocks7 m c t (flush0_7 t)).trans (flushed7 m c t)) x
  have e8 := congrFun ((blocks8 m c t (flush0_8 t)).trans (flushed8 m c t)) x
  unfold out0_5 at e5; unfold out0_6 at e6; unfold out0_7 at e7; unfold out0_8 at e8
  rw [View.canon_unit_zero zeros] at e5 e6 e7 e8
  simp only [whole] at e5 e6 e7 e8
  exact ⟨e5, e6, e7, e8⟩

end Cert.Kernel8Ideal.Adam

namespace Cert.Proof

open Idealize.ShloMosaic Idealize.SL.Sem

theorem adam_w_pe : algebraic_Kernel8Ideal_Reference8Ideal := by
  intro m ρ m' ρ' _ hagree
  refine ⟨_, _, _, _, Cert.Kernel8Ideal.Value.run_blocks (F := Ideal) m ρ, ?_⟩
  refine (θ_run Cert.Reference8Ideal.defs _ _).mono (fun _ h c => ?_) (Cert.Reference8Ideal.Value.run (F := Ideal) m' ρ')
  obtain ⟨hg, hd, hm, hv, hargs⟩ := h c
  obtain ⟨a0, a1, a2, a3⟩ := hagree c
  obtain ⟨s5, s6, s7, s8⟩ :=
    Cert.Adam.whole_step Cert.Kernel8Ideal.Adam.cover (Cert.Kernel8Ideal.Adam.operands m c) (Cert.Kernel8Ideal.Adam.results m c)
  exact ⟨(hg.trans a1).trans s5.symm, (hd.trans (by rw [a0, a1, a2, a3]; rfl)).trans s6.symm,
    (hm.trans (by rw [a1, a2]; rfl)).trans s7.symm, (hv.trans (by rw [a1, a3]; rfl)).trans s8.symm, hargs⟩

end Cert.Proof

end
-- ==== Proof.AdamConv.lean ====
/- The AdamW step of the convolution's taps: the arrays the kernel leaves are the reference's. -/
module

public import proofs.«01_k».proof.Defs
public import proofs.«01_k».proof.Proof.Adam
public import proofs.«01_k».proof.Proof.Gen.Kernel9Ideal.Value
public import proofs.«01_k».proof.Proof.Gen.Reference9Ideal.Run

@[expose] public section

noncomputable section

namespace Cert.Kernel9Ideal.Adam

open Cert.Kernel9Ideal Cert.Kernel9Ideal.Gen Cert.Kernel9Ideal.Value Idealize.ShloMosaic Idealize.ShloMosaic.TcCoe

variable (m : (ℓ : Loc nD τ sig) → Buf (Elt Ideal) ℓ) (c : Dev nD)

/-- Where an element of block `t` lies in the arrays; all eight windows take the same blocks. -/
abbrev place (t : Fin 1) (x : S4x256.Idx) : S4x256.Idx := (win0_0.rect t).emb x

theorem index_rows : ∀ t : Fin 1, win0_0.index t (0 : Fin 2) = t.val ∧ win0_0.index t (1 : Fin 2) = 0 := by decide +kernel

theorem cover (y : S4x256.Idx) : ∃ t x, place t x = y :=
  Cert.Adam.rows_cover rfl place (fun t x =>
    ⟨(win0_0.rect_emb_val t x (0 : Fin 2)).trans (by rw [(index_rows t).1]; rfl),
     (win0_0.rect_emb_val t x (1 : Fin 2)).trans (by rw [(index_rows t).2]; exact Nat.zero_add _)⟩) y

/-- The blocks of the weight, the gradient and the two moments. -/
theorem operands (t : Fin 1) (x : S4x256.Idx) :
    iblk m c 0 t x = m ((c : Thread nD τ).loc main_arg0) (place t x) ∧ iblk m c 1 t x = m ((c : Thread nD τ).loc main_arg1) (place t x)
    ∧ iblk m c 2 t x = m ((c : Thread nD τ).loc main_arg2) (place t x) ∧ iblk m c 3 t x = m ((c : Thread nD τ).loc main_arg3) (place t x) := by
  rw [← V_main_arg0 m c, ← V_main_arg1 m c, ← V_main_arg2 m c, ← V_main_arg3 m c]
  exact ⟨rfl, rfl, rfl, rfl⟩

theorem zeros : (![0, 0] : Fin 2 → Nat) = fun _ => 0 := by decide

/-- A load of a whole block. -/
theorem whole (X : Vec Ideal S4x256 .f32) : View.ld X r0_0 = X := View.ld_unit_zero zeros _ X

/-- The blocks of the four results. -/
theorem results (t : Fin 1) (x : S4x256.Idx) :
    (dats m 0 c).arrAt 5 cfg0.N (place t x) = iblk m c 1 t x
    ∧ (dats m 0 c).arrAt 6 cfg0.N (place t x) = Cert.Adam.change (iblk m c 0 t x) (iblk m c 1 t x) (iblk m c 2 t x) (iblk m c 3 t x)
    ∧ (dats m 0 c).arrAt 7 cfg0.N (place t x) = Cert.Adam.first (iblk m c 1 t x) (iblk m c 2 t x)
    ∧ (dats m 0 c).arrAt 8 cfg0.N (place t x) = Cert.Adam.second (iblk m c 1 t x) (iblk m c 3 t x) := by
  have e5 := congrFun ((blocks5 m c t (flush0_5 t)).trans (flushed5 m c t)) x
  have e6 := congrFun ((blocks6 m c t (flush0_6 t)).trans (flushed6 m c t)) x
  have e7 := congrFun ((blocks7 m c t (flush0_7 t)).trans (flushed7 m c t)) x
  have e8 := congrFun ((blocks8 m c t (flush0_8 t)).trans (flushed8 m c t)) x
  unfold out0_5 at e5; unfold out0_6 at e6; unfold out0_7 at e7; unfold out0_8 at e8
  rw [View.canon_unit_zero zeros] at e5 e6 e7 e8
  simp only [whole] at e5 e6 e7 e8
  exact ⟨e5, e6, e7, e8⟩

end Cert.Kernel9Ideal.Adam

namespace Cert.Proof

open Idealize.ShloMosaic Idealize.SL.Sem

theorem adam_conv_w : algebraic_Kernel9Ideal_Reference9Ideal := by
  intro m ρ m' ρ' _ hagree
  refine ⟨_, _, _, _, Cert.Kernel9Ideal.Value.run_blocks (F := Ideal) m ρ, ?_⟩
  refine (θ_run Cert.Reference9Ideal.defs _ _).mono (fun _ h c => ?_) (Cert.Reference9Ideal.Value.run (F := Ideal) m' ρ')
  obtain ⟨hg, hd, hm, hv, hargs⟩ := h c
  obtain ⟨a0, a1, a2, a3⟩ := hagree c
  obtain ⟨s5, s6, s7, s8⟩ :=
    Cert.Adam.whole_step Cert.Kernel9Ideal.Adam.cover (Cert.Kernel9Ideal.Adam.operands m c) (Cert.Kernel9Ideal.Adam.results m c)
  exact ⟨(hg.trans a1).trans s5.symm, (hd.trans (by rw [a0, a1, a2, a3]; rfl)).trans s6.symm,
    (hm.trans (by rw [a1, a2]; rfl)).trans s7.symm, (hv.trans (by rw [a1, a3]; rfl)).trans s8.symm, hargs⟩

end Cert.Proof

end
-- ==== Proof.FwdIn.lean ====
/- The forward norm and the device's own columns of the input projection: what the kernel leaves is what the reference
   computes. The weights are read once, at the first point, and kept in a scratch array. -/
module

public import proofs.«01_k».proof.Defs
public import proofs.«01_k».proof.Proof.Gen.Kernel10Ideal.Value
public import proofs.«01_k».proof.Proof.Gen.Reference10Ideal.Run
public import proofs.«01_k».proof.Proof.NormBack

@[expose] public section

set_option maxRecDepth 16384

noncomputable section

namespace Cert.Fwd

open Idealize.ShloMosaic

/-- A row, normalised, times the gain; a column of its product with the weights. -/
def hn (x g : Fin 2048 → EReal) (k : Fin 2048) : EReal := x k * Ideal.rsqrt (Norm.ms x) * g k
def z (x g : Fin 2048 → EReal) (w : Fin 2048 → Fin 1280 → EReal) (j : Fin 1280) : EReal := ∑ k, hn x g k * w k j

end Cert.Fwd

namespace Cert.Kernel10Ideal.Fwd

open Cert.Kernel10Ideal Cert.Kernel10Ideal.Gen Cert.Kernel10Ideal.Value Idealize.ShloMosaic Idealize.ShloMosaic.TcCoe Idealize.ShloMosaic.Tactic Cert.Fwd

/-! ## The stored values, at an index -/

variable (x : Vec Ideal S256x2048 .f32) (g : Vec Ideal S1x2048 .f32) (w : Vec Ideal S2048x1280 .bf16) (r : Fin 256) (k : Fin 2048) (j : Fin 1280)

theorem hn_at : k0_pay2 (F := Ideal) x g (ix2 r k) = hn (fun k => x (ix2 r k)) (fun k => g (ix2 0 k)) k := by
  pointwise [k0_pay2]; rfl
theorem hn_store : k0_pay3 (F := Ideal) x g (ix2 r k) = hn (fun k => x (ix2 r k)) (fun k => g (ix2 0 k)) k := hn_at x g r k
theorem hnT_store : k0_pay4 (F := Ideal) x g (ix2 k r) = hn (fun k => x (ix2 r k)) (fun k => g (ix2 0 k)) k := by
  pointwise [k0_pay4]; exact hn_at x g r k
theorem z_store : k0_pay5 (F := Ideal) x g w (ix2 r j) = z (fun k => x (ix2 r k)) (fun k => g (ix2 0 k)) (fun k j => w (ix2 k j)) j := by
  pointwise [k0_pay5]; simp only [hn_store]; rfl

/-! ## What each point leaves -/

variable (m : (ℓ : Loc nD τ sig) → Buf (Elt Ideal) ℓ) (c : Dev nD)

theorem zeros : (![0, 0] : Fin 2 → Nat) = fun _ => 0 := by decide

/-- The weights, as the scratch array holds them. -/
abbrev kept : Vec Ideal S2048x1280 .bf16 := m ((c : Thread nD τ).loc main_arg2)

/-- What a point leaves: the three results' blocks and the scratch. -/
abbrev leaves (t : Fin cfg0.N) : Vec Ideal S256x2048 .bf16 × Vec Ideal S256x1280 .bf16 × Vec Ideal S2048x256 .bf16 × Vec Ideal S2048x1280 .bf16 :=
  (k0_pay3 (iblk m c 0 t) (iblk m c 1 t), k0_pay5 (iblk m c 0 t) (iblk m c 1 t) (kept m c), k0_pay4 (iblk m c 0 t) (iblk m c 1 t), kept m c)

theorem index_w : ∀ t : Fin cfg0.N, win0_2.index t (0 : Fin 2) = 0 ∧ win0_2.index t (1 : Fin 2) = 0 := (by decide +kernel : ∀ t : Fin grid0.N, _)
theorem index_g : ∀ t : Fin cfg0.N, win0_1.index t (0 : Fin 2) = 0 ∧ win0_1.index t (1 : Fin 2) = 0 := (by decide +kernel : ∀ t : Fin grid0.N, _)
theorem index_x : ∀ t : Fin cfg0.N, win0_0.index t (0 : Fin 2) = t.val ∧ win0_0.index t (1 : Fin 2) = 0 := (by decide +kernel : ∀ t : Fin grid0.N, _)

/-- The block of the weights is all of them. -/
theorem w_block (t : Fin cfg0.N) : k0_pay1 (F := Ideal) (iblk m c 2 t) = kept m c := by
  funext i
  idx_vars i
  pointwise [k0_pay1]
  show V m c main_arg2 ((win0_2.rect t).emb (ix2 i0 i1)) = _
  rw [V_main_arg2]
  refine congrArg _ (funext fun a => Fin.ext ?_)
  match a with
  | ⟨0, _⟩ => exact (win0_2.rect_emb_val t (ix2 i0 i1) (0 : Fin 2)).trans (by rw [(index_w t).1]; exact Nat.zero_add _)
  | ⟨1, _⟩ => exact (win0_2.rect_emb_val t (ix2 i0 i1) (1 : Fin 2)).trans (by rw [(index_w t).2]; exact Nat.zero_add _)

set_option maxHeartbeats 2000000 in
/-- The first point. -/
theorem leaves_first (t : Fin cfg0.N) (h0 : t.val % 32 = 0) : outsAt0 m c t.val t.isLt = leaves m c t := by
  rw [outsAt0_A m c t h0]
  refine Prod.ext ?_ (Prod.ext ?_ (Prod.ext ?_ ?_)) <;> dsimp only
  · unfold out0_A_4; rw [View.read_writes_eq_canon _ _ _ (cover0_A_4 c _ _ _ _ _ _ _ _ _ _ _ _ _ _ _ _ _ _ _ _ _ _)]; unfold kernelRun0_A; dsimp only; try sl_unfold_words
    simp only [View.readAt_eq_ld, (hs0_0 _).read_unread, (hs0_1 _).read_unread, (hs0_2 _).read_unread, View.ld_unit_zero (S := S256x2048) zeros, View.ld_unit_zero (S := S1x2048) zeros, View.ld_unit_zero (S := S2048x1280) zeros]
    exact View.canon_unit_zero zeros _ _
  · unfold out0_A_5; rw [View.read_writes_eq_canon _ _ _ (cover0_A_5 c _ _ _ _ _ _ _ _ _ _ _ _ _ _ _ _ _ _ _ _ _ _)]; unfold kernelRun0_A; dsimp only; try sl_unfold_words
    simp only [View.readAt_eq_ld, (hs0_0 _).read_unread, (hs0_1 _).read_unread, (hs0_2 _).read_unread, View.ld_unit_zero (S := S256x2048) zeros, View.ld_unit_zero (S := S1x2048) zeros, View.ld_unit_zero (S := S2048x1280) zeros]
    rw [View.canon_unit_zero zeros, View.readCov_unit_zero (S := S2048x1280) _ zeros, w_block]
  · unfold out0_A_6; rw [View.read_writes_eq_canon _ _ _ (cover0_A_6 c _ _ _ _ _ _ _ _ _ _ _ _ _ _ _ _ _ _ _ _ _ _)]; unfold kernelRun0_A; dsimp only; try sl_unfold_words
    simp only [View.readAt_eq_ld, (hs0_0 _).read_unread, (hs0_1 _).read_unread, (hs0_2 _).read_unread, View.ld_unit_zero (S := S256x2048) zeros, View.ld_unit_zero (S := S1x2048) zeros, View.ld_unit_zero (S := S2048x1280) zeros]
    exact View.canon_unit_zero zeros _ _
  · unfold sout0_A_0; rw [View.read_writes_eq_canon _ _ _ (scover0_A_0 c _ _ _ _ _ _ _ _ _ _ _ _ _ _ _ _ _ _ _ _ _ _)]; unfold kernelRun0_A; dsimp only; try sl_unfold_words
    simp only [View.readAt_eq_ld, (hs0_0 _).read_unread, (hs0_1 _).read_unread, (hs0_2 _).read_unread, View.ld_unit_zero (S := S256x2048) zeros, View.ld_unit_zero (S := S1x2048) zeros, View.ld_unit_zero (S := S2048x1280) zeros]
    rw [View.canon_unit_zero zeros, w_block]

set_option maxHeartbeats 2000000 in
/-- A later point, from what the point before left in the scratch. -/
theorem leaves_next (t : Fin cfg0.N) (h0 : ¬t.val % 32 = 0) (s : Vec Ideal S2048x1280 .bf16)
    (hs : (outsAt0 m c (t.val - 1) (Nat.lt_of_le_of_lt (Nat.sub_le _ _) t.isLt)).2.2.2 = s) (hk : s = kept m c) :
    outsAt0 m c t.val t.isLt = leaves m c t := by
  rw [outsAt0_B m c t h0, hs, hk]
  refine Prod.ext ?_ (Prod.ext ?_ (Prod.ext ?_ ?_)) <;> dsimp only
  · unfold out0_B_4; rw [View.read_writes_eq_canon _ _ _ (cover0_B_4 c _ _ _ _ _ _ _ _ _ _ _ _ _ _ _ _ _ _ _ _ _ _ _)]; unfold kernelRun0_B; dsimp only; try sl_unfold_words
    simp only [View.readAt_eq_ld, (hs0_0 _).read_unread, (hs0_1 _).read_unread, (hs0_2 _).read_unread, View.ld_unit_zero (S := S256x2048) zeros, View.ld_unit_zero (S := S1x2048) zeros, View.ld_unit_zero (S := S2048x1280) zeros]
    exact View.canon_unit_zero zeros _ _
  · unfold out0_B_5; rw [View.read_writes_eq_canon _ _ _ (cover0_B_5 c _ _ _ _ _ _ _ _ _ _ _ _ _ _ _ _ _ _ _ _ _ _ _)]; unfold kernelRun0_B; dsimp only; try sl_unfold_words
    simp only [View.readAt_eq_ld, (hs0_0 _).read_unread, (hs0_1 _).read_unread, (hs0_2 _).read_unread, (Memref.isWhole_whole _).read_unread, View.ld_unit_zero (S := S256x2048) zeros, View.ld_unit_zero (S := S1x2048) zeros, View.ld_unit_zero (S := S2048x1280) zeros]
    exact View.canon_unit_zero zeros _ _
  · unfold out0_B_6; rw [View.read_writes_eq_canon _ _ _ (cover0_B_6 c _ _ _ _ _ _ _ _ _ _ _ _ _ _ _ _ _ _ _ _ _ _ _)]; unfold kernelRun0_B; dsimp only; try sl_unfold_words
    simp only [View.readAt_eq_ld, (hs0_0 _).read_unread, (hs0_1 _).read_unread, (hs0_2 _).read_unread, View.ld_unit_zero (S := S256x2048) zeros, View.ld_unit_zero (S := S1x2048) zeros, View.ld_unit_zero (S := S2048x1280) zeros]
    exact View.canon_unit_zero zeros _ _
  · rfl

theorem leaves_all (n : ℕ) (h : n < cfg0.N) : outsAt0 m c n h = leaves m c ⟨n, h⟩ := by
  induction n with
  | zero => exact leaves_first m c ⟨0, h⟩ rfl
  | succ n ih =>
    have hN : n + 1 < 32 := h
    exact leaves_next m c ⟨n + 1, h⟩ (by show ¬(n + 1) % 32 = 0; omega) _ rfl (by
      show (outsAt0 m c n _).2.2.2 = _
      rw [ih])

/-! ## The three arrays -/

/-- Row `R` of the residual stream, the gain, the weights. -/
abbrev xRow (R : Fin 8192) (k : Fin 2048) : EReal := m ((c : Thread nD τ).loc main_arg0) (ix2 R k)
abbrev gain (k : Fin 2048) : EReal := m ((c : Thread nD τ).loc main_arg1) (ix2 0 k)
abbrev wOwn (k : Fin 2048) (j : Fin 1280) : EReal := m ((c : Thread nD τ).loc main_arg2) (ix2 k j)

/-- Row `r` of tile `t`. -/
abbrev at_ (t : Fin cfg0.N) (r : Fin 256) : Fin 8192 := ⟨t.val * 256 + r.val, by have : t.val < 32 := t.isLt; omega⟩

theorem x_block (t : Fin cfg0.N) (r : Fin 256) : (fun k => (iblk m c 0 t : Vec Ideal S256x2048 .f32) (ix2 r k)) = xRow m c (at_ t r) := by
  funext k
  show V m c main_arg0 ((win0_0.rect t).emb (ix2 r k)) = _
  rw [V_main_arg0]
  refine congrArg _ (funext fun a => Fin.ext ?_)
  match a with
  | ⟨0, _⟩ => exact (win0_0.rect_emb_val t (ix2 r k) (0 : Fin 2)).trans (by rw [(index_x t).1]; rfl)
  | ⟨1, _⟩ => exact (win0_0.rect_emb_val t (ix2 r k) (1 : Fin 2)).trans (by rw [(index_x t).2]; exact Nat.zero_add _)

theorem g_block (t : Fin cfg0.N) : (fun k => (iblk m c 1 t : Vec Ideal S1x2048 .f32) (ix2 0 k)) = gain m c := by
  funext k
  show V m c main_arg1 ((win0_1.rect t).emb (ix2 0 k)) = _
  rw [V_main_arg1]
  refine congrArg _ (funext fun a => Fin.ext ?_)
  match a with
  | ⟨0, _⟩ => exact (win0_1.rect_emb_val t (ix2 0 k) (0 : Fin 2)).trans (by rw [(index_g t).1]; rfl)
  | ⟨1, _⟩ => exact (win0_1.rect_emb_val t (ix2 0 k) (1 : Fin 2)).trans (by rw [(index_g t).2]; exact Nat.zero_add _)

theorem index_out : ∀ t : Fin cfg0.N, win0_4.index t (0 : Fin 2) = t.val ∧ win0_4.index t (1 : Fin 2) = 0
    ∧ win0_5.index t (0 : Fin 2) = t.val ∧ win0_5.index t (1 : Fin 2) = 0
    ∧ win0_6.index t (0 : Fin 2) = 0 ∧ win0_6.index t (1 : Fin 2) = t.val := (by decide +kernel : ∀ t : Fin grid0.N, _)
theorem flush_out : ∀ t : Fin cfg0.N, (cfg0.win 4).flush t = true ∧ (cfg0.win 5).flush t = true ∧ (cfg0.win 6).flush t = true :=
  (by decide +kernel : ∀ t : Fin grid0.N, _)

theorem place4 (t : Fin cfg0.N) : (win0_4.rect t).emb (ix2 r k) = ix2 (at_ t r) k := funext fun a => Fin.ext (match a with
  | ⟨0, _⟩ => (win0_4.rect_emb_val t (ix2 r k) (0 : Fin 2)).trans (by rw [(index_out t).1]; rfl)
  | ⟨1, _⟩ => (win0_4.rect_emb_val t (ix2 r k) (1 : Fin 2)).trans (by rw [(index_out t).2.1]; exact Nat.zero_add _))
theorem place5 (t : Fin cfg0.N) : (win0_5.rect t).emb (ix2 r j) = ix2 (at_ t r) j := funext fun a => Fin.ext (match a with
  | ⟨0, _⟩ => (win0_5.rect_emb_val t (ix2 r j) (0 : Fin 2)).trans (by rw [(index_out t).2.2.1]; rfl)
  | ⟨1, _⟩ => (win0_5.rect_emb_val t (ix2 r j) (1 : Fin 2)).trans (by rw [(index_out t).2.2.2.1]; exact Nat.zero_add _))
theorem place6 (t : Fin cfg0.N) : (win0_6.rect t).emb (ix2 k r) = ix2 k (at_ t r) := funext fun a => Fin.ext (match a with
  | ⟨0, _⟩ => (win0_6.rect_emb_val t (ix2 k r) (0 : Fin 2)).trans (by rw [(index_out t).2.2.2.2.1]; exact Nat.zero_add _)
  | ⟨1, _⟩ => (win0_6.rect_emb_val t (ix2 k r) (1 : Fin 2)).trans (by rw [(index_out t).2.2.2.2.2]; rfl))

theorem hn_block (t : Fin cfg0.N) : (dats m 0 c).arrAt 4 cfg0.N (ix2 (at_ t r) k) = hn (xRow m c (at_ t r)) (gain m c) k := by
  have e := congrFun ((blocks4 m c t (flush_out t).1).trans (flushed4 m c t)) (ix2 r k)
  rw [leaves_all] at e
  rw [← x_block m c t r, ← g_block m c t, ← place4]
  exact e.trans (hn_store _ _ r k)
theorem z_block (t : Fin cfg0.N) : (dats m 0 c).arrAt 5 cfg0.N (ix2 (at_ t r) j) = z (xRow m c (at_ t r)) (gain m c) (wOwn m c) j := by
  have e := congrFun ((blocks5 m c t (flush_out t).2.1).trans (flushed5 m c t)) (ix2 r j)
  rw [leaves_all] at e
  rw [← x_block m c t r, ← g_block m c t, ← place5]
  exact e.trans (z_store _ _ _ r j)
theorem hnT_block (t : Fin cfg0.N) : (dats m 0 c).arrAt 6 cfg0.N (ix2 k (at_ t r)) = hn (xRow m c (at_ t r)) (gain m c) k := by
  have e := congrFun ((blocks6 m c t (flush_out t).2.2).trans (flushed6 m c t)) (ix2 k r)
  rw [leaves_all] at e
  rw [← x_block m c t r, ← g_block m c t, ← place6]
  exact e.trans (hnT_store _ _ r k)

/-- Every row is in a tile. -/
theorem tiled (R : Fin 8192) : ∃ t r, at_ t r = R :=
  ⟨⟨R.val / 256, show R.val / 256 < 32 by omega⟩, ⟨R.val % 256, by omega⟩, Fin.ext (Nat.div_add_mod' R.val 256)⟩

theorem hn_all (R : Fin 8192) : (dats m 0 c).arrAt 4 cfg0.N (ix2 R k) = hn (xRow m c R) (gain m c) k := by
  obtain ⟨t, r, rfl⟩ := tiled R; exact hn_block r k m c t
theorem z_all (R : Fin 8192) : (dats m 0 c).arrAt 5 cfg0.N (ix2 R j) = z (xRow m c R) (gain m c) (wOwn m c) j := by
  obtain ⟨t, r, rfl⟩ := tiled R; exact z_block r j m c t
theorem hnT_all (R : Fin 8192) : (dats m 0 c).arrAt 6 cfg0.N (ix2 k R) = hn (xRow m c R) (gain m c) k := by
  obtain ⟨t, r, rfl⟩ := tiled R; exact hnT_block r k m c t

end Cert.Kernel10Ideal.Fwd

namespace Cert.Reference10Ideal.Fwd

open Cert.Reference10Ideal Cert.Reference10Ideal.Gen Cert.Reference10Ideal.Value Idealize.ShloMosaic Idealize.ShloMosaic.TcCoe Cert.Fwd

variable (x : FVec Ideal S8192x2048 .f32) (g : FVec Ideal S1x2048 .f32) (w : FVec Ideal S2048x1280 .f32) (R : Fin 8192) (k : Fin 2048) (j : Fin 1280)

/-- The reference's mean square and its normalised rows. -/
def msV : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))
def hnV : FVec Ideal S8192x2048 .f32 :=
  mulf (mulf x (broadcastInDim S8192x2048 ![0, 1] bcast_S8192x1_S8192x2048_0_1 (Host.rsqrt (msV x)))) (broadcastInDim S8192x2048 ![0, 1] bcast_S1x2048_S8192x2048_0_1 (broadcastInDim S1x2048 ![1] bcast_S2048_S1x2048_1 (shapeCast _ g shapeCasts_S1x2048_S2048)))

theorem ms_at : msV x (ix2 R 0) = Norm.ms (fun k => x (ix2 R k)) := by unfold msV; pointwise; rfl
theorem hn_at : hnV x g (ix2 R k) = hn (fun k => x (ix2 R k)) (fun k => g (ix2 0 k)) k := by unfold hnV; pointwise; rw [ms_at]; rfl
theorem hn_store : truncf .bf16 (hnV x g) bitsLt_bf16_f32 (ix2 R k) = hn (fun k => x (ix2 R k)) (fun k => g (ix2 0 k)) k := hn_at x g R k
theorem hnT_store : truncf .bf16 (transpose S2048x8192 [1, 0] (hnV x g) transposes_S8192x2048_S2048x8192_1_0) bitsLt_bf16_f32 (ix2 k R)
    = hn (fun k => x (ix2 R k)) (fun k => g (ix2 0 k)) k := by pointwise; exact hn_at x g R k
theorem z_store : truncf .bf16 (Host.dotGeneral dot_S8192x2048_S2048x1280_S8192x1280_1_0_0_1_n_n none (hnV x g) w) bitsLt_bf16_f32 (ix2 R j)
    = z (fun k => x (ix2 R k)) (fun k => g (ix2 0 k)) (fun k j => w (ix2 k j)) j := by
  pointwise; simp only [hn_at]; rfl

end Cert.Reference10Ideal.Fwd

namespace Cert.Proof

open Idealize.ShloMosaic Idealize.SL.Sem

theorem inproj_fwd : algebraic_Kernel10Ideal_Reference10Ideal := by
  intro m ρ m' ρ' _ hagree
  refine ⟨_, _, _, Cert.Kernel10Ideal.Value.run_blocks (F := Ideal) m ρ, ?_⟩
  refine (θ_run Cert.Reference10Ideal.defs _ _).mono (fun _ h c => ?_) (Cert.Reference10Ideal.Value.run (F := Ideal) m' ρ')
  obtain ⟨hh, hz, ht, hargs⟩ := h c
  obtain ⟨a0, a1, a2⟩ := hagree c
  refine ⟨hh.trans (funext fun i => ?_), hz.trans (funext fun i => ?_), ht.trans (funext fun i => ?_), hargs⟩
  · idx_vars i
    refine (Cert.Reference10Ideal.Fwd.hn_store _ _ i0 i1).trans (Eq.trans ?_ (Cert.Kernel10Ideal.Fwd.hn_all i1 m c i0).symm)
    rw [a0, a1]
  · idx_vars i
    refine (Cert.Reference10Ideal.Fwd.z_store _ _ _ i0 i1).trans (Eq.trans ?_ (Cert.Kernel10Ideal.Fwd.z_all i1 m c i0).symm)
    rw [a0, a1, a2]
  · idx_vars i
    refine (Cert.Reference10Ideal.Fwd.hnT_store _ _ i1 i0).trans (Eq.trans ?_ (Cert.Kernel10Ideal.Fwd.hnT_all i0 m c i1).symm)
    rw [a0, a1]

end Cert.Proof

end
-- ==== Proof.Pack.lean ====
/- The packing of the small weights' gradients: what the kernel's stores leave is what the reference's concatenation reads. -/
module

public import proofs.«01_k».proof.Defs
public import proofs.«01_k».proof.Proof.Gen.Kernel11Ideal.Value
public import proofs.«01_k».proof.Proof.Gen.Reference11Ideal.Run
public import Idealize.ShloMosaic.Lib.Pointwise

@[expose] public section

set_option maxRecDepth 16384

noncomputable section

namespace Cert.Pack

open Idealize.ShloMosaic Idealize.ShloMosaic.Tactic

/-- An array read at natural coordinates. -/
def at2 {n k : ℕ} (x : (⟨2, ![n, k]⟩ : Shape).Idx → EReal) (a b : ℕ) : EReal := if h : a < n ∧ b < k then x (ix2 ⟨a, h.1⟩ ⟨b, h.2⟩) else 0
def at3 {n k l : ℕ} (x : (⟨3, ![n, k, l]⟩ : Shape).Idx → EReal) (a b c : ℕ) : EReal :=
  if h : a < n ∧ b < k ∧ c < l then x (fun q => match q with | ⟨0, _⟩ => ⟨a, h.1⟩ | ⟨1, _⟩ => ⟨b, h.2.1⟩ | ⟨2, _⟩ => ⟨c, h.2.2⟩) else 0

theorem at2_eq {n k : ℕ} (x : (⟨2, ![n, k]⟩ : Shape).Idx → EReal) (i : (⟨2, ![n, k]⟩ : Shape).Idx) (a b : ℕ) (ha : (i 0).val = a) (hb : (i 1).val = b) :
    x i = at2 x a b := by
  subst ha hb
  unfold at2
  rw [dif_pos ⟨(i 0).isLt, (i 1).isLt⟩]
  refine congrArg x (funext fun q => ?_)
  match q with
  | ⟨0, _⟩ => rfl
  | ⟨1, _⟩ => rfl
theorem at3_eq {n k l : ℕ} (x : (⟨3, ![n, k, l]⟩ : Shape).Idx → EReal) (i : (⟨3, ![n, k, l]⟩ : Shape).Idx) (a b c : ℕ) (ha : (i 0).val = a) (hb : (i 1).val = b)
    (hc : (i 2).val = c) : x i = at3 x a b c := by
  subst ha hb hc
  unfold at3
  rw [dif_pos ⟨(i 0).isLt, (i 1).isLt, (i 2).isLt⟩]
  refine congrArg x (funext fun q => ?_)
  match q with
  | ⟨0, _⟩ => rfl
  | ⟨1, _⟩ => rfl
  | ⟨2, _⟩ => rfl

abbrev Vec1 := (⟨2, ![8, 1024]⟩ : Shape).Idx → EReal
abbrev Mats := (⟨3, ![8, 128, 128]⟩ : Shape).Idx → EReal

variable (x0 x1 : Vec1) (x2 : Mats) (x3 : (⟨2, ![128, 1024]⟩ : Shape).Idx → EReal) (x4 : (⟨2, ![32, 1024]⟩ : Shape).Idx → EReal) (x5 : Vec1) (x6 : Mats)
  (x7 : Vec1) (x8 : Mats) (x9 x10 x11 x12 : Vec1) (x13 : (⟨2, ![8, 2048]⟩ : Shape).Idx → EReal)

/-- Lane `l` of packed row `r`. -/
def row (r l : ℕ) : EReal :=
  if r < 8 then at2 x0 0 (r * 128 + l) else
  if r < 16 then at2 x1 0 ((r - 8) * 128 + l) else
  if r < 1040 then at3 x2 ((r - 16) / 128) ((r - 16) % 128) l else
  if r < 1048 then at2 x3 l ((r - 1040) * 128) else
  if r < 1080 then at2 x4 ((r - 1048) / 8 * 8) ((r - 1048) % 8 * 128 + l) else
  if r < 1088 then at2 x5 0 ((r - 1080) * 128 + l) else
  if r < 2112 then at3 x6 ((r - 1088) / 128) ((r - 1088) % 128) l else
  if r < 2120 then at2 x7 0 ((r - 2112) * 128 + l) else
  if r < 3144 then at3 x8 ((r - 2120) / 128) ((r - 2120) % 128) l else
  if r < 3152 then at2 x9 0 ((r - 3144) * 128 + l) else
  if r < 3160 then at2 x10 0 ((r - 3152) * 128 + l) else
  if r < 3168 then at2 x11 0 ((r - 3160) * 128 + l) else
  if r < 3176 then at2 x12 0 ((r - 3168) * 128 + l) else
  if r < 3192 then at2 x13 0 ((r - 3176) * 128 + l) else 0

/-- The packed array. -/
def packed (i : (⟨2, ![3200, 128]⟩ : Shape).Idx) : EReal := row x0 x1 x2 x3 x4 x5 x6 x7 x8 x9 x10 x11 x12 x13 (i 0).val (i 1).val

/-- Eight matrices, one under the other, at a row and a lane. -/
theorem mats_at (x : Mats) (h) (i : (⟨2, ![1024, 128]⟩ : Shape).Idx) :
    shapeCast (⟨2, ![1024, 128]⟩ : Shape) x h i = at3 x ((i 0).val / 128) ((i 0).val % 128) (i 1).val := by
  idx_vars i
  pointwise
  exact at3_eq _ _ _ _ _ rfl rfl rfl

/-- One piece of a concatenation of rows of lanes: its rows are those from `o` up to `b`, and the rest follows from `b`. -/
theorem step {n r l o b c : ℕ} {j : (⟨2, ![3200, 128]⟩ : Shape).Idx} (u : (⟨2, ![n, 128]⟩ : Shape).Idx → EReal) (F : ℕ → ℕ → EReal)
    (hu : ∀ i, u i = F (i 0).val (i 1).val) {q : (s : Shape) × (s.Idx → EReal)} {xs : List ((s : Shape) × (s.Idx → EReal))} {hs} {hc} {w : EReal}
    (hl : (j 1).val = l) (ho : o ≤ r) (hb : o + n = b) (hr : c = r - o)
    (hw : ∀ hs hc, b ≤ r → concatenateAt (⟨2, ![3200, 128]⟩ : Shape) 0 j (q :: xs) hs (c - n) hc = w) :
    concatenateAt (⟨2, ![3200, 128]⟩ : Shape) 0 j (⟨(⟨2, ![n, 128]⟩ : Shape), u⟩ :: q :: xs) hs c hc = if r < b then F (r - o) l else w := by
  subst hl hr
  rw [concatenateAt_cons]
  by_cases h : r - o < n
  · exact (dif_pos h).trans ((hu _).trans (if_pos (by omega)).symm)
  · exact (dif_neg h).trans ((hw _ _ (by omega)).trans (if_neg (by omega)).symm)

end Cert.Pack

namespace Cert.Kernel11Ideal.Pack

open Cert.Kernel11Ideal Cert.Kernel11Ideal.Gen Cert.Kernel11Ideal.Value Idealize.ShloMosaic Idealize.ShloMosaic.TcCoe Idealize.ShloMosaic.Tactic Cert.Pack

/-! ## The pieces -/

theorem zeros3 : (![0, 0, 0] : Fin 3 → Nat) = fun _ => 0 := by decide

/-- A row of lanes, copied. -/
theorem piece_row {n k : ℕ} (X : Vec Ideal (⟨2, ![n, k]⟩ : Shape) .f32) (a o r : ℕ) (inb inb') (G : ℕ → ℕ → EReal)
    (hG : ∀ l, at2 X a (o + l) = G r l) (y : S1x128.Idx) :
    View.ld X (Rect.unit ![a, o] S1x128.size inb) y
      = (fun i : S3200x128.Idx => G (i 0).val (i 1).val) ((Rect.unit (s := S3200x128) ![r, 0] S1x128.size inb').emb y) := by
  have h0 : (y 0).val < 1 := (y 0).isLt
  refine (at2_eq X _ a (o + (y 1).val) ?_ ?_).trans ((hG _).trans ?_)
  · show a + 1 * (y 0).val = a; omega
  · show o + 1 * (y 1).val = _; omega
  · show _ = G (r + 1 * (y 0).val) (0 + 1 * (y 1).val)
    rw [show r + 1 * (y 0).val = r by omega, show 0 + 1 * (y 1).val = (y 1).val by omega]

/-- Eight matrices, one under the other. -/
theorem piece_mats (X : Vec Ideal S8x128x128 .f32) (r : ℕ) (inb inb') (G : ℕ → ℕ → EReal) (hG : ∀ q l, q < 1024 → at3 X (q / 128) (q % 128) l = G (r + q) l)
    (y : S1024x128.Idx) :
    shapeCast S1024x128 (View.ld X (Rect.unit ![0, 0, 0] S8x128x128.size inb)) shapeCasts_S8x128x128_S1024x128 y
      = (fun i : S3200x128.Idx => G (i 0).val (i 1).val) ((Rect.unit (s := S3200x128) ![r, 0] S1024x128.size inb').emb y) := by
  rw [View.ld_unit_zero zeros3]
  refine Eq.trans (b := at3 X ((y 0).val / 128) ((y 0).val % 128) (y 1).val) ?_ ((hG _ _ (y 0).isLt).trans ?_)
  · exact mats_at X _ y
  · show _ = G (r + 1 * (y 0).val) (0 + 1 * (y 1).val)
    rw [Nat.one_mul, Nat.one_mul, Nat.zero_add]

/-- A column, as a row. -/
theorem piece_col (X : Vec Ideal S128x1024 .f32) (o r : ℕ) (inb inb') (G : ℕ → ℕ → EReal) (hG : ∀ l, at2 X l o = G r l) (y : S1x128.Idx) :
    extractStridedSlice S1x128 ![0, 0] (transpose S128x128 [1, 0] (View.ld X (Rect.unit ![0, o] S128x128.size inb)) transposes_S128x128_p1_0_S128x128)
      slices_S128x128_o0_0_S1x128 y
      = (fun i : S3200x128.Idx => G (i 0).val (i 1).val) ((Rect.unit (s := S3200x128) ![r, 0] S1x128.size inb').emb y) := by
  have h0 : (y 0).val < 1 := (y 0).isLt
  refine Eq.trans (b := at2 X (y 1).val o) ?_ ((hG _).trans ?_)
  · idx_vars y
    pointwise
    exact at2_eq _ _ _ _ rfl rfl
  · show _ = G (r + 1 * (y 0).val) (0 + 1 * (y 1).val)
    rw [show r + 1 * (y 0).val = r by omega, Nat.one_mul, Nat.zero_add]

/-- Zeros. -/
theorem piece_zero (r : ℕ) (inb') (G : ℕ → ℕ → EReal) (hG : ∀ q l, 0 = G (r + q) l) (y : S8x128.Idx) :
    k0_pay1 (F := Ideal) y = (fun i : S3200x128.Idx => G (i 0).val (i 1).val) ((Rect.unit (s := S3200x128) ![r, 0] S8x128.size inb').emb y) := by
  refine Eq.trans ?_ (hG _ _)
  idx_vars y
  pointwise [k0_pay1]

variable (x0 x1 : Vec Ideal S8x1024 .f32) (x2 : Vec Ideal S8x128x128 .f32) (x3 : Vec Ideal S128x1024 .f32) (x4 : Vec Ideal S32x1024 .f32) (x5 : Vec Ideal S8x1024 .f32)
  (x6 : Vec Ideal S8x128x128 .f32) (x7 : Vec Ideal S8x1024 .f32) (x8 : Vec Ideal S8x128x128 .f32) (x9 x10 x11 x12 : Vec Ideal S8x1024 .f32) (x13 : Vec Ideal S8x2048 .f32)

variable (m : (ℓ : Loc nD τ sig) → Buf (Elt Ideal) ℓ) (c : Dev nD)

set_option maxHeartbeats 4000000 in
theorem leaves (t : Fin cfg0.N) : outsAt0 m c t = packed (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) := by
  unfold outsAt0 out0_A_14
  rw [View.read_writes_eq_canon _ _ _ (cover0_A_14 c _ _ _ _ _ _ _ _ _ _ _ _ _ _ _ _ _ _ _ _ _ _ _ _ _ _ _ _ _ _ _ _ _ _ _ _ _ _ _ _ _ _ _ _)]
  funext y
  refine View.canon_apply_of_pieces _ _ ?_ y (cover0_A_14 c _ _ _ _ _ _ _ _ _ _ _ _ _ _ _ _ _ _ _ _ _ _ _ _ _ _ _ _ _ _ _ _ _ _ _ _ _ _ _ _ _ _ _ _ y)
  unfold kernelRun0_A; dsimp only; try sl_unfold_words
  simp only [View.readAt_eq_ld, (hs0_0 _).read_unread, (hs0_1 _).read_unread, (hs0_2 _).read_unread, (hs0_3 _).read_unread, (hs0_4 _).read_unread, (hs0_5 _).read_unread, (hs0_6 _).read_unread, (hs0_7 _).read_unread, (hs0_8 _).read_unread, (hs0_9 _).read_unread, (hs0_10 _).read_unread, (hs0_11 _).read_unread, (hs0_12 _).read_unread, (hs0_13 _).read_unread]
  repeat' first
    | exact fun _ h => absurd h List.not_mem_nil
    | refine List.forall_mem_cons.2 ⟨?_, ?_⟩
  all_goals dsimp only [k0_pay2, k0_pay3, k0_pay4, k0_pay5, k0_pay6, k0_pay7, k0_pay8, k0_pay9, k0_pay10, k0_pay11, k0_pay12]
  all_goals first
    | exact piece_row _ _ _ _ _ _ (row _ _ _ _ _ _ _ _ _ _ _ _ _ _) (fun l => by simp [row])
    | exact piece_col _ _ _ _ _ (row _ _ _ _ _ _ _ _ _ _ _ _ _ _) (fun l => by simp [row])
    | exact piece_zero _ _ (row _ _ _ _ _ _ _ _ _ _ _ _ _ _) (fun q l => by
        simp only [row]; iterate 14 rw [if_neg (by omega)])
    | exact piece_mats _ _ _ _ (row _ _ _ _ _ _ _ _ _ _ _ _ _ _) (fun q l hq => by
        simp only [row]
        first
          | (iterate 2 rw [if_neg (by omega)]); rw [if_pos (by omega), Nat.add_sub_cancel_left]
          | (iterate 6 rw [if_neg (by omega)]); rw [if_pos (by omega), Nat.add_sub_cancel_left]
          | (iterate 8 rw [if_neg (by omega)]); rw [if_pos (by omega), Nat.add_sub_cancel_left])

/-! ## The array -/

theorem index0 : ∀ t : Fin cfg0.N, ∀ a : Fin 2, win0_0.index t a = 0 ∧ win0_1.index t a = 0 ∧ win0_3.index t a = 0 ∧ win0_4.index t a = 0 ∧ win0_5.index t a = 0
    ∧ win0_7.index t a = 0 ∧ win0_9.index t a = 0 ∧ win0_10.index t a = 0 ∧ win0_11.index t a = 0 ∧ win0_12.index t a = 0 ∧ win0_13.index t a = 0
    ∧ win0_14.index t a = 0 := (by decide +kernel : ∀ t : Fin grid0.N, _)
theorem index0' : ∀ t : Fin cfg0.N, ∀ a : Fin 3, win0_2.index t a = 0 ∧ win0_6.index t a = 0 ∧ win0_8.index t a = 0 := (by decide +kernel : ∀ t : Fin grid0.N, _)

/-- A window at the origin leaves an index where it is. -/
theorem still {k n : ℕ} (h : k = 0) (b : ℕ) : k * b + n = n := by rw [h, Nat.zero_mul, Nat.zero_add]

variable (t : Fin cfg0.N)

theorem b0 : (iblk m c 0 t : Vec Ideal S8x1024 .f32) = m ((c : Thread nD τ).loc main_arg0) :=
  funext fun i => congrArg (m ((c : Thread nD τ).loc main_arg0)) (funext fun a => Fin.ext ((win0_0.rect_emb_val t i a).trans (still (index0 t a).1 _)))
theorem b1 : (iblk m c 1 t : Vec Ideal S8x1024 .f32) = m ((c : Thread nD τ).loc main_arg1) :=
  funext fun i => congrArg (m ((c : Thread nD τ).loc main_arg1)) (funext fun a => Fin.ext ((win0_1.rect_emb_val t i a).trans (still (index0 t a).2.1 _)))
theorem b2 : (iblk m c 2 t : Vec Ideal S8x128x128 .f32) = m ((c : Thread nD τ).loc main_arg2) :=
  funext fun i => congrArg (m ((c : Thread nD τ).loc main_arg2)) (funext fun a => Fin.ext ((win0_2.rect_emb_val t i a).trans (still (index0' t a).1 _)))
theorem b3 : (iblk m c 3 t : Vec Ideal S128x1024 .f32) = m ((c : Thread nD τ).loc main_arg3) :=
  funext fun i => congrArg (m ((c : Thread nD τ).loc main_arg3)) (funext fun a => Fin.ext ((win0_3.rect_emb_val t i a).trans (still (index0 t a).2.2.1 _)))
theorem b4 : (iblk m c 4 t : Vec Ideal S32x1024 .f32) = m ((c : Thread nD τ).loc main_arg4) :=
  funext fun i => congrArg (m ((c : Thread nD τ).loc main_arg4)) (funext fun a => Fin.ext ((win0_4.rect_emb_val t i a).trans (still (index0 t a).2.2.2.1 _)))
theorem b5 : (iblk m c 5 t : Vec Ideal S8x1024 .f32) = m ((c : Thread nD τ).loc main_arg5) :=
  funext fun i => congrArg (m ((c : Thread nD τ).loc main_arg5)) (funext fun a => Fin.ext ((win0_5.rect_emb_val t i a).trans (still (index0 t a).2.2.2.2.1 _)))
theorem b6 : (iblk m c 6 t : Vec Ideal S8x128x128 .f32) = m ((c : Thread nD τ).loc main_arg6) :=
  funext fun i => congrArg (m ((c : Thread nD τ).loc main_arg6)) (funext fun a => Fin.ext ((win0_6.rect_emb_val t i a).trans (still (index0' t a).2.1 _)))
theorem b7 : (iblk m c 7 t : Vec Ideal S8x1024 .f32) = m ((c : Thread nD τ).loc main_arg7) :=
  funext fun i => congrArg (m ((c : Thread nD τ).loc main_arg7)) (funext fun a => Fin.ext ((win0_7.rect_emb_val t i a).trans (still (index0 t a).2.2.2.2.2.1 _)))
theorem b8 : (iblk m c 8 t : Vec Ideal S8x128x128 .f32) = m ((c : Thread nD τ).loc main_arg8) :=
  funext fun i => congrArg (m ((c : Thread nD τ).loc main_arg8)) (funext fun a => Fin.ext ((win0_8.rect_emb_val t i a).trans (still (index0' t a).2.2 _)))
theorem b9 : (iblk m c 9 t : Vec Ideal S8x1024 .f32) = m ((c : Thread nD τ).loc main_arg9) :=
  funext fun i => congrArg (m ((c : Thread nD τ).loc main_arg9)) (funext fun a => Fin.ext ((win0_9.rect_emb_val t i a).trans (still (index0 t a).2.2.2.2.2.2.1 _)))
theorem b10 : (iblk m c 10 t : Vec Ideal S8x1024 .f32) = m ((c : Thread nD τ).loc main_arg10) :=
  funext fun i => congrArg (m ((c : Thread nD τ).loc main_arg10)) (funext fun a => Fin.ext ((win0_10.rect_emb_val t i a).trans (still (index0 t a).2.2.2.2.2.2.2.1 _)))
theorem b11 : (iblk m c 11 t : Vec Ideal S8x1024 .f32) = m ((c : Thread nD τ).loc main_arg11) :=
  funext fun i => congrArg (m ((c : Thread nD τ).loc main_arg11)) (funext fun a => Fin.ext ((win0_11.rect_emb_val t i a).trans (still (index0 t a).2.2.2.2.2.2.2.2.1 _)))
theorem b12 : (iblk m c 12 t : Vec Ideal S8x1024 .f32) = m ((c : Thread nD τ).loc main_arg12) :=
  funext fun i => congrArg (m ((c : Thread nD τ).loc main_arg12)) (funext fun a => Fin.ext ((win0_12.rect_emb_val t i a).trans (still (index0 t a).2.2.2.2.2.2.2.2.2.1 _)))
theorem b13 : (iblk m c 13 t : Vec Ideal S8x2048 .f32) = m ((c : Thread nD τ).loc main_arg13) :=
  funext fun i => congrArg (m ((c : Thread nD τ).loc main_arg13)) (funext fun a => Fin.ext ((win0_13.rect_emb_val t i a).trans (still (index0 t a).2.2.2.2.2.2.2.2.2.2.1 _)))

theorem flush0 : (cfg0.win 14).flush t = true := (by decide +kernel : ∀ t : Fin grid0.N, (cfg0.win 14).flush t = true) t

/-- What the kernel leaves. -/
theorem out_at (i : S3200x128.Idx) : (dats m 0 c).arrAt 14 cfg0.N i
    = packed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) i := by
  have z : Fin cfg0.N := ⟨0, (by decide : 0 < grid0.N)⟩
  have e := congrFun ((blocks14 m c z (flush0 z)).trans (flushed14 m c z)) i
  rw [leaves, b0, b1, b2, b3, b4, b5, b6, b7, b8, b9, b10, b11, b12, b13] at e
  refine Eq.trans (congrArg _ (funext fun a => Fin.ext ?_)) e
  exact ((win0_14.rect_emb_val z i a).trans (still (index0 z a).2.2.2.2.2.2.2.2.2.2.2 _)).symm

end Cert.Kernel11Ideal.Pack

namespace Cert.Reference11Ideal.Pack

open Cert.Reference11Ideal Cert.Reference11Ideal.Gen Cert.Reference11Ideal.Value Idealize.ShloMosaic Idealize.ShloMosaic.TcCoe Idealize.ShloMosaic.Tactic Cert.Pack

variable (x0 x1 : Vec Ideal S8x1024 .f32) (x2 : Vec Ideal S8x128x128 .f32) (x3 : Vec Ideal S128x1024 .f32) (x4 : Vec Ideal S32x1024 .f32) (x5 : Vec Ideal S8x1024 .f32)
  (x6 : Vec Ideal S8x128x128 .f32) (x7 : Vec Ideal S8x1024 .f32) (x8 : Vec Ideal S8x128x128 .f32) (x9 x10 x11 x12 : Vec Ideal S8x1024 .f32) (x13 : Vec Ideal S8x2048 .f32)

/-- The first row of an array, as rows of lanes. -/
abbrev lanes (x : Vec Ideal S8x1024 .f32) : Vec Ideal S8x128 .f32 :=
  shapeCast _ (shapeCast _ (extractStridedSlice S1x1024 ![0, 0] x slices_S8x1024_S1x1024_0_0) shapeCasts_S1x1024_S1024) shapeCasts_S1024_S8x128

theorem lanes_at (x : Vec Ideal S8x1024 .f32) (i : S8x128.Idx) : lanes x i = at2 x 0 ((i 0).val * 128 + (i 1).val) := by
  idx_vars i
  pointwise [lanes]
  exact at2_eq _ _ _ _ rfl rfl
theorem lanes16_at (x : Vec Ideal S8x2048 .f32) (i : S16x128.Idx) :
    shapeCast S16x128 (shapeCast S2048 (extractStridedSlice S1x2048 ![0, 0] x slices_S8x2048_S1x2048_0_0) shapeCasts_S1x2048_S2048) shapeCasts_S2048_S16x128 i
      = at2 x 0 ((i 0).val * 128 + (i 1).val) := by
  idx_vars i
  pointwise
  exact at2_eq _ _ _ _ rfl rfl
theorem cols_at (x : Vec Ideal S128x1024 .f32) (i : S8x128.Idx) :
    Host.slice S8x128 ![0, 0] ![128, 1] (transpose S1024x128 [1, 0] x transposes_S128x1024_S1024x128_1_0) slicesBy_S1024x128_S8x128_0s128_0s1 i
      = at2 x (i 1).val ((i 0).val * 128) := by
  idx_vars i
  pointwise
  exact at2_eq _ _ _ _ rfl (Nat.mul_comm _ _)
theorem conv_at (x : Vec Ideal S32x1024 .f32) (i : S32x128.Idx) :
    shapeCast S32x128 (Host.slice S4x1024 ![0, 0] ![8, 1] x slicesBy_S32x1024_S4x1024_0s8_0s1) shapeCasts_S4x1024_S32x128 i
      = at2 x ((i 0).val / 8 * 8) ((i 0).val % 8 * 128 + (i 1).val) := by
  idx_vars i
  pointwise
  exact at2_eq _ _ _ _ (Nat.mul_comm _ _) rfl

theorem zeros_at (i : S8x128.Idx) : shapeCast S8x128 (broadcastInDim S1024 ![] bcast_S_S1024 (constant (F := Ideal) S_ .f32 0x00000000#32)) shapeCasts_S1024_S8x128 i = 0 := by
  idx_vars i
  pointwise

/-- What the reference concatenates. -/
def cat : Vec Ideal S3200x128 .f32 :=
  concatenate S3200x128 0 [⟨S8x128, lanes x0⟩, ⟨S8x128, lanes x1⟩, ⟨S1024x128, shapeCast _ x2 shapeCasts_S8x128x128_S1024x128⟩, ⟨S8x128, Host.slice S8x128 ![0, 0] ![128, 1] (transpose S1024x128 [1, 0] x3 transposes_S128x1024_S1024x128_1_0) slicesBy_S1024x128_S8x128_0s128_0s1⟩, ⟨S32x128, shapeCast _ (Host.slice S4x1024 ![0, 0] ![8, 1] x4 slicesBy_S32x1024_S4x1024_0s8_0s1) shapeCasts_S4x1024_S32x128⟩, ⟨S8x128, lanes x5⟩, ⟨S1024x128, shapeCast _ x6 shapeCasts_S8x128x128_S1024x128⟩, ⟨S8x128, lanes x7⟩, ⟨S1024x128, shapeCast _ x8 shapeCasts_S8x128x128_S1024x128⟩, ⟨S8x128, lanes x9⟩, ⟨S8x128, lanes x10⟩, ⟨S8x128, lanes x11⟩, ⟨S8x128, lanes x12⟩, ⟨S16x128, shapeCast _ (shapeCast _ (extractStridedSlice S1x2048 ![0, 0] x13 slices_S8x2048_S1x2048_0_0) shapeCasts_S1x2048_S2048) shapeCasts_S2048_S16x128⟩, ⟨S8x128, shapeCast _ (broadcastInDim S1024 ![] bcast_S_S1024 (constant (F := Ideal) S_ .f32 0x00000000#32)) shapeCasts_S1024_S8x128⟩]
    concatenates_S8x128_S8x128_S1024x128_S8x128_S32x128_S8x128_S1024x128_S8x128_S1024x128_S8x128_S8x128_S8x128_S8x128_S16x128_S8x128_S3200x128_d0

theorem cat_at (i : S3200x128.Idx) : cat x0 x1 x2 x3 x4 x5 x6 x7 x8 x9 x10 x11 x12 x13 i = packed x0 x1 x2 x3 x4 x5 x6 x7 x8 x9 x10 x11 x12 x13 i := by
  refine (concatenate_cons_apply _ _ _ _ _ _ _).trans ?_
  unfold packed row
  refine step (o := 0) (b := 8) _ (fun a b => at2 x0 0 (a * 128 + b)) (lanes_at x0) rfl (by omega) rfl (by omega) (fun _ _ _ => ?_)
  refine step (o := 8) (b := 16) _ (fun a b => at2 x1 0 (a * 128 + b)) (lanes_at x1) rfl (by omega) rfl (by omega) (fun _ _ _ => ?_)
  refine step (o := 16) (b := 1040) _ (fun a b => at3 x2 (a / 128) (a % 128) b) (mats_at x2 shapeCasts_S8x128x128_S1024x128) rfl (by omega) rfl (by omega) (fun _ _ _ => ?_)
  refine step (o := 1040) (b := 1048) _ (fun a b => at2 x3 b (a * 128)) (cols_at x3) rfl (by omega) rfl (by omega) (fun _ _ _ => ?_)
  refine step (o := 1048) (b := 1080) _ (fun a b => at2 x4 (a / 8 * 8) (a % 8 * 128 + b)) (conv_at x4) rfl (by omega) rfl (by omega) (fun _ _ _ => ?_)
  refine step (o := 1080) (b := 1088) _ (fun a b => at2 x5 0 (a * 128 + b)) (lanes_at x5) rfl (by omega) rfl (by omega) (fun _ _ _ => ?_)
  refine step (o := 1088) (b := 2112) _ (fun a b => at3 x6 (a / 128) (a % 128) b) (mats_at x6 shapeCasts_S8x128x128_S1024x128) rfl (by omega) rfl (by omega) (fun _ _ _ => ?_)
  refine step (o := 2112) (b := 2120) _ (fun a b => at2 x7 0 (a * 128 + b)) (lanes_at x7) rfl (by omega) rfl (by omega) (fun _ _ _ => ?_)
  refine step (o := 2120) (b := 3144) _ (fun a b => at3 x8 (a / 128) (a % 128) b) (mats_at x8 shapeCasts_S8x128x128_S1024x128) rfl (by omega) rfl (by omega) (fun _ _ _ => ?_)
  refine step (o := 3144) (b := 3152) _ (fun a b => at2 x9 0 (a * 128 + b)) (lanes_at x9) rfl (by omega) rfl (by omega) (fun _ _ _ => ?_)
  refine step (o := 3152) (b := 3160) _ (fun a b => at2 x10 0 (a * 128 + b)) (lanes_at x10) rfl (by omega) rfl (by omega) (fun _ _ _ => ?_)
  refine step (o := 3160) (b := 3168) _ (fun a b => at2 x11 0 (a * 128 + b)) (lanes_at x11) rfl (by omega) rfl (by omega) (fun _ _ _ => ?_)
  refine step (o := 3168) (b := 3176) _ (fun a b => at2 x12 0 (a * 128 + b)) (lanes_at x12) rfl (by omega) rfl (by omega) (fun _ _ _ => ?_)
  refine step (o := 3176) (b := 3192) _ (fun a b => at2 x13 0 (a * 128 + b)) (lanes16_at x13) rfl (by omega) rfl (by omega) (fun _ _ _ => ?_)
  exact (concatenateAt_singleton _ _ _ _ _ _).trans (zeros_at _)

end Cert.Reference11Ideal.Pack

namespace Cert.Proof

open Idealize.ShloMosaic Idealize.SL.Sem

theorem pack_small : algebraic_Kernel11Ideal_Reference11Ideal := by
  intro m ρ m' ρ' _ hagree
  refine ⟨_, Cert.Kernel11Ideal.Value.run_blocks (F := Ideal) m ρ, ?_⟩
  refine (θ_run Cert.Reference11Ideal.defs _ _).mono (fun _ h c => ?_) (Cert.Reference11Ideal.Value.run (F := Ideal) m' ρ')
  obtain ⟨hv, hargs⟩ := h c
  obtain ⟨a0, a1, a2, a3, a4, a5, a6, a7, a8, a9, a10, a11, a12, a13⟩ := hagree c
  refine ⟨hv.trans (funext fun i => ?_), hargs⟩
  refine (Cert.Reference11Ideal.Pack.cat_at _ _ _ _ _ _ _ _ _ _ _ _ _ _ i).trans (Eq.trans ?_ (Cert.Kernel11Ideal.Pack.out_at m c i).symm)
  rw [a0, a1, a2, a3, a4, a5, a6, a7, a8, a9, a10, a11, a12, a13]

end Cert.Proof

end
-- ==== Proof.lean ====
module

public import proofs.«01_k».proof.Defs
public import proofs.«01_k».proof.Proof.Gen.Kernel
public import proofs.«01_k».proof.Proof.Frame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.GradWInTie
public import proofs.«01_k».proof.Proof.GradWOutTie
public import proofs.«01_k».proof.Proof.HeadTie
public import proofs.«01_k».proof.Proof.Gen.Kernel5.Frame
public import proofs.«01_k».proof.Proof.Gen.Reference5Ideal.Run
public import proofs.«01_k».proof.Proof.InTie
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.AdamWIn
public import proofs.«01_k».proof.Proof.AdamWOut
public import proofs.«01_k».proof.Proof.AdamWPe
public import proofs.«01_k».proof.Proof.AdamConv
public import proofs.«01_k».proof.Proof.Gen.Kernel10.Frame
public import proofs.«01_k».proof.Proof.Gen.Kernel10Ideal.Value
public import proofs.«01_k».proof.Proof.Gen.Reference10Ideal.Run
public import proofs.«01_k».proof.Proof.FwdIn
public import proofs.«01_k».proof.Proof.Gen.Kernel11.Frame
public import proofs.«01_k».proof.Proof.Gen.Kernel11Ideal.Value
public import proofs.«01_k».proof.Proof.Gen.Reference11Ideal.Run
public import proofs.«01_k».proof.Proof.Pack
public import Idealize.ShloMosaic.Adequacy
public import Idealize.ShloMosaic.Init
public import Idealize.ShloMosaic.Lib.Quiescent

@[expose] public section

noncomputable section

namespace Cert.Proof

open Idealize.ShloMosaic Idealize.SL.Sem

theorem quiescent_Kernel : quiescent_Kernel := fun m ρ _ =>
  (θ_run Cert.Kernel.defs _ _).mono (fun r h => ⟨Cert.Kernel.Branches.unchanged m r h.1, h.2⟩)
    (Cert.Kernel.Branches.run_main (F := Bits) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2.2.2.2.2.2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2.2.2.2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2.2.2.2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2.2.2, sem_eq_zero_of_no_sems (by decide) r.2⟩)
    (Cert.Reference8Ideal.Value.run (F := Ideal) m ρ)

theorem quiescent_Reference9Ideal : quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

theorem quiescent_Reference10Ideal : quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem quiescent_Reference11Ideal : quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem claim : Cert.Claim := ⟨Cert.Kernel.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  quiescent_Kernel, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, fun m ρ _ => Cert.Kernel4.Gen.frame m ρ, fun m ρ _ => Cert.Kernel4Ideal.Gen.frame m ρ, quiescent_Reference4Ideal, fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal, fun m ρ _ => Cert.Kernel7.Gen.frame m ρ, fun m ρ _ => Cert.Kernel7Ideal.Gen.frame m ρ, quiescent_Reference7Ideal, fun m ρ _ => Cert.Kernel8.Gen.frame m ρ, fun m ρ _ => Cert.Kernel8Ideal.Gen.frame m ρ, quiescent_Reference8Ideal, fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  (trivial : preserves_Kernel2_Kernel2Ideal), grad_w_in, (trivial : preserves_Kernel3_Kernel3Ideal), grad_w_out, (trivial : preserves_Kernel4_Kernel4Ideal), head, (trivial : preserves_Kernel5_Kernel5Ideal), inproj,
  (trivial : preserves_Kernel6_Kernel6Ideal), adam_w_in, (trivial : preserves_Kernel7_Kernel7Ideal), adam_w_out, (trivial : preserves_Kernel8_Kernel8Ideal), adam_w_pe, (trivial : preserves_Kernel9_Kernel9Ideal), adam_conv_w,
  (trivial : preserves_Kernel10_Kernel10Ideal), inproj_fwd,
  (trivial : preserves_Kernel11_Kernel11Ideal), pack_small⟩

end Cert.Proof

end
